-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2))).1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2))).2.1 = (fun _ => 1#1)
    ∧ (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2))).2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2))).1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2))).2.1 = (fun _ => 1#1)
    ∧ (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2))).2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def preserves_Kernel_KernelIdeal : Prop :=
  IdealRules.named_const.Statement Cert.KernelIdeal.κ "no_weight" .f32 0xC2B00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v2)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v2) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v4) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)) →
    ∃ (v0 : (c : Dev Cert.KernelFfnIdeal.nD) → Buf (Elt Ideal) ((c.tc : Thread Cert.KernelFfnIdeal.nD Cert.KernelFfnIdeal.τ).loc Cert.KernelFfnIdeal.main_v3_0)) (v1 : (c : Dev Cert.KernelFfnIdeal.nD) → Buf (Elt Ideal) ((c.tc : Thread Cert.KernelFfnIdeal.nD Cert.KernelFfnIdeal.τ).loc Cert.KernelFfnIdeal.main_v3_1)) (v2 : (c : Dev Cert.KernelFfnIdeal.nD) → Buf (Elt Ideal) ((c.tc : Thread Cert.KernelFfnIdeal.nD Cert.KernelFfnIdeal.τ).loc Cert.KernelFfnIdeal.main_v3_2)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v3_0) = v0 c
          ∧ r.2.mem ((c.tc : Thread Cert.KernelFfnIdeal.nD Cert.KernelFfnIdeal.τ).loc Cert.KernelFfnIdeal.main_v3_1) = v1 c
          ∧ r.2.mem ((c.tc : Thread Cert.KernelFfnIdeal.nD Cert.KernelFfnIdeal.τ).loc Cert.KernelFfnIdeal.main_v3_2) = v2 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v12) = v0 c
          ∧ r.2.mem ((c.tc : Thread Cert.ReferenceFfnIdeal.nD Cert.ReferenceFfnIdeal.τ).loc Cert.ReferenceFfnIdeal.main_v13) = v1 c
          ∧ r.2.mem ((c.tc : Thread Cert.ReferenceFfnIdeal.nD Cert.ReferenceFfnIdeal.τ).loc Cert.ReferenceFfnIdeal.main_v14) = v2 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v3_0)) (v1 : (c : Dev Cert.KernelUpIdeal.nD) → Buf (Elt Ideal) ((c.tc : Thread Cert.KernelUpIdeal.nD Cert.KernelUpIdeal.τ).loc Cert.KernelUpIdeal.main_v3_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v3_0) = v0 c
          ∧ r.2.mem ((c.tc : Thread Cert.KernelUpIdeal.nD Cert.KernelUpIdeal.τ).loc Cert.KernelUpIdeal.main_v3_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v14) = v0 c
          ∧ r.2.mem ((c.tc : Thread Cert.ReferenceUpIdeal.nD Cert.ReferenceUpIdeal.τ).loc Cert.ReferenceUpIdeal.main_v15) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v3_0)) (v1 : (c : Dev Cert.KernelInIdeal.nD) → Buf (Elt Ideal) ((c.tc : Thread Cert.KernelInIdeal.nD Cert.KernelInIdeal.τ).loc Cert.KernelInIdeal.main_v3_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v3_0) = v0 c
          ∧ r.2.mem ((c.tc : Thread Cert.KernelInIdeal.nD Cert.KernelInIdeal.τ).loc Cert.KernelInIdeal.main_v3_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_v15) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)) →
    ∃ (v0 : (c : Dev Cert.KernelFwdIdeal.nD) → Buf (Elt Ideal) ((c.tc : Thread Cert.KernelFwdIdeal.nD Cert.KernelFwdIdeal.τ).loc Cert.KernelFwdIdeal.main_v3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v3) = v0 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v5) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2))

def Claim : Prop :=
  ∃ (hKernel : Cert.Kernel.Facts) (hKernelIdeal : Cert.KernelIdeal.Facts) (hReferenceIdeal : Cert.ReferenceIdeal.Facts) (hKernelDw : Cert.KernelDw.Facts) (hKernelDwIdeal : Cert.KernelDwIdeal.Facts) (hReferenceDwIdeal : Cert.ReferenceDwIdeal.Facts) (hKernelDown : Cert.KernelDown.Facts) (hKernelDownIdeal : Cert.KernelDownIdeal.Facts) (hReferenceDownIdeal : Cert.ReferenceDownIdeal.Facts) (hKernelFfn : Cert.KernelFfn.Facts) (hKernelFfnIdeal : Cert.KernelFfnIdeal.Facts) (hReferenceFfnIdeal : Cert.ReferenceFfnIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelFwd : Cert.KernelFwd.Facts) (hKernelFwdIdeal : Cert.KernelFwdIdeal.Facts) (hReferenceFwdIdeal : Cert.ReferenceFwdIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDw_KernelDwIdeal
    ∧ algebraic_KernelDwIdeal_ReferenceDwIdeal (hKernelDwIdeal := hKernelDwIdeal) (hReferenceDwIdeal := hReferenceDwIdeal)
    ∧ preserves_KernelDown_KernelDownIdeal
    ∧ algebraic_KernelDownIdeal_ReferenceDownIdeal (hKernelDownIdeal := hKernelDownIdeal) (hReferenceDownIdeal := hReferenceDownIdeal)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelUp_KernelUpIdeal
    ∧ algebraic_KernelUpIdeal_ReferenceUpIdeal (hKernelUpIdeal := hKernelUpIdeal) (hReferenceUpIdeal := hReferenceUpIdeal)
    ∧ preserves_KernelIn_KernelInIdeal
    ∧ algebraic_KernelInIdeal_ReferenceInIdeal (hKernelInIdeal := hKernelInIdeal) (hReferenceInIdeal := hReferenceInIdeal)
    ∧ preserves_KernelFwd_KernelFwdIdeal
    ∧ algebraic_KernelFwdIdeal_ReferenceFwdIdeal (hKernelFwdIdeal := hKernelFwdIdeal) (hReferenceFwdIdeal := hReferenceFwdIdeal)
-- ==== Pre_finite.lean ====
abbrev S8x8192x64 : Shape := ⟨3, ![8, 8192, 64]⟩
abbrev S_ : Shape := ⟨0, ![]⟩

class Facts : Prop where
  bcast_S_S8x8192x64 : S_.BroadcastsInDim S8x8192x64 (![] : Fin 0 → Fin S8x8192x64.rank)

variable [Facts]

def fn {F : FTy → Type} [FloatOps F] (main_arg0 : FVec F S8x8192x64 .f32) (main_arg1 : FVec F S8x8192x64 .f32) (main_arg2 : FVec F S8x8192x64 .f32) (main_arg3 : FVec F S8x8192x64 .f32) : IVec S8x8192x64 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_v3 : FVec F S8x8192x64 .f32 := Host.absf main_arg1
  let main_cst_0 : FVec F S_ .f32 := constant S_ .f32 0x7F800000#32
  let main_v4 : FVec F S8x8192x64 .f32 := broadcastInDim S8x8192x64 ![] bcast_S_S8x8192x64 main_cst_0
  let main_v5 : IVec S8x8192x64 1 := cmpf .olt main_v3 main_v4
  let main_v6 : IVec S8x8192x64 1 := andi main_v2 main_v5
  let main_v7 : FVec F S8x8192x64 .f32 := Host.absf main_arg2
  let main_cst_1 : FVec F S_ .f32 := constant S_ .f32 0x7F800000#32
  let main_v8 : FVec F S8x8192x64 .f32 := broadcastInDim S8x8192x64 ![] bcast_S_S8x8192x64 main_cst_1
  let main_v9 : IVec S8x8192x64 1 := cmpf .olt main_v7 main_v8
  let main_v10 : IVec S8x8192x64 1 := andi main_v6 main_v9
  let main_v11 : FVec F S8x8192x64 .f32 := Host.absf main_arg3
  let main_cst_2 : FVec F S_ .f32 := constant S_ .f32 0x7F800000#32
  let main_v12 : FVec F S8x8192x64 .f32 := broadcastInDim S8x8192x64 ![] bcast_S_S8x8192x64 main_cst_2
  let main_v13 : IVec S8x8192x64 1 := cmpf .olt main_v11 main_v12
  let main_v14 : IVec S8x8192x64 1 := andi main_v10 main_v13
  main_v14
-- ==== Pre_finite_ffn.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bcast_S_S8192x1024 : S_.BroadcastsInDim S8192x1024 (![] : Fin 0 → Fin S8192x1024.rank)
  bcast_S_S8192x2816 : S_.BroadcastsInDim S8192x2816 (![] : Fin 0 → Fin S8192x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x5632 .f32) (main_arg2 : FVec F S2816x1024 .f32) : IVec S8192x1024 1 × IVec S8192x2816 1 × IVec S2816x1024 1 :=
  let main_v0 : FVec F S8192x2816 .f32 := (extractStridedSlice S8192x2816 ![0, 2816] · slices_S8192x5632_S8192x2816_0_2816) main_arg1
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x2816 .f32 := Host.absf main_v0
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_v7 : FVec F S2816x1024 .f32 := Host.absf main_arg2
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  (main_v3, main_v6, main_v9)
-- ==== Kernel.lean ====
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x64x128 : Shape := ⟨4, ![8, 8192, 64, 128]⟩
abbrev S8x64x128x64 : Shape := ⟨4, ![8, 64, 128, 64]⟩
abbrev S8x64x64x128 : Shape := ⟨4, ![8, 64, 64, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S8x64x8192 : Shape := ⟨3, ![8, 64, 8192]⟩
abbrev S4x64x64x128 : Shape := ⟨4, ![4, 64, 64, 128]⟩
abbrev S4x64x128 : Shape := ⟨3, ![4, 64, 128]⟩
abbrev S4x1x64x128 : Shape := ⟨4, ![4, 1, 64, 128]⟩
abbrev S1x64x128 : Shape := ⟨3, ![1, 64, 128]⟩
abbrev S64x128 : Shape := ⟨2, ![64, 128]⟩
abbrev S1x1x64x128 : Shape := ⟨4, ![1, 1, 64, 128]⟩
abbrev S64x1 : Shape := ⟨2, ![64, 1]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S1x1x8x128 : Shape := ⟨4, ![1, 1, 8, 128]⟩
abbrev S8x128 : Shape := ⟨2, ![8, 128]⟩

abbrev nBuf : Space → Nat
  | .hbm => 81
  | .vmem => 18
  | .smem => 0
  | _ => 0

abbrev bufTy : (tb : Table) → Fin (tcTables nBuf tb) → BufTy
  | .hbm, ⟨0, _⟩ => ⟨S8x8192x64, .f32⟩
  | .hbm, ⟨1, _⟩ => ⟨S8x8192x64, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8x8192x8192, .f32⟩
  | .hbm, ⟨15, _⟩ => ⟨S8x8192x8192, .f32⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S_, .f32⟩
  | .hbm, ⟨33, _⟩ => ⟨S8x8192x8192, .i1⟩
  | .hbm, ⟨34, _⟩ => ⟨S8x8192x8192, .f32⟩
  | .hbm, ⟨35, _⟩ => ⟨S8x8192x8192, .f32⟩
  | .hbm, ⟨36, _⟩ => ⟨S8x8192x64x128, .f32⟩
  | .hbm, ⟨37, _⟩ => ⟨S_, .f32⟩
  | .hbm, ⟨38, _⟩ => ⟨S8x8192x64, .f32⟩
  | .hbm, ⟨39, _⟩ => ⟨S_, .f32⟩
  | .hbm, ⟨40, _⟩ => ⟨S_, .f32⟩
  | .hbm, ⟨41, _⟩ => ⟨S8x8192x64, .f32⟩
  | .hbm, ⟨42, _⟩ => ⟨S8x8192x64, .f32⟩
  | .hbm, ⟨43, _⟩ => ⟨S8x64x128x64, .f32⟩
  | .hbm, ⟨44, _⟩ => ⟨S8x64x64x128, .f32⟩
  | .hbm, ⟨45, _⟩ => ⟨S128, .i32⟩
  | .hbm, ⟨46, _⟩ => ⟨S1x128, .i32⟩
  | .hbm, ⟨47, _⟩ => ⟨S128x1, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .f32⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S128x128, .bf16⟩
  | .hbm, ⟨57, _⟩ => ⟨S1x128, .i32⟩
  | .hbm, ⟨58, _⟩ => ⟨S128x1, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S_, .f32⟩
  | .hbm, ⟨63, _⟩ => ⟨S_, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x128, .bf16⟩
  | .hbm, ⟨68, _⟩ => ⟨S8x8192x64, .bf16⟩
  | .hbm, ⟨69, _⟩ => ⟨S8x64x128x64, .bf16⟩
  | .hbm, ⟨70, _⟩ => ⟨S8x64x64x128, .bf16⟩
  | .hbm, ⟨71, _⟩ => ⟨S8x8192x64, .bf16⟩
  | .hbm, ⟨72, _⟩ => ⟨S8x64x128x64, .bf16⟩
  | .hbm, ⟨73, _⟩ => ⟨S8x64x64x128, .bf16⟩
  | .hbm, ⟨74, _⟩ => ⟨S8x8192x64, .bf16⟩
  | .hbm, ⟨75, _⟩ => ⟨S8x64x8192, .bf16⟩
  | .hbm, ⟨76, _⟩ => ⟨S8x8192x64, .bf16⟩
  | .hbm, ⟨77, _⟩ => ⟨S8x64x8192, .bf16⟩
  | .hbm, ⟨78, _⟩ => ⟨S8x64x8192, .f32⟩
  | .hbm, ⟨79, _⟩ => ⟨S8x64x64x128, .f32⟩
  | .hbm, ⟨80, _⟩ => ⟨S8x64x64x128, .f32⟩
  | .local _ .vmem, ⟨0, _⟩ => ⟨S4x64x64x128, .bf16⟩
  | .local _ .vmem, ⟨1, _⟩ => ⟨S4x64x64x128, .bf16⟩
  | .local _ .vmem, ⟨2, _⟩ => ⟨S4x64x64x128, .bf16⟩
  | .local _ .vmem, ⟨3, _⟩ => ⟨S4x64x64x128, .bf16⟩
  | .local _ .vmem, ⟨4, _⟩ => ⟨S4x64x128, .bf16⟩
  | .local _ .vmem, ⟨5, _⟩ => ⟨S4x64x128, .bf16⟩
  | .local _ .vmem, ⟨6, _⟩ => ⟨S4x64x128, .bf16⟩
  | .local _ .vmem, ⟨7, _⟩ => ⟨S4x64x128, .bf16⟩
  | .local _ .vmem, ⟨8, _⟩ => ⟨S4x1x64x128, .f32⟩
  | .local _ .vmem, ⟨9, _⟩ => ⟨S4x1x64x128, .f32⟩
  | .local _ .vmem, ⟨10, _⟩ => ⟨S128x128, .bf16⟩
  | .local _ .vmem, ⟨11, _⟩ => ⟨S128x128, .bf16⟩
  | .local _ .vmem, ⟨12, _⟩ => ⟨S4x64x128, .f32⟩
  | .local _ .vmem, ⟨13, _⟩ => ⟨S4x64x128, .f32⟩
  | .local _ .vmem, ⟨14, _⟩ => ⟨S4x64x64x128, .f32⟩
  | .local _ .vmem, ⟨15, _⟩ => ⟨S4x64x64x128, .f32⟩
  | .local _ .vmem, ⟨16, _⟩ => ⟨S4x64x64x128, .f32⟩
  | .local _ .vmem, ⟨17, _⟩ => ⟨S4x64x64x128, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v10 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_call2_cst : Ref sig .tc := ⟨.hbm, 39, rfl⟩
abbrev main_call2_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_cst_3 : Ref sig .tc := ⟨.hbm, 52, rfl⟩
abbrev main_call3_v0 : Ref sig .tc := ⟨.hbm, 53, rfl⟩
abbrev main_call3_v1 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_cst_5 : Ref sig .tc := ⟨.hbm, 63, rfl⟩
abbrev main_call4_v0 : Ref sig .tc := ⟨.hbm, 64, rfl⟩
abbrev main_call4_v1 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43_0 : Ref sig .tc := ⟨.hbm, 78, rfl⟩
abbrev main_v43_1 : Ref sig .tc := ⟨.hbm, 79, rfl⟩
abbrev main_v43_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 64], ![false, false]⟩

@[reducible] def k0_t1_loop (i : grid0.Coords) (v42 : BitVec 32) : Scf.Loop 32 :=
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_48 : BitVec 32 := 1#32
  ⟨v47, v57, c1_i32_48⟩

def k0_off1 (i : grid0.Coords) (v42 : BitVec 32) (k0_t1 : Fin (k0_t1_loop i v42).trips) : Fin 4 → Nat :=
  let c0_63 : Index := 0#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let v81 : Index := Scalar.indexCast arg12
  let c0_64 : Index := 0#32
  let c0_65 : Index := 0#32
  ![0, v81.toNat, 0, 0]
def k0_off2 (i : grid0.Coords) (v42 : BitVec 32) (k0_t1 : Fin (k0_t1_loop i v42).trips) : Fin 4 → Nat :=
  let c1_66 : Index := 1#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let v84 : Index := Scalar.indexCast arg12
  let c0_67 : Index := 0#32
  let c0_68 : Index := 0#32
  ![1, v84.toNat, 0, 0]
def k0_off3 (i : grid0.Coords) (v42 : BitVec 32) (k0_t1 : Fin (k0_t1_loop i v42).trips) : Fin 4 → Nat :=
  let c2_69 : Index := 2#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let v87 : Index := Scalar.indexCast arg12
  let c0_70 : Index := 0#32
  let c0_71 : Index := 0#32
  ![2, v87.toNat, 0, 0]
def k0_off4 (i : grid0.Coords) (v42 : BitVec 32) (k0_t1 : Fin (k0_t1_loop i v42).trips) : Fin 4 → Nat :=
  let c3_72 : Index := 3#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let v90 : Index := Scalar.indexCast arg12
  let c0_73 : Index := 0#32
  let c0_74 : Index := 0#32
  ![3, v90.toNat, 0, 0]
def k0_mult1 (i : grid0.Coords) (v42 : BitVec 32) (k0_t1 : Fin (k0_t1_loop i v42).trips) : BitVec 32 :=
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_121 : BitVec 32 := 0#32
  let v197 : BitVec 1 := Scalar.cmpi .sgt arg12 c0_i32_121
  let v198 : BitVec 32 := Scalar.extui v197
  let c0_i32_122 : BitVec 32 := 0#32
  let v199 : BitVec 1 := Scalar.cmpi .slt arg12 c0_i32_122
  let v200 : BitVec 32 := Scalar.extui v199
  let v201 : BitVec 32 := Scalar.subi v198 v200
  let c8_i32 : BitVec 32 := 8#32
  let c0_i32_123 : BitVec 32 := 0#32
  let v202 : BitVec 1 := Scalar.cmpi .sgt c8_i32 c0_i32_123
  let v203 : BitVec 32 := Scalar.extui v202
  let c0_i32_124 : BitVec 32 := 0#32
  let v204 : BitVec 1 := Scalar.cmpi .slt c8_i32 c0_i32_124
  let v205 : BitVec 32 := Scalar.extui v204
  let v206 : BitVec 32 := Scalar.subi v203 v205
  let v207 : BitVec 1 := Scalar.cmpi .ne v201 v206
  let v208 : BitVec 32 := Scalar.remsi arg12 c8_i32
  let c0_i32_125 : BitVec 32 := 0#32
  let v209 : BitVec 1 := Scalar.cmpi .ne v208 c0_i32_125
  let v210 : BitVec 1 := Scalar.andi v207 v209
  let v196 : BitVec 32 := Scalar.divsi arg12 c8_i32
  let c1_i32_126 : BitVec 32 := 1#32
  let v211 : BitVec 32 := Scalar.subi v196 c1_i32_126
  let v212 : BitVec 32 := Scalar.select v210 v211 v196
  let c8_i32_127 : BitVec 32 := 8#32
  let v213 : BitVec 32 := Scalar.muli v212 c8_i32_127
  v213
def k0_off5 (i : grid0.Coords) (v42 : BitVec 32) (k0_t1 : Fin (k0_t1_loop i v42).trips) : Fin 4 → Nat :=
  let c0_128 : Index := 0#32
  let c0_129 : Index := 0#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_121 : BitVec 32 := 0#32
  let v197 : BitVec 1 := Scalar.cmpi .sgt arg12 c0_i32_121
  let v198 : BitVec 32 := Scalar.extui v197
  let c0_i32_122 : BitVec 32 := 0#32
  let v199 : BitVec 1 := Scalar.cmpi .slt arg12 c0_i32_122
  let v200 : BitVec 32 := Scalar.extui v199
  let v201 : BitVec 32 := Scalar.subi v198 v200
  let c8_i32 : BitVec 32 := 8#32
  let c0_i32_123 : BitVec 32 := 0#32
  let v202 : BitVec 1 := Scalar.cmpi .sgt c8_i32 c0_i32_123
  let v203 : BitVec 32 := Scalar.extui v202
  let c0_i32_124 : BitVec 32 := 0#32
  let v204 : BitVec 1 := Scalar.cmpi .slt c8_i32 c0_i32_124
  let v205 : BitVec 32 := Scalar.extui v204
  let v206 : BitVec 32 := Scalar.subi v203 v205
  let v207 : BitVec 1 := Scalar.cmpi .ne v201 v206
  let v208 : BitVec 32 := Scalar.remsi arg12 c8_i32
  let c0_i32_125 : BitVec 32 := 0#32
  let v209 : BitVec 1 := Scalar.cmpi .ne v208 c0_i32_125
  let v210 : BitVec 1 := Scalar.andi v207 v209
  let v196 : BitVec 32 := Scalar.divsi arg12 c8_i32
  let c1_i32_126 : BitVec 32 := 1#32
  let v211 : BitVec 32 := Scalar.subi v196 c1_i32_126
  let v212 : BitVec 32 := Scalar.select v210 v211 v196
  let c8_i32_127 : BitVec 32 := 8#32
  let v213 : BitVec 32 := Scalar.muli v212 c8_i32_127
  let v214 : BitVec 32 := v213
  let v215 : Index := Scalar.indexCast v214
  let c0_130 : Index := 0#32
  ![0, 0, v215.toNat, 0]
def k0_mult2 (i : grid0.Coords) (v42 : BitVec 32) (k0_t1 : Fin (k0_t1_loop i v42).trips) : BitVec 32 :=
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_135 : BitVec 32 := 0#32
  let v233 : BitVec 1 := Scalar.cmpi .sgt arg12 c0_i32_135
  let v234 : BitVec 32 := Scalar.extui v233
  let c0_i32_136 : BitVec 32 := 0#32
  let v235 : BitVec 1 := Scalar.cmpi .slt arg12 c0_i32_136
  let v236 : BitVec 32 := Scalar.extui v235
  let v237 : BitVec 32 := Scalar.subi v234 v236
  let c8_i32_134 : BitVec 32 := 8#32
  let c0_i32_137 : BitVec 32 := 0#32
  let v238 : BitVec 1 := Scalar.cmpi .sgt c8_i32_134 c0_i32_137
  let v239 : BitVec 32 := Scalar.extui v238
  let c0_i32_138 : BitVec 32 := 0#32
  let v240 : BitVec 1 := Scalar.cmpi .slt c8_i32_134 c0_i32_138
  let v241 : BitVec 32 := Scalar.extui v240
  let v242 : BitVec 32 := Scalar.subi v239 v241
  let v243 : BitVec 1 := Scalar.cmpi .ne v237 v242
  let v244 : BitVec 32 := Scalar.remsi arg12 c8_i32_134
  let c0_i32_139 : BitVec 32 := 0#32
  let v245 : BitVec 1 := Scalar.cmpi .ne v244 c0_i32_139
  let v246 : BitVec 1 := Scalar.andi v243 v245
  let v232 : BitVec 32 := Scalar.divsi arg12 c8_i32_134
  let c1_i32_140 : BitVec 32 := 1#32
  let v247 : BitVec 32 := Scalar.subi v232 c1_i32_140
  let v248 : BitVec 32 := Scalar.select v246 v247 v232
  let c8_i32_141 : BitVec 32 := 8#32
  let v249 : BitVec 32 := Scalar.muli v248 c8_i32_141
  v249
def k0_off6 (i : grid0.Coords) (v42 : BitVec 32) (k0_t1 : Fin (k0_t1_loop i v42).trips) : Fin 4 → Nat :=
  let c1_142 : Index := 1#32
  let c0_143 : Index := 0#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_135 : BitVec 32 := 0#32
  let v233 : BitVec 1 := Scalar.cmpi .sgt arg12 c0_i32_135
  let v234 : BitVec 32 := Scalar.extui v233
  let c0_i32_136 : BitVec 32 := 0#32
  let v235 : BitVec 1 := Scalar.cmpi .slt arg12 c0_i32_136
  let v236 : BitVec 32 := Scalar.extui v235
  let v237 : BitVec 32 := Scalar.subi v234 v236
  let c8_i32_134 : BitVec 32 := 8#32
  let c0_i32_137 : BitVec 32 := 0#32
  let v238 : BitVec 1 := Scalar.cmpi .sgt c8_i32_134 c0_i32_137
  let v239 : BitVec 32 := Scalar.extui v238
  let c0_i32_138 : BitVec 32 := 0#32
  let v240 : BitVec 1 := Scalar.cmpi .slt c8_i32_134 c0_i32_138
  let v241 : BitVec 32 := Scalar.extui v240
  let v242 : BitVec 32 := Scalar.subi v239 v241
  let v243 : BitVec 1 := Scalar.cmpi .ne v237 v242
  let v244 : BitVec 32 := Scalar.remsi arg12 c8_i32_134
  let c0_i32_139 : BitVec 32 := 0#32
  let v245 : BitVec 1 := Scalar.cmpi .ne v244 c0_i32_139
  let v246 : BitVec 1 := Scalar.andi v243 v245
  let v232 : BitVec 32 := Scalar.divsi arg12 c8_i32_134
  let c1_i32_140 : BitVec 32 := 1#32
  let v247 : BitVec 32 := Scalar.subi v232 c1_i32_140
  let v248 : BitVec 32 := Scalar.select v246 v247 v232
  let c8_i32_141 : BitVec 32 := 8#32
  let v249 : BitVec 32 := Scalar.muli v248 c8_i32_141
  let v250 : BitVec 32 := v249
  let v251 : Index := Scalar.indexCast v250
  let c0_144 : Index := 0#32
  ![1, 0, v251.toNat, 0]
def k0_mult3 (i : grid0.Coords) (v42 : BitVec 32) (k0_t1 : Fin (k0_t1_loop i v42).trips) : BitVec 32 :=
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_149 : BitVec 32 := 0#32
  let v269 : BitVec 1 := Scalar.cmpi .sgt arg12 c0_i32_149
  let v270 : BitVec 32 := Scalar.extui v269
  let c0_i32_150 : BitVec 32 := 0#32
  let v271 : BitVec 1 := Scalar.cmpi .slt arg12 c0_i32_150
  let v272 : BitVec 32 := Scalar.extui v271
  let v273 : BitVec 32 := Scalar.subi v270 v272
  let c8_i32_148 : BitVec 32 := 8#32
  let c0_i32_151 : BitVec 32 := 0#32
  let v274 : BitVec 1 := Scalar.cmpi .sgt c8_i32_148 c0_i32_151
  let v275 : BitVec 32 := Scalar.extui v274
  let c0_i32_152 : BitVec 32 := 0#32
  let v276 : BitVec 1 := Scalar.cmpi .slt c8_i32_148 c0_i32_152
  let v277 : BitVec 32 := Scalar.extui v276
  let v278 : BitVec 32 := Scalar.subi v275 v277
  let v279 : BitVec 1 := Scalar.cmpi .ne v273 v278
  let v280 : BitVec 32 := Scalar.remsi arg12 c8_i32_148
  let c0_i32_153 : BitVec 32 := 0#32
  let v281 : BitVec 1 := Scalar.cmpi .ne v280 c0_i32_153
  let v282 : BitVec 1 := Scalar.andi v279 v281
  let v268 : BitVec 32 := Scalar.divsi arg12 c8_i32_148
  let c1_i32_154 : BitVec 32 := 1#32
  let v283 : BitVec 32 := Scalar.subi v268 c1_i32_154
  let v284 : BitVec 32 := Scalar.select v282 v283 v268
  let c8_i32_155 : BitVec 32 := 8#32
  let v285 : BitVec 32 := Scalar.muli v284 c8_i32_155
  v285
def k0_off7 (i : grid0.Coords) (v42 : BitVec 32) (k0_t1 : Fin (k0_t1_loop i v42).trips) : Fin 4 → Nat :=
  let c2_156 : Index := 2#32
  let c0_157 : Index := 0#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_149 : BitVec 32 := 0#32
  let v269 : BitVec 1 := Scalar.cmpi .sgt arg12 c0_i32_149
  let v270 : BitVec 32 := Scalar.extui v269
  let c0_i32_150 : BitVec 32 := 0#32
  let v271 : BitVec 1 := Scalar.cmpi .slt arg12 c0_i32_150
  let v272 : BitVec 32 := Scalar.extui v271
  let v273 : BitVec 32 := Scalar.subi v270 v272
  let c8_i32_148 : BitVec 32 := 8#32
  let c0_i32_151 : BitVec 32 := 0#32
  let v274 : BitVec 1 := Scalar.cmpi .sgt c8_i32_148 c0_i32_151
  let v275 : BitVec 32 := Scalar.extui v274
  let c0_i32_152 : BitVec 32 := 0#32
  let v276 : BitVec 1 := Scalar.cmpi .slt c8_i32_148 c0_i32_152
  let v277 : BitVec 32 := Scalar.extui v276
  let v278 : BitVec 32 := Scalar.subi v275 v277
  let v279 : BitVec 1 := Scalar.cmpi .ne v273 v278
  let v280 : BitVec 32 := Scalar.remsi arg12 c8_i32_148
  let c0_i32_153 : BitVec 32 := 0#32
  let v281 : BitVec 1 := Scalar.cmpi .ne v280 c0_i32_153
  let v282 : BitVec 1 := Scalar.andi v279 v281
  let v268 : BitVec 32 := Scalar.divsi arg12 c8_i32_148
  let c1_i32_154 : BitVec 32 := 1#32
  let v283 : BitVec 32 := Scalar.subi v268 c1_i32_154
  let v284 : BitVec 32 := Scalar.select v282 v283 v268
  let c8_i32_155 : BitVec 32 := 8#32
  let v285 : BitVec 32 := Scalar.muli v284 c8_i32_155
  let v286 : BitVec 32 := v285
  let v287 : Index := Scalar.indexCast v286
  let c0_158 : Index := 0#32
  ![2, 0, v287.toNat, 0]
def k0_mult4 (i : grid0.Coords) (v42 : BitVec 32) (k0_t1 : Fin (k0_t1_loop i v42).trips) : BitVec 32 :=
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_163 : BitVec 32 := 0#32
  let v305 : BitVec 1 := Scalar.cmpi .sgt arg12 c0_i32_163
  let v306 : BitVec 32 := Scalar.extui v305
  let c0_i32_164 : BitVec 32 := 0#32
  let v307 : BitVec 1 := Scalar.cmpi .slt arg12 c0_i32_164
  let v308 : BitVec 32 := Scalar.extui v307
  let v309 : BitVec 32 := Scalar.subi v306 v308
  let c8_i32_162 : BitVec 32 := 8#32
  let c0_i32_165 : BitVec 32 := 0#32
  let v310 : BitVec 1 := Scalar.cmpi .sgt c8_i32_162 c0_i32_165
  let v311 : BitVec 32 := Scalar.extui v310
  let c0_i32_166 : BitVec 32 := 0#32
  let v312 : BitVec 1 := Scalar.cmpi .slt c8_i32_162 c0_i32_166
  let v313 : BitVec 32 := Scalar.extui v312
  let v314 : BitVec 32 := Scalar.subi v311 v313
  let v315 : BitVec 1 := Scalar.cmpi .ne v309 v314
  let v316 : BitVec 32 := Scalar.remsi arg12 c8_i32_162
  let c0_i32_167 : BitVec 32 := 0#32
  let v317 : BitVec 1 := Scalar.cmpi .ne v316 c0_i32_167
  let v318 : BitVec 1 := Scalar.andi v315 v317
  let v304 : BitVec 32 := Scalar.divsi arg12 c8_i32_162
  let c1_i32_168 : BitVec 32 := 1#32
  let v319 : BitVec 32 := Scalar.subi v304 c1_i32_168
  let v320 : BitVec 32 := Scalar.select v318 v319 v304
  let c8_i32_169 : BitVec 32 := 8#32
  let v321 : BitVec 32 := Scalar.muli v320 c8_i32_169
  v321
def k0_off8 (i : grid0.Coords) (v42 : BitVec 32) (k0_t1 : Fin (k0_t1_loop i v42).trips) : Fin 4 → Nat :=
  let c3_170 : Index := 3#32
  let c0_171 : Index := 0#32
  let arg1 : BitVec 32 := BitVec.ofNat 32 (i 1).val
  let v47 : BitVec 32 := Scalar.subi arg1 v42
  let c1_i32_48 : BitVec 32 := 1#32
  let arg12 : BitVec 32 := Scf.iv v47 c1_i32_48 k0_t1
  let c0_i32_163 : BitVec 32 := 0#32
  let v305 : BitVec 1 := Scalar.cmpi .sgt arg12 c0_i32_163
  let v306 : BitVec 32 := Scalar.extui v305
  let c0_i32_164 : BitVec 32 := 0#32
  let v307 : BitVec 1 := Scalar.cmpi .slt arg12 c0_i32_164
  let v308 : BitVec 32 := Scalar.extui v307
  let v309 : BitVec 32 := Scalar.subi v306 v308
  let c8_i32_162 : BitVec 32 := 8#32
  let c0_i32_165 : BitVec 32 := 0#32
  let v310 : BitVec 1 := Scalar.cmpi .sgt c8_i32_162 c0_i32_165
  let v311 : BitVec 32 := Scalar.extui v310
  let c0_i32_166 : BitVec 32 := 0#32
  let v312 : BitVec 1 := Scalar.cmpi .slt c8_i32_162 c0_i32_166
  let v313 : BitVec 32 := Scalar.extui v312
  let v314 : BitVec 32 := Scalar.subi v311 v313
  let v315 : BitVec 1 := Scalar.cmpi .ne v309 v314
  let v316 : BitVec 32 := Scalar.remsi arg12 c8_i32_162
  let c0_i32_167 : BitVec 32 := 0#32
  let v317 : BitVec 1 := Scalar.cmpi .ne v316 c0_i32_167
  let v318 : BitVec 1 := Scalar.andi v315 v317
  let v304 : BitVec 32 := Scalar.divsi arg12 c8_i32_162
  let c1_i32_168 : BitVec 32 := 1#32
  let v319 : BitVec 32 := Scalar.subi v304 c1_i32_168
  let v320 : BitVec 32 := Scalar.select v318 v319 v304
  let c8_i32_169 : BitVec 32 := 8#32
  let v321 : BitVec 32 := Scalar.muli v320 c8_i32_169
  let v322 : BitVec 32 := v321
  let v323 : Index := Scalar.indexCast v322
  let c0_172 : Index := 0#32
  ![3, 0, v323.toNat, 0]
@[reducible] def k0_t2_loop (i : grid0.Coords) (v42 : BitVec 32) : Scf.Loop 32 :=
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let v54 : BitVec 32 := Scalar.addi v47 v53
  let c1_i32_49 : BitVec 32 := 1#32
  ⟨v57, v54, c1_i32_49⟩
def k0_off9 (i : grid0.Coords) (v42 : BitVec 32) (k0_t2 : Fin (k0_t2_loop i v42).trips) : Fin 4 → Nat :=
  let c0_63 : Index := 0#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let v81 : Index := Scalar.indexCast arg12
  let c0_64 : Index := 0#32
  let c0_65 : Index := 0#32
  ![0, v81.toNat, 0, 0]
def k0_off10 (i : grid0.Coords) (v42 : BitVec 32) (k0_t2 : Fin (k0_t2_loop i v42).trips) : Fin 4 → Nat :=
  let c1_66 : Index := 1#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let v84 : Index := Scalar.indexCast arg12
  let c0_67 : Index := 0#32
  let c0_68 : Index := 0#32
  ![1, v84.toNat, 0, 0]
def k0_off11 (i : grid0.Coords) (v42 : BitVec 32) (k0_t2 : Fin (k0_t2_loop i v42).trips) : Fin 4 → Nat :=
  let c2_69 : Index := 2#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let v87 : Index := Scalar.indexCast arg12
  let c0_70 : Index := 0#32
  let c0_71 : Index := 0#32
  ![2, v87.toNat, 0, 0]
def k0_off12 (i : grid0.Coords) (v42 : BitVec 32) (k0_t2 : Fin (k0_t2_loop i v42).trips) : Fin 4 → Nat :=
  let c3_72 : Index := 3#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let v90 : Index := Scalar.indexCast arg12
  let c0_73 : Index := 0#32
  let c0_74 : Index := 0#32
  ![3, v90.toNat, 0, 0]
def k0_mult5 (i : grid0.Coords) (v42 : BitVec 32) (k0_t2 : Fin (k0_t2_loop i v42).trips) : BitVec 32 :=
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_121 : BitVec 32 := 0#32
  let v197 : BitVec 1 := Scalar.cmpi .sgt arg12 c0_i32_121
  let v198 : BitVec 32 := Scalar.extui v197
  let c0_i32_122 : BitVec 32 := 0#32
  let v199 : BitVec 1 := Scalar.cmpi .slt arg12 c0_i32_122
  let v200 : BitVec 32 := Scalar.extui v199
  let v201 : BitVec 32 := Scalar.subi v198 v200
  let c8_i32 : BitVec 32 := 8#32
  let c0_i32_123 : BitVec 32 := 0#32
  let v202 : BitVec 1 := Scalar.cmpi .sgt c8_i32 c0_i32_123
  let v203 : BitVec 32 := Scalar.extui v202
  let c0_i32_124 : BitVec 32 := 0#32
  let v204 : BitVec 1 := Scalar.cmpi .slt c8_i32 c0_i32_124
  let v205 : BitVec 32 := Scalar.extui v204
  let v206 : BitVec 32 := Scalar.subi v203 v205
  let v207 : BitVec 1 := Scalar.cmpi .ne v201 v206
  let v208 : BitVec 32 := Scalar.remsi arg12 c8_i32
  let c0_i32_125 : BitVec 32 := 0#32
  let v209 : BitVec 1 := Scalar.cmpi .ne v208 c0_i32_125
  let v210 : BitVec 1 := Scalar.andi v207 v209
  let v196 : BitVec 32 := Scalar.divsi arg12 c8_i32
  let c1_i32_126 : BitVec 32 := 1#32
  let v211 : BitVec 32 := Scalar.subi v196 c1_i32_126
  let v212 : BitVec 32 := Scalar.select v210 v211 v196
  let c8_i32_127 : BitVec 32 := 8#32
  let v213 : BitVec 32 := Scalar.muli v212 c8_i32_127
  v213
def k0_off13 (i : grid0.Coords) (v42 : BitVec 32) (k0_t2 : Fin (k0_t2_loop i v42).trips) : Fin 4 → Nat :=
  let c0_128 : Index := 0#32
  let c0_129 : Index := 0#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_121 : BitVec 32 := 0#32
  let v197 : BitVec 1 := Scalar.cmpi .sgt arg12 c0_i32_121
  let v198 : BitVec 32 := Scalar.extui v197
  let c0_i32_122 : BitVec 32 := 0#32
  let v199 : BitVec 1 := Scalar.cmpi .slt arg12 c0_i32_122
  let v200 : BitVec 32 := Scalar.extui v199
  let v201 : BitVec 32 := Scalar.subi v198 v200
  let c8_i32 : BitVec 32 := 8#32
  let c0_i32_123 : BitVec 32 := 0#32
  let v202 : BitVec 1 := Scalar.cmpi .sgt c8_i32 c0_i32_123
  let v203 : BitVec 32 := Scalar.extui v202
  let c0_i32_124 : BitVec 32 := 0#32
  let v204 : BitVec 1 := Scalar.cmpi .slt c8_i32 c0_i32_124
  let v205 : BitVec 32 := Scalar.extui v204
  let v206 : BitVec 32 := Scalar.subi v203 v205
  let v207 : BitVec 1 := Scalar.cmpi .ne v201 v206
  let v208 : BitVec 32 := Scalar.remsi arg12 c8_i32
  let c0_i32_125 : BitVec 32 := 0#32
  let v209 : BitVec 1 := Scalar.cmpi .ne v208 c0_i32_125
  let v210 : BitVec 1 := Scalar.andi v207 v209
  let v196 : BitVec 32 := Scalar.divsi arg12 c8_i32
  let c1_i32_126 : BitVec 32 := 1#32
  let v211 : BitVec 32 := Scalar.subi v196 c1_i32_126
  let v212 : BitVec 32 := Scalar.select v210 v211 v196
  let c8_i32_127 : BitVec 32 := 8#32
  let v213 : BitVec 32 := Scalar.muli v212 c8_i32_127
  let v214 : BitVec 32 := v213
  let v215 : Index := Scalar.indexCast v214
  let c0_130 : Index := 0#32
  ![0, 0, v215.toNat, 0]
def k0_mult6 (i : grid0.Coords) (v42 : BitVec 32) (k0_t2 : Fin (k0_t2_loop i v42).trips) : BitVec 32 :=
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_135 : BitVec 32 := 0#32
  let v233 : BitVec 1 := Scalar.cmpi .sgt arg12 c0_i32_135
  let v234 : BitVec 32 := Scalar.extui v233
  let c0_i32_136 : BitVec 32 := 0#32
  let v235 : BitVec 1 := Scalar.cmpi .slt arg12 c0_i32_136
  let v236 : BitVec 32 := Scalar.extui v235
  let v237 : BitVec 32 := Scalar.subi v234 v236
  let c8_i32_134 : BitVec 32 := 8#32
  let c0_i32_137 : BitVec 32 := 0#32
  let v238 : BitVec 1 := Scalar.cmpi .sgt c8_i32_134 c0_i32_137
  let v239 : BitVec 32 := Scalar.extui v238
  let c0_i32_138 : BitVec 32 := 0#32
  let v240 : BitVec 1 := Scalar.cmpi .slt c8_i32_134 c0_i32_138
  let v241 : BitVec 32 := Scalar.extui v240
  let v242 : BitVec 32 := Scalar.subi v239 v241
  let v243 : BitVec 1 := Scalar.cmpi .ne v237 v242
  let v244 : BitVec 32 := Scalar.remsi arg12 c8_i32_134
  let c0_i32_139 : BitVec 32 := 0#32
  let v245 : BitVec 1 := Scalar.cmpi .ne v244 c0_i32_139
  let v246 : BitVec 1 := Scalar.andi v243 v245
  let v232 : BitVec 32 := Scalar.divsi arg12 c8_i32_134
  let c1_i32_140 : BitVec 32 := 1#32
  let v247 : BitVec 32 := Scalar.subi v232 c1_i32_140
  let v248 : BitVec 32 := Scalar.select v246 v247 v232
  let c8_i32_141 : BitVec 32 := 8#32
  let v249 : BitVec 32 := Scalar.muli v248 c8_i32_141
  v249
def k0_off14 (i : grid0.Coords) (v42 : BitVec 32) (k0_t2 : Fin (k0_t2_loop i v42).trips) : Fin 4 → Nat :=
  let c1_142 : Index := 1#32
  let c0_143 : Index := 0#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_135 : BitVec 32 := 0#32
  let v233 : BitVec 1 := Scalar.cmpi .sgt arg12 c0_i32_135
  let v234 : BitVec 32 := Scalar.extui v233
  let c0_i32_136 : BitVec 32 := 0#32
  let v235 : BitVec 1 := Scalar.cmpi .slt arg12 c0_i32_136
  let v236 : BitVec 32 := Scalar.extui v235
  let v237 : BitVec 32 := Scalar.subi v234 v236
  let c8_i32_134 : BitVec 32 := 8#32
  let c0_i32_137 : BitVec 32 := 0#32
  let v238 : BitVec 1 := Scalar.cmpi .sgt c8_i32_134 c0_i32_137
  let v239 : BitVec 32 := Scalar.extui v238
  let c0_i32_138 : BitVec 32 := 0#32
  let v240 : BitVec 1 := Scalar.cmpi .slt c8_i32_134 c0_i32_138
  let v241 : BitVec 32 := Scalar.extui v240
  let v242 : BitVec 32 := Scalar.subi v239 v241
  let v243 : BitVec 1 := Scalar.cmpi .ne v237 v242
  let v244 : BitVec 32 := Scalar.remsi arg12 c8_i32_134
  let c0_i32_139 : BitVec 32 := 0#32
  let v245 : BitVec 1 := Scalar.cmpi .ne v244 c0_i32_139
  let v246 : BitVec 1 := Scalar.andi v243 v245
  let v232 : BitVec 32 := Scalar.divsi arg12 c8_i32_134
  let c1_i32_140 : BitVec 32 := 1#32
  let v247 : BitVec 32 := Scalar.subi v232 c1_i32_140
  let v248 : BitVec 32 := Scalar.select v246 v247 v232
  let c8_i32_141 : BitVec 32 := 8#32
  let v249 : BitVec 32 := Scalar.muli v248 c8_i32_141
  let v250 : BitVec 32 := v249
  let v251 : Index := Scalar.indexCast v250
  let c0_144 : Index := 0#32
  ![1, 0, v251.toNat, 0]
def k0_mult7 (i : grid0.Coords) (v42 : BitVec 32) (k0_t2 : Fin (k0_t2_loop i v42).trips) : BitVec 32 :=
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_149 : BitVec 32 := 0#32
  let v269 : BitVec 1 := Scalar.cmpi .sgt arg12 c0_i32_149
  let v270 : BitVec 32 := Scalar.extui v269
  let c0_i32_150 : BitVec 32 := 0#32
  let v271 : BitVec 1 := Scalar.cmpi .slt arg12 c0_i32_150
  let v272 : BitVec 32 := Scalar.extui v271
  let v273 : BitVec 32 := Scalar.subi v270 v272
  let c8_i32_148 : BitVec 32 := 8#32
  let c0_i32_151 : BitVec 32 := 0#32
  let v274 : BitVec 1 := Scalar.cmpi .sgt c8_i32_148 c0_i32_151
  let v275 : BitVec 32 := Scalar.extui v274
  let c0_i32_152 : BitVec 32 := 0#32
  let v276 : BitVec 1 := Scalar.cmpi .slt c8_i32_148 c0_i32_152
  let v277 : BitVec 32 := Scalar.extui v276
  let v278 : BitVec 32 := Scalar.subi v275 v277
  let v279 : BitVec 1 := Scalar.cmpi .ne v273 v278
  let v280 : BitVec 32 := Scalar.remsi arg12 c8_i32_148
  let c0_i32_153 : BitVec 32 := 0#32
  let v281 : BitVec 1 := Scalar.cmpi .ne v280 c0_i32_153
  let v282 : BitVec 1 := Scalar.andi v279 v281
  let v268 : BitVec 32 := Scalar.divsi arg12 c8_i32_148
  let c1_i32_154 : BitVec 32 := 1#32
  let v283 : BitVec 32 := Scalar.subi v268 c1_i32_154
  let v284 : BitVec 32 := Scalar.select v282 v283 v268
  let c8_i32_155 : BitVec 32 := 8#32
  let v285 : BitVec 32 := Scalar.muli v284 c8_i32_155
  v285
def k0_off15 (i : grid0.Coords) (v42 : BitVec 32) (k0_t2 : Fin (k0_t2_loop i v42).trips) : Fin 4 → Nat :=
  let c2_156 : Index := 2#32
  let c0_157 : Index := 0#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_149 : BitVec 32 := 0#32
  let v269 : BitVec 1 := Scalar.cmpi .sgt arg12 c0_i32_149
  let v270 : BitVec 32 := Scalar.extui v269
  let c0_i32_150 : BitVec 32 := 0#32
  let v271 : BitVec 1 := Scalar.cmpi .slt arg12 c0_i32_150
  let v272 : BitVec 32 := Scalar.extui v271
  let v273 : BitVec 32 := Scalar.subi v270 v272
  let c8_i32_148 : BitVec 32 := 8#32
  let c0_i32_151 : BitVec 32 := 0#32
  let v274 : BitVec 1 := Scalar.cmpi .sgt c8_i32_148 c0_i32_151
  let v275 : BitVec 32 := Scalar.extui v274
  let c0_i32_152 : BitVec 32 := 0#32
  let v276 : BitVec 1 := Scalar.cmpi .slt c8_i32_148 c0_i32_152
  let v277 : BitVec 32 := Scalar.extui v276
  let v278 : BitVec 32 := Scalar.subi v275 v277
  let v279 : BitVec 1 := Scalar.cmpi .ne v273 v278
  let v280 : BitVec 32 := Scalar.remsi arg12 c8_i32_148
  let c0_i32_153 : BitVec 32 := 0#32
  let v281 : BitVec 1 := Scalar.cmpi .ne v280 c0_i32_153
  let v282 : BitVec 1 := Scalar.andi v279 v281
  let v268 : BitVec 32 := Scalar.divsi arg12 c8_i32_148
  let c1_i32_154 : BitVec 32 := 1#32
  let v283 : BitVec 32 := Scalar.subi v268 c1_i32_154
  let v284 : BitVec 32 := Scalar.select v282 v283 v268
  let c8_i32_155 : BitVec 32 := 8#32
  let v285 : BitVec 32 := Scalar.muli v284 c8_i32_155
  let v286 : BitVec 32 := v285
  let v287 : Index := Scalar.indexCast v286
  let c0_158 : Index := 0#32
  ![2, 0, v287.toNat, 0]
def k0_mult8 (i : grid0.Coords) (v42 : BitVec 32) (k0_t2 : Fin (k0_t2_loop i v42).trips) : BitVec 32 :=
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_163 : BitVec 32 := 0#32
  let v305 : BitVec 1 := Scalar.cmpi .sgt arg12 c0_i32_163
  let v306 : BitVec 32 := Scalar.extui v305
  let c0_i32_164 : BitVec 32 := 0#32
  let v307 : BitVec 1 := Scalar.cmpi .slt arg12 c0_i32_164
  let v308 : BitVec 32 := Scalar.extui v307
  let v309 : BitVec 32 := Scalar.subi v306 v308
  let c8_i32_162 : BitVec 32 := 8#32
  let c0_i32_165 : BitVec 32 := 0#32
  let v310 : BitVec 1 := Scalar.cmpi .sgt c8_i32_162 c0_i32_165
  let v311 : BitVec 32 := Scalar.extui v310
  let c0_i32_166 : BitVec 32 := 0#32
  let v312 : BitVec 1 := Scalar.cmpi .slt c8_i32_162 c0_i32_166
  let v313 : BitVec 32 := Scalar.extui v312
  let v314 : BitVec 32 := Scalar.subi v311 v313
  let v315 : BitVec 1 := Scalar.cmpi .ne v309 v314
  let v316 : BitVec 32 := Scalar.remsi arg12 c8_i32_162
  let c0_i32_167 : BitVec 32 := 0#32
  let v317 : BitVec 1 := Scalar.cmpi .ne v316 c0_i32_167
  let v318 : BitVec 1 := Scalar.andi v315 v317
  let v304 : BitVec 32 := Scalar.divsi arg12 c8_i32_162
  let c1_i32_168 : BitVec 32 := 1#32
  let v319 : BitVec 32 := Scalar.subi v304 c1_i32_168
  let v320 : BitVec 32 := Scalar.select v318 v319 v304
  let c8_i32_169 : BitVec 32 := 8#32
  let v321 : BitVec 32 := Scalar.muli v320 c8_i32_169
  v321
def k0_off16 (i : grid0.Coords) (v42 : BitVec 32) (k0_t2 : Fin (k0_t2_loop i v42).trips) : Fin 4 → Nat :=
  let c3_170 : Index := 3#32
  let c0_171 : Index := 0#32
  let arg1 : BitVec 32 := BitVec.ofNat 32 (i 1).val
  let v47 : BitVec 32 := Scalar.subi arg1 v42
  let c1_i32 : BitVec 32 := 1#32
  let v48 : BitVec 32 := Scalar.addi arg1 c1_i32
  let v53 : BitVec 32 := Scalar.subi v48 v47
  let c1_i32_47 : BitVec 32 := 1#32
  let v55 : BitVec 32 := Scalar.divsi v53 c1_i32_47
  let v56 : BitVec 32 := Scalar.muli v55 c1_i32_47
  let v57 : BitVec 32 := Scalar.addi v47 v56
  let c1_i32_49 : BitVec 32 := 1#32
  let arg12 : BitVec 32 := Scf.iv v57 c1_i32_49 k0_t2
  let c0_i32_163 : BitVec 32 := 0#32
  let v305 : BitVec 1 := Scalar.cmpi .sgt arg12 c0_i32_163
  let v306 : BitVec 32 := Scalar.extui v305
  let c0_i32_164 : BitVec 32 := 0#32
  let v307 : BitVec 1 := Scalar.cmpi .slt arg12 c0_i32_164
  let v308 : BitVec 32 := Scalar.extui v307
  let v309 : BitVec 32 := Scalar.subi v306 v308
  let c8_i32_162 : BitVec 32 := 8#32
  let c0_i32_165 : BitVec 32 := 0#32
  let v310 : BitVec 1 := Scalar.cmpi .sgt c8_i32_162 c0_i32_165
  let v311 : BitVec 32 := Scalar.extui v310
  let c0_i32_166 : BitVec 32 := 0#32
  let v312 : BitVec 1 := Scalar.cmpi .slt c8_i32_162 c0_i32_166
  let v313 : BitVec 32 := Scalar.extui v312
  let v314 : BitVec 32 := Scalar.subi v311 v313
  let v315 : BitVec 1 := Scalar.cmpi .ne v309 v314
  let v316 : BitVec 32 := Scalar.remsi arg12 c8_i32_162
  let c0_i32_167 : BitVec 32 := 0#32
  let v317 : BitVec 1 := Scalar.cmpi .ne v316 c0_i32_167
  let v318 : BitVec 1 := Scalar.andi v315 v317
  let v304 : BitVec 32 := Scalar.divsi arg12 c8_i32_162
  let c1_i32_168 : BitVec 32 := 1#32
  let v319 : BitVec 32 := Scalar.subi v304 c1_i32_168
  let v320 : BitVec 32 := Scalar.select v318 v319 v304
  let c8_i32_169 : BitVec 32 := 8#32
  let v321 : BitVec 32 := Scalar.muli v320 c8_i32_169
  let v322 : BitVec 32 := v321
  let v323 : Index := Scalar.indexCast v322
  let c0_172 : Index := 0#32
  ![3, 0, v323.toNat, 0]

def k0_chk1 (i : grid0.Coords) (v42 : BitVec 32) : Prop :=
  ((k0_t1_loop i v42).OK) ∧
  (∀ k0_t1 : Fin (k0_t1_loop i v42).trips, ∀ a, (k0_off1 i v42 k0_t1) a + S1x1x64x128.size a ≤ S4x64x64x128.size a) ∧
  (∀ k0_t1 : Fin (k0_t1_loop i v42).trips, ∀ a, (k0_off2 i v42 k0_t1) a + S1x1x64x128.size a ≤ S4x64x64x128.size a) ∧
  (∀ k0_t1 : Fin (k0_t1_loop i v42).trips, ∀ a, (k0_off3 i v42 k0_t1) a + S1x1x64x128.size a ≤ S4x64x64x128.size a) ∧
  (∀ k0_t1 : Fin (k0_t1_loop i v42).trips, ∀ a, (k0_off4 i v42 k0_t1) a + S1x1x64x128.size a ≤ S4x64x64x128.size a) ∧
  (∀ k0_t1 : Fin (k0_t1_loop i v42).trips, 8 ∣ (k0_mult1 i v42 k0_t1).toNat) ∧
  (∀ k0_t1 : Fin (k0_t1_loop i v42).trips, ∀ a, (k0_off5 i v42 k0_t1) a + S1x1x8x128.size a ≤ S4x1x64x128.size a) ∧
  (∀ k0_t1 : Fin (k0_t1_loop i v42).trips, 8 ∣ (k0_mult2 i v42 k0_t1).toNat) ∧
  (∀ k0_t1 : Fin (k0_t1_loop i v42).trips, ∀ a, (k0_off6 i v42 k0_t1) a + S1x1x8x128.size a ≤ S4x1x64x128.size a) ∧
  (∀ k0_t1 : Fin (k0_t1_loop i v42).trips, 8 ∣ (k0_mult3 i v42 k0_t1).toNat) ∧
  (∀ k0_t1 : Fin (k0_t1_loop i v42).trips, ∀ a, (k0_off7 i v42 k0_t1) a + S1x1x8x128.size a ≤ S4x1x64x128.size a) ∧
  (∀ k0_t1 : Fin (k0_t1_loop i v42).trips, 8 ∣ (k0_mult4 i v42 k0_t1).toNat) ∧
  (∀ k0_t1 : Fin (k0_t1_loop i v42).trips, ∀ a, (k0_off8 i v42 k0_t1) a + S1x1x8x128.size a ≤ S4x1x64x128.size a) ∧
  ((k0_t2_loop i v42).OK) ∧
  (∀ k0_t2 : Fin (k0_t2_loop i v42).trips, ∀ a, (k0_off9 i v42 k0_t2) a + S1x1x64x128.size a ≤ S4x64x64x128.size a) ∧
  (∀ k0_t2 : Fin (k0_t2_loop i v42).trips, ∀ a, (k0_off10 i v42 k0_t2) a + S1x1x64x128.size a ≤ S4x64x64x128.size a) ∧
  (∀ k0_t2 : Fin (k0_t2_loop i v42).trips, ∀ a, (k0_off11 i v42 k0_t2) a + S1x1x64x128.size a ≤ S4x64x64x128.size a) ∧
  (∀ k0_t2 : Fin (k0_t2_loop i v42).trips, ∀ a, (k0_off12 i v42 k0_t2) a + S1x1x64x128.size a ≤ S4x64x64x128.size a) ∧
  (∀ k0_t2 : Fin (k0_t2_loop i v42).trips, 8 ∣ (k0_mult5 i v42 k0_t2).toNat) ∧
  (∀ k0_t2 : Fin (k0_t2_loop i v42).trips, ∀ a, (k0_off13 i v42 k0_t2) a + S1x1x8x128.size a ≤ S4x1x64x128.size a) ∧
  (∀ k0_t2 : Fin (k0_t2_loop i v42).trips, 8 ∣ (k0_mult6 i v42 k0_t2).toNat) ∧
  (∀ k0_t2 : Fin (k0_t2_loop i v42).trips, ∀ a, (k0_off14 i v42 k0_t2) a + S1x1x8x128.size a ≤ S4x1x64x128.size a) ∧
  (∀ k0_t2 : Fin (k0_t2_loop i v42).trips, 8 ∣ (k0_mult7 i v42 k0_t2).toNat) ∧
  (∀ k0_t2 : Fin (k0_t2_loop i v42).trips, ∀ a, (k0_off15 i v42 k0_t2) a + S1x1x8x128.size a ≤ S4x1x64x128.size a) ∧
  (∀ k0_t2 : Fin (k0_t2_loop i v42).trips, 8 ∣ (k0_mult8 i v42 k0_t2).toNat) ∧
  (∀ k0_t2 : Fin (k0_t2_loop i v42).trips, ∀ a, (k0_off16 i v42 k0_t2) a + S1x1x8x128.size a ≤ S4x1x64x128.size a)
theorem k0_t1_ok : ∀ (i : grid0.Coords) (v42 : BitVec 32) (k0_hw1 : k0_chk1 i v42), (k0_t1_loop i v42).OK := fun i v42 k0_hw1 => k0_hw1.1
theorem k0_off1_inb : ∀ (i : grid0.Coords) (v42 : BitVec 32) (k0_hw1 : k0_chk1 i v42) (k0_t1 : Fin (k0_t1_loop i v42).trips), ∀ a, (k0_off1 i v42 k0_t1) a + S1x1x64x128.size a ≤ S4x64x64x128.size a := fun i v42 k0_hw1 k0_t1 => k0_hw1.2.1 k0_t1
theorem k0_off2_inb : ∀ (i : grid0.Coords) (v42 : BitVec 32) (k0_hw1 : k0_chk1 i v42) (k0_t1 : Fin (k0_t1_loop i v42).trips), ∀ a, (k0_off2 i v42 k0_t1) a + S1x1x64x128.size a ≤ S4x64x64x128.size a := fun i v42 k0_hw1 k0_t1 => k0_hw1.2.2.1 k0_t1
theorem k0_off3_inb : ∀ (i : grid0.Coords) (v42 : BitVec 32) (k0_hw1 : k0_chk1 i v42) (k0_t1 : Fin (k0_t1_loop i v42).trips), ∀ a, (k0_off3 i v42 k0_t1) a + S1x1x64x128.size a ≤ S4x64x64x128.size a := fun i v42 k0_hw1 k0_t1 => k0_hw1.2.2.2.1 k0_t1
theorem k0_off4_inb : ∀ (i : grid0.Coords) (v42 : BitVec 32) (k0_hw1 : k0_chk1 i v42) (k0_t1 : Fin (k0_t1_loop i v42).trips), ∀ a, (k0_off4 i v42 k0_t1) a + S1x1x64x128.size a ≤ S4x64x64x128.size a := fun i v42 k0_hw1 k0_t1 => k0_hw1.2.2.2.2.1 k0_t1
theorem k0_mult1_dvd : ∀ (i : grid0.Coords) (v42 : BitVec 32) (k0_hw1 : k0_chk1 i v42) (k0_t1 : Fin (k0_t1_loop i v42).trips), 8 ∣ (k0_mult1 i v42 k0_t1).toNat := fun i v42 k0_hw1 k0_t1 => k0_hw1.2.2.2.2.2.1 k0_t1
theorem k0_off5_inb : ∀ (i : grid0.Coords) (v42 : BitVec 32) (k0_hw1 : k0_chk1 i v42) (k0_t1 : Fin (k0_t1_loop i v42).trips), ∀ a, (k0_off5 i v42 k0_t1) a + S1x1x8x128.size a ≤ S4x1x64x128.size a := fun i v42 k0_hw1 k0_t1 => k0_hw1.2.2.2.2.2.2.1 k0_t1
theorem k0_mult2_dvd : ∀ (i : grid0.Coords) (v42 : BitVec 32) (k0_hw1 : k0_chk1 i v42) (k0_t1 : Fin (k0_t1_loop i v42).trips), 8 ∣ (k0_mult2 i v42 k0_t1).toNat := fun i v42 k0_hw1 k0_t1 => k0_hw1.2.2.2.2.2.2.2.1 k0_t1
theorem k0_off6_inb : ∀ (i : grid0.Coords) (v42 : BitVec 32) (k0_hw1 : k0_chk1 i v42) (k0_t1 : Fin (k0_t1_loop i v42).trips), ∀ a, (k0_off6 i v42 k0_t1) a + S1x1x8x128.size a ≤ S4x1x64x128.size a := fun i v42 k0_hw1 k0_t1 => k0_hw1.2.2.2.2.2.2.2.2.1 k0_t1
theorem k0_mult3_dvd : ∀ (i : grid0.Coords) (v42 : BitVec 32) (k0_hw1 : k0_chk1 i v42) (k0_t1 : Fin (k0_t1_loop i v42).trips), 8 ∣ (k0_mult3 i v42 k0_t1).toNat := fun i v42 k0_hw1 k0_t1 => k0_hw1.2.2.2.2.2.2.2.2.2.1 k0_t1
theorem k0_off7_inb : ∀ (i : grid0.Coords) (v42 : BitVec 32) (k0_hw1 : k0_chk1 i v42) (k0_t1 : Fin (k0_t1_loop i v42).trips), ∀ a, (k0_off7 i v42 k0_t1) a + S1x1x8x128.size a ≤ S4x1x64x128.size a := fun i v42 k0_hw1 k0_t1 => k0_hw1.2.2.2.2.2.2.2.2.2.2.1 k0_t1
theorem k0_mult4_dvd : ∀ (i : grid0.Coords) (v42 : BitVec 32) (k0_hw1 : k0_chk1 i v42) (k0_t1 : Fin (k0_t1_loop i v42).trips), 8 ∣ (k0_mult4 i v42 k0_t1).toNat := fun i v42 k0_hw1 k0_t1 => k0_hw1.2.2.2.2.2.2.2.2.2.2.2.1 k0_t1
theorem k0_off8_inb : ∀ (i : grid0.Coords) (v42 : BitVec 32) (k0_hw1 : k0_chk1 i v42) (k0_t1 : Fin (k0_t1_loop i v42).trips), ∀ a, (k0_off8 i v42 k0_t1) a + S1x1x8x128.size a ≤ S4x1x64x128.size a := fun i v42 k0_hw1 k0_t1 => k0_hw1.2.2.2.2.2.2.2.2.2.2.2.2.1 k0_t1
theorem k0_t2_ok : ∀ (i : grid0.Coords) (v42 : BitVec 32) (k0_hw1 : k0_chk1 i v42), (k0_t2_loop i v42).OK := fun i v42 k0_hw1 => k0_hw1.2.2.2.2.2.2.2.2.2.2.2.2.2.1
theorem k0_off9_inb : ∀ (i : grid0.Coords) (v42 : BitVec 32) (k0_hw1 : k0_chk1 i v42) (k0_t2 : Fin (k0_t2_loop i v42).trips), ∀ a, (k0_off9 i v42 k0_t2) a + S1x1x64x128.size a ≤ S4x64x64x128.size a := fun i v42 k0_hw1 k0_t2 => k0_hw1.2.2.2.2.2.2.2.2.2.2.2.2.2.2.1 k0_t2
theorem k0_off10_inb : ∀ (i : grid0.Coords) (v42 : BitVec 32) (k0_hw1 : k0_chk1 i v42) (k0_t2 : Fin (k0_t2_loop i v42).trips), ∀ a, (k0_off10 i v42 k0_t2) a + S1x1x64x128.size a ≤ S4x64x64x128.size a := fun i v42 k0_hw1 k0_t2 => k0_hw1.2.2.2.2.2.2.2.2.2.2.2.2.2.2.2.1 k0_t2
theorem k0_off11_inb : ∀ (i : grid0.Coords) (v42 : BitVec 32) (k0_hw1 : k0_chk1 i v42) (k0_t2 : Fin (k0_t2_loop i v42).trips), ∀ a, (k0_off11 i v42 k0_t2) a + S1x1x64x128.size a ≤ S4x64x64x128.size a := fun i v42 k0_hw1 k0_t2 => k0_hw1.2.2.2.2.2.2.2.2.2.2.2.2.2.2.2.2.1 k0_t2
theorem k0_off12_inb : ∀ (i : grid0.Coords) (v42 : BitVec 32) (k0_hw1 : k0_chk1 i v42) (k0_t2 : Fin (k0_t2_loop i v42).trips), ∀ a, (k0_off12 i v42 k0_t2) a + S1x1x64x128.size a ≤ S4x64x64x128.size a := fun i v42 k0_hw1 k0_t2 => k0_hw1.2.2.2.2.2.2.2.2.2.2.2.2.2.2.2.2.2.1 k0_t2
theorem k0_mult5_dvd : ∀ (i : grid0.Coords) (v42 : BitVec 32) (k0_hw1 : k0_chk1 i v42) (k0_t2 : Fin (k0_t2_loop i v42).trips), 8 ∣ (k0_mult5 i v42 k0_t2).toNat := fun i v42 k0_hw1 k0_t2 => k0_hw1.2.2.2.2.2.2.2.2.2.2.2.2.2.2.2.2.2.2.1 k0_t2
theorem k0_off13_inb : ∀ (i : grid0.Coords) (v42 : BitVec 32) (k0_hw1 : k0_chk1 i v42) (k0_t2 : Fin (k0_t2_loop i v42).trips), ∀ a, (k0_off13 i v42 k0_t2) a + S1x1x8x128.size a ≤ S4x1x64x128.size a := fun i v42 k0_hw1 k0_t2 => k0_hw1.2.2.2.2.2.2.2.2.2.2.2.2.2.2.2.2.2.2.2.1 k0_t2
theorem k0_mult6_dvd : ∀ (i : grid0.Coords) (v42 : BitVec 32) (k0_hw1 : k0_chk1 i v42) (k0_t2 : Fin (k0_t2_loop i v42).trips), 8 ∣ (k0_mult6 i v42 k0_t2).toNat := fun i v42 k0_hw1 k0_t2 => k0_hw1.2.2.2.2.2.2.2.2.2.2.2.2.2.2.2.2.2.2.2.2.1 k0_t2
theorem k0_off14_inb : ∀ (i : grid0.Coords) (v42 : BitVec 32) (k0_hw1 : k0_chk1 i v42) (k0_t2 : Fin (k0_t2_loop i v42).trips), ∀ a, (k0_off14 i v42 k0_t2) a + S1x1x8x128.size a ≤ S4x1x64x128.size a := fun i v42 k0_hw1 k0_t2 => k0_hw1.2.2.2.2.2.2.2.2.2.2.2.2.2.2.2.2.2.2.2.2.2.1 k0_t2
theorem k0_mult7_dvd : ∀ (i : grid0.Coords) (v42 : BitVec 32) (k0_hw1 : k0_chk1 i v42) (k0_t2 : Fin (k0_t2_loop i v42).trips), 8 ∣ (k0_mult7 i v42 k0_t2).toNat := fun i v42 k0_hw1 k0_t2 => k0_hw1.2.2.2.2.2.2.2.2.2.2.2.2.2.2.2.2.2.2.2.2.2.2.1 k0_t2
theorem k0_off15_inb : ∀ (i : grid0.Coords) (v42 : BitVec 32) (k0_hw1 : k0_chk1 i v42) (k0_t2 : Fin (k0_t2_loop i v42).trips), ∀ a, (k0_off15 i v42 k0_t2) a + S1x1x8x128.size a ≤ S4x1x64x128.size a := fun i v42 k0_hw1 k0_t2 => k0_hw1.2.2.2.2.2.2.2.2.2.2.2.2.2.2.2.2.2.2.2.2.2.2.2.1 k0_t2
theorem k0_mult8_dvd : ∀ (i : grid0.Coords) (v42 : BitVec 32) (k0_hw1 : k0_chk1 i v42) (k0_t2 : Fin (k0_t2_loop i v42).trips), 8 ∣ (k0_mult8 i v42 k0_t2).toNat := fun i v42 k0_hw1 k0_t2 => k0_hw1.2.2.2.2.2.2.2.2.2.2.2.2.2.2.2.2.2.2.2.2.2.2.2.2.1 k0_t2
theorem k0_off16_inb : ∀ (i : grid0.Coords) (v42 : BitVec 32) (k0_hw1 : k0_chk1 i v42) (k0_t2 : Fin (k0_t2_loop i v42).trips), ∀ a, (k0_off16 i v42 k0_t2) a + S1x1x8x128.size a ≤ S4x1x64x128.size a := fun i v42 k0_hw1 k0_t2 => k0_hw1.2.2.2.2.2.2.2.2.2.2.2.2.2.2.2.2.2.2.2.2.2.2.2.2.2 k0_t2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x64x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x64x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "no_weight" => some ⊥
  | _ => none
-- ==== ReferenceIdeal.lean ====
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x64x128x64 : Shape := ⟨4, ![8, 64, 128, 64]⟩
abbrev S8x64x64x128 : Shape := ⟨4, ![8, 64, 64, 128]⟩

abbrev nBuf : Space → Nat
  | .hbm => 165
  | .vmem => 0
  | .smem => 0
  | _ => 0

abbrev hbmTy0_0 (i : Nat) : BufTy := match i % 128 with
  | 0 => ⟨S8x8192x64, .f32⟩
  | 1 => ⟨S8x8192x64, .f32⟩
  | 2 => ⟨S8x8192x64, .f32⟩
  | 3 => ⟨S8x8192x64, .f32⟩
  | 4 => ⟨S8192, .i32⟩
  | 5 => ⟨S8x8192x8192, .f32⟩
  | 6 => ⟨S_, .f32⟩
  | 7 => ⟨S8x8192x8192, .f32⟩
  | 8 => ⟨S8x8192x8192, .f32⟩
  | 9 => ⟨S1x8192, .i32⟩
  | 10 => ⟨S8192x1, .i32⟩
  | 11 => ⟨S8192x8192, .i32⟩
  | 12 => ⟨S8192x8192, .i32⟩
  | 13 => ⟨S8192x8192, .i1⟩
  | 14 => ⟨S8x8192x8192, .f32⟩
  | 15 => ⟨S_, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .i1⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S_, .f32⟩
  | 30 => ⟨S8x8192x8192, .f32⟩
  | 31 => ⟨S8x8192x8192, .i1⟩
  | 32 => ⟨S_, .f32⟩
  | 33 => ⟨S8x8192x8192, .f32⟩
  | 34 => ⟨S8x8192x8192, .f32⟩
  | 35 => ⟨S_, .f32⟩
  | 36 => ⟨S8x8192x8192, .f32⟩
  | 37 => ⟨S8x8192x8192, .i1⟩
  | 38 => ⟨S_, .f32⟩
  | 39 => ⟨S8x8192x8192, .f32⟩
  | 40 => ⟨S8x8192x8192, .f32⟩
  | 41 => ⟨S8x8192x8192, .f32⟩
  | 42 => ⟨S8x8192x8192, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S8x8192x8192, .f32⟩
  | 51 => ⟨S8x8192x8192, .i1⟩
  | 52 => ⟨S_, .f32⟩
  | 53 => ⟨S8x8192x8192, .f32⟩
  | 54 => ⟨S8x8192x8192, .f32⟩
  | 55 => ⟨S8x8192x8192, .f32⟩
  | 56 => ⟨S8x8192x8192, .f32⟩
  | 57 => ⟨S8x8192x8192, .f32⟩
  | 58 => ⟨S_, .f32⟩
  | 59 => ⟨S8x8192x8192, .f32⟩
  | 60 => ⟨S8x8192x8192, .f32⟩
  | 61 => ⟨S8x8192x8192, .f32⟩
  | 62 => ⟨S8x8192x8192, .f32⟩
  | 63 => ⟨S8x8192x8192, .f32⟩
  | 64 => ⟨S_, .f32⟩
  | 65 => ⟨S8x8192x8192, .f32⟩
  | 66 => ⟨S8x8192x8192, .f32⟩
  | 67 => ⟨S8x8192x8192, .f32⟩
  | 68 => ⟨S8x8192x8192, .f32⟩
  | 69 => ⟨S8x8192x8192, .i1⟩
  | 70 => ⟨S8x8192x8192, .f32⟩
  | 71 => ⟨S8x8192x8192, .f32⟩
  | 72 => ⟨S8x8192x8192, .f32⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .f32⟩
  | 78 => ⟨S_, .f32⟩
  | 79 => ⟨S8x8192x8192, .f32⟩
  | 80 => ⟨S8x8192x8192, .i1⟩
  | 81 => ⟨S_, .f32⟩
  | 82 => ⟨S8x8192x8192, .f32⟩
  | 83 => ⟨S8x8192x8192, .f32⟩
  | 84 => ⟨S_, .f32⟩
  | 85 => ⟨S8x8192x8192, .f32⟩
  | 86 => ⟨S8x8192x8192, .i1⟩
  | 87 => ⟨S_, .f32⟩
  | 88 => ⟨S8x8192x8192, .f32⟩
  | 89 => ⟨S8x8192x8192, .f32⟩
  | 90 => ⟨S8x8192x8192, .f32⟩
  | 91 => ⟨S8x8192x8192, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S8x8192x8192, .f32⟩
  | 100 => ⟨S8x8192x8192, .i1⟩
  | 101 => ⟨S_, .f32⟩
  | 102 => ⟨S8x8192x8192, .f32⟩
  | 103 => ⟨S8x8192x8192, .f32⟩
  | 104 => ⟨S8x8192x8192, .f32⟩
  | 105 => ⟨S8x8192x8192, .f32⟩
  | 106 => ⟨S8x8192x8192, .f32⟩
  | 107 => ⟨S_, .f32⟩
  | 108 => ⟨S8x8192x8192, .f32⟩
  | 109 => ⟨S8x8192x8192, .f32⟩
  | 110 => ⟨S8x8192x8192, .f32⟩
  | 111 => ⟨S_, .f32⟩
  | 112 => ⟨S_, .f32⟩
  | 113 => ⟨S8x8192x8192, .i1⟩
  | 114 => ⟨S8x8192x8192, .f32⟩
  | 115 => ⟨S8x8192x8192, .f32⟩
  | 116 => ⟨S_, .f32⟩
  | 117 => ⟨S8x8192x8192, .f32⟩
  | 118 => ⟨S_, .f32⟩
  | 119 => ⟨S_, .f32⟩
  | 120 => ⟨S8x8192x8192, .f32⟩
  | 121 => ⟨S8x8192x8192, .f32⟩
  | 122 => ⟨S8x8192x8192, .f32⟩
  | 123 => ⟨S8x8192x8192, .f32⟩
  | 124 => ⟨S_, .f32⟩
  | 125 => ⟨S_, .f32⟩
  | 126 => ⟨S8x8192x8192, .i1⟩
  | 127 => ⟨S8x8192x8192, .f32⟩
  | _ => ⟨S8x8192x64, .f32⟩

abbrev hbmTy0_1 (i : Nat) : BufTy := match i % 128 with
  | 0 => ⟨S8x8192x8192, .f32⟩
  | 1 => ⟨S_, .f32⟩
  | 2 => ⟨S8x8192x8192, .f32⟩
  | 3 => ⟨S8x8192x64, .f32⟩
  | 4 => ⟨S8x64x8192, .f32⟩
  | 5 => ⟨S8x8192x64, .f32⟩
  | 6 => ⟨S8x8192x8192, .f32⟩
  | 7 => ⟨S_, .f32⟩
  | 8 => ⟨S8x8192x8192, .f32⟩
  | 9 => ⟨S8x8192x8192, .f32⟩
  | 10 => ⟨S8x8192x8192, .f32⟩
  | 11 => ⟨S8x8192x8192, .f32⟩
  | 12 => ⟨S_, .f32⟩
  | 13 => ⟨S_, .f32⟩
  | 14 => ⟨S8x8192x8192, .f32⟩
  | 15 => ⟨S8x8192x8192, .f32⟩
  | 16 => ⟨S_, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .f32⟩
  | 26 => ⟨S8x8192x8192, .f32⟩
  | 27 => ⟨S_, .f32⟩
  | 28 => ⟨S8x8192x8192, .f32⟩
  | 29 => ⟨S8x8192x8192, .f32⟩
  | 30 => ⟨S8x8192x64, .f32⟩
  | 31 => ⟨S8x8192x64, .f32⟩
  | 32 => ⟨S8x64x8192, .f32⟩
  | 33 => ⟨S8x64x128x64, .f32⟩
  | 34 => ⟨S8x64x64x128, .f32⟩
  | 35 => ⟨S8x64x128x64, .f32⟩
  | 36 => ⟨S8x64x64x128, .f32⟩
  | _ => ⟨S8x8192x64, .f32⟩

abbrev hbmTy (i : Nat) : BufTy := match i / 128 with
  | 0 => hbmTy0_0 i
  | 1 => hbmTy0_1 i
  | _ => ⟨S8x8192x64, .f32⟩

abbrev bufTy : (tb : Table) → Fin (tcTables nBuf tb) → BufTy
  | .hbm, ⟨i, _⟩ => hbmTy i
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v9_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v9_2 : Ref sig .tc := ⟨.hbm, 60, rfl⟩
abbrev main_v9_0 : Ref sig .tc := ⟨.hbm, 61, rfl⟩
abbrev main_v10 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1_0 : Ref sig .tc := ⟨.hbm, 77, rfl⟩
abbrev main_call1_call0_cst_0 : Ref sig .tc := ⟨.hbm, 78, rfl⟩
abbrev main_call1_call0_v13 : Ref sig .tc := ⟨.hbm, 79, rfl⟩
abbrev main_call1_call0_v14 : Ref sig .tc := ⟨.hbm, 80, rfl⟩
abbrev main_call1_call0_cst_1 : Ref sig .tc := ⟨.hbm, 81, rfl⟩
abbrev main_call1_call0_v15 : Ref sig .tc := ⟨.hbm, 82, rfl⟩
abbrev main_call1_call0_v16 : Ref sig .tc := ⟨.hbm, 83, rfl⟩
abbrev main_call1_call0_cst_2 : Ref sig .tc := ⟨.hbm, 84, rfl⟩
abbrev main_call1_call0_v17 : Ref sig .tc := ⟨.hbm, 85, rfl⟩
abbrev main_call1_call0_v18 : Ref sig .tc := ⟨.hbm, 86, rfl⟩
abbrev main_call1_call0_cst_3 : Ref sig .tc := ⟨.hbm, 87, rfl⟩
abbrev main_call1_call0_v19 : Ref sig .tc := ⟨.hbm, 88, rfl⟩
abbrev main_call1_call0_v20 : Ref sig .tc := ⟨.hbm, 89, rfl⟩
abbrev main_call1_call0_v21 : Ref sig .tc := ⟨.hbm, 90, rfl⟩
abbrev main_v11_1 : Ref sig .tc := ⟨.hbm, 91, rfl⟩
abbrev main_call1_call0_cst_4 : Ref sig .tc := ⟨.hbm, 92, rfl⟩
abbrev main_call1_call0_cst_5 : Ref sig .tc := ⟨.hbm, 93, rfl⟩
abbrev main_call1_call0_v23 : Ref sig .tc := ⟨.hbm, 94, rfl⟩
abbrev main_call1_call0_cst_6 : Ref sig .tc := ⟨.hbm, 95, rfl⟩
abbrev main_call1_call0_cst_7 : Ref sig .tc := ⟨.hbm, 96, rfl⟩
abbrev main_call1_call0_v24 : Ref sig .tc := ⟨.hbm, 97, rfl⟩
abbrev main_call1_call0_cst_8 : Ref sig .tc := ⟨.hbm, 98, rfl⟩
abbrev main_call1_call0_v25 : Ref sig .tc := ⟨.hbm, 99, rfl⟩
abbrev main_call1_call0_v26 : Ref sig .tc := ⟨.hbm, 100, rfl⟩
abbrev main_call1_call0_cst_9 : Ref sig .tc := ⟨.hbm, 101, rfl⟩
abbrev main_call1_call0_v27 : Ref sig .tc := ⟨.hbm, 102, rfl⟩
abbrev main_call1_call0_v28 : Ref sig .tc := ⟨.hbm, 103, rfl⟩
abbrev main_call1_call0_v29 : Ref sig .tc := ⟨.hbm, 104, rfl⟩
abbrev main_call1_call0_v30 : Ref sig .tc := ⟨.hbm, 105, rfl⟩
abbrev main_call1_call0_v31 : Ref sig .tc := ⟨.hbm, 106, rfl⟩
abbrev main_call1_call0_cst_10 : Ref sig .tc := ⟨.hbm, 107, rfl⟩
abbrev main_call1_call0_v32 : Ref sig .tc := ⟨.hbm, 108, rfl⟩
abbrev main_v11_2 : Ref sig .tc := ⟨.hbm, 109, rfl⟩
abbrev main_v11_0 : Ref sig .tc := ⟨.hbm, 110, rfl⟩
abbrev main_cst_0 : Ref sig .tc := ⟨.hbm, 111, rfl⟩
abbrev main_call2_v0 : Ref sig .tc := ⟨.hbm, 112, rfl⟩
abbrev main_v12_1 : Ref sig .tc := ⟨.hbm, 113, rfl⟩
abbrev main_call2_v2 : Ref sig .tc := ⟨.hbm, 114, rfl⟩
abbrev main_v12_0 : Ref sig .tc := ⟨.hbm, 115, rfl⟩
abbrev main_call2_cst : Ref sig .tc := ⟨.hbm, 116, rfl⟩
abbrev main_v12_2 : Ref sig .tc := ⟨.hbm, 117, rfl⟩
abbrev main_call3_cst : Ref sig .tc := ⟨.hbm, 118, rfl⟩
abbrev main_call3_v0 : Ref sig .tc := ⟨.hbm, 119, rfl⟩
abbrev main_v13 : Ref sig .tc := ⟨.hbm, 120, rfl⟩
abbrev main_v14 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_call4_v0 : Ref sig .tc := ⟨.hbm, 125, rfl⟩
abbrev main_v17_1 : Ref sig .tc := ⟨.hbm, 126, rfl⟩
abbrev main_call4_v2 : Ref sig .tc := ⟨.hbm, 127, rfl⟩
abbrev main_v17_0 : Ref sig .tc := ⟨.hbm, 128, rfl⟩
abbrev main_call4_cst : Ref sig .tc := ⟨.hbm, 129, rfl⟩
abbrev main_v17_2 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_call5_cst : Ref sig .tc := ⟨.hbm, 135, rfl⟩
abbrev main_call5_v0 : Ref sig .tc := ⟨.hbm, 136, rfl⟩
abbrev main_v22 : Ref sig .tc := ⟨.hbm, 137, rfl⟩
abbrev main_v23 : Ref sig .tc := ⟨.hbm, 138, rfl⟩
abbrev main_v24 : Ref sig .tc := ⟨.hbm, 139, rfl⟩
abbrev main_call6_cst : Ref sig .tc := ⟨.hbm, 140, rfl⟩
abbrev main_call6_v0 : Ref sig .tc := ⟨.hbm, 141, rfl⟩
abbrev main_v25 : Ref sig .tc := ⟨.hbm, 142, rfl⟩
abbrev main_v26 : Ref sig .tc := ⟨.hbm, 143, rfl⟩
abbrev main_call7_cst : Ref sig .tc := ⟨.hbm, 144, rfl⟩
abbrev main_call7_v0 : Ref sig .tc := ⟨.hbm, 145, rfl⟩
abbrev main_v27 : Ref sig .tc := ⟨.hbm, 146, rfl⟩
abbrev main_call8_v0 : Ref sig .tc := ⟨.hbm, 147, rfl⟩
abbrev main_call8_v1 : Ref sig .tc := ⟨.hbm, 148, rfl⟩
abbrev main_v28 : Ref sig .tc := ⟨.hbm, 149, rfl⟩
abbrev main_v29 : Ref sig .tc := ⟨.hbm, 150, rfl⟩
abbrev main_call9_v0 : Ref sig .tc := ⟨.hbm, 151, rfl⟩
abbrev main_call9_v1 : Ref sig .tc := ⟨.hbm, 152, rfl⟩
abbrev main_v30 : Ref sig .tc := ⟨.hbm, 153, rfl⟩
abbrev main_v31 : Ref sig .tc := ⟨.hbm, 154, rfl⟩
abbrev main_cst_2 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩

abbrev nD : Nat := 1
abbrev τ : Topo := Topo.v7x

variable {F : FTy → Type} [FloatOps F]
-- ==== KernelDw.lean ====
abbrev S8192x1024 : Shape := ⟨2, ![8192, 1024]⟩
abbrev S8192x5632 : Shape := ⟨2, ![8192, 5632]⟩
abbrev S1x1024x5632 : Shape := ⟨3, ![1, 1024, 5632]⟩
abbrev S1024x512 : Shape := ⟨2, ![1024, 512]⟩
abbrev S1024x5632 : Shape := ⟨2, ![1024, 5632]⟩
abbrev S1x512x5632 : Shape := ⟨3, ![1, 512, 5632]⟩
abbrev S512x5632 : Shape := ⟨2, ![512, 5632]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1x1024x5632, .f32⟩
  | .local _ .vmem, ⟨0, _⟩ => ⟨S1024x512, .bf16⟩
  | .local _ .vmem, ⟨1, _⟩ => ⟨S1024x512, .bf16⟩
  | .local _ .vmem, ⟨2, _⟩ => ⟨S1024x5632, .bf16⟩
  | .local _ .vmem, ⟨3, _⟩ => ⟨S1024x5632, .bf16⟩
  | .local _ .vmem, ⟨4, _⟩ => ⟨S1x512x5632, .f32⟩
  | .local _ .vmem, ⟨5, _⟩ => ⟨S1x512x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1x1024x5632 : Shape := ⟨3, ![1, 1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1x1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S1x2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFfn.lean ====
abbrev S8192x1024 : Shape := ⟨2, ![8192, 1024]⟩
abbrev S8192x5632 : Shape := ⟨2, ![8192, 5632]⟩
abbrev S2816x1024 : Shape := ⟨2, ![2816, 1024]⟩
abbrev S1x2816x1024 : Shape := ⟨3, ![1, 2816, 1024]⟩
abbrev S8192x2816 : Shape := ⟨2, ![8192, 2816]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S8192x5632, .bf16⟩
  | .hbm, ⟨4, _⟩ => ⟨S2816x1024, .bf16⟩
  | .hbm, ⟨5, _⟩ => ⟨S1x2816x1024, .bf16⟩
  | .hbm, ⟨6, _⟩ => ⟨S8192x5632, .bf16⟩
  | .hbm, ⟨7, _⟩ => ⟨S8192x2816, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S1x2816x1024, .bf16⟩
  | .local _ .vmem, ⟨7, _⟩ => ⟨S512x5632, .bf16⟩
  | .local _ .vmem, ⟨8, _⟩ => ⟨S512x5632, .bf16⟩
  | .local _ .vmem, ⟨9, _⟩ => ⟨S512x2816, .bf16⟩
  | .local _ .vmem, ⟨10, _⟩ => ⟨S512x2816, .bf16⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFfnIdeal.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S2816x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .bf16⟩
  | .hbm, ⟨33, _⟩ => ⟨S8192x2816, .bf16⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== KernelUp.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S1x1024x5632 : Shape := ⟨3, ![1, 1024, 5632]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S1x1024x5632, .bf16⟩
  | .hbm, ⟨6, _⟩ => ⟨S8192x5632, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceUpIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x5632, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelIn.lean ====
abbrev S8192x1024 : Shape := ⟨2, ![8192, 1024]⟩
abbrev S1024 : Shape := ⟨1, ![1024]⟩
abbrev S1024x7168 : Shape := ⟨2, ![1024, 7168]⟩
abbrev S1x1024 : Shape := ⟨2, ![1, 1024]⟩
abbrev S1x1024x7168 : Shape := ⟨3, ![1, 1024, 7168]⟩
abbrev S8192x7168 : Shape := ⟨2, ![8192, 7168]⟩
abbrev S512x1024 : Shape := ⟨2, ![512, 1024]⟩
abbrev S512x7168 : Shape := ⟨2, ![512, 7168]⟩
abbrev S512 : Shape := ⟨1, ![512]⟩
abbrev S512x1 : Shape := ⟨2, ![512, 1]⟩
abbrev S1x1024x1792 : Shape := ⟨3, ![1, 1024, 1792]⟩
abbrev S1024x1792 : Shape := ⟨2, ![1024, 1792]⟩
abbrev S512x1792 : Shape := ⟨2, ![512, 1792]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S1x1024, .f32⟩
  | .hbm, ⟨4, _⟩ => ⟨S1024x7168, .bf16⟩
  | .hbm, ⟨5, _⟩ => ⟨S1x1024x7168, .bf16⟩
  | .hbm, ⟨6, _⟩ => ⟨S8192x7168, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x7168, .bf16⟩
  | .local _ .vmem, ⟨4, _⟩ => ⟨S512x7168, .bf16⟩
  | .local _ .vmem, ⟨5, _⟩ => ⟨S512x7168, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceInIdeal.lean ====
abbrev S8192x1024 : Shape := ⟨2, ![8192, 1024]⟩
abbrev S1024 : Shape := ⟨1, ![1024]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x7168 : Shape := ⟨2, ![8192, 7168]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x7168, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x7168, .f32⟩
  | .hbm, ⟨20, _⟩ => ⟨S8192x7168, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelFwd.lean ====
abbrev S8192x5632 : Shape := ⟨2, ![8192, 5632]⟩
abbrev S2816x1024 : Shape := ⟨2, ![2816, 1024]⟩
abbrev S8192x1024 : Shape := ⟨2, ![8192, 1024]⟩
abbrev S1x2816x1024 : Shape := ⟨3, ![1, 2816, 1024]⟩
abbrev S512x2816 : Shape := ⟨2, ![512, 2816]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S2816x1024, .bf16⟩
  | .hbm, ⟨5, _⟩ => ⟨S1x2816x1024, .bf16⟩
  | .hbm, ⟨6, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceFwdIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.SeenIdeal.lean ====
/- Hand-written, untrusted. The loop over the earlier key blocks starts at block `i - seen`, where `seen` is a count that the kernel
   computes from the saved sums. The count is at most `i`, because a row is counted only when its number is below `i`. From that bound
   follows everything that the body assumes about the loops: their bounds have a meaning, and every block that a trip reads or writes
   lies inside its array. -/
module

public import proofs.«01_k».proof.Proof.Gen.KernelIdeal.Skeleton
public import Idealize.ShloMosaic.Lib.Affine
public import Idealize.ShloMosaic.Lib.WordCmp
public import Idealize.ShloMosaic.Lib.WordSum
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic

/-! ## The two loops, as integers -/

/-- The first loop's bounds: from `i - n` to `i + 1`, which is `n + 1` trips. -/
theorem loop1 (i : grid0.Coords) (n : ℕ) (v42 : BitVec 32) (hv : v42.toNat = n) (h : n ≤ (i 1).val) :
    (k0_t1_loop i v42).OK ∧ (k0_t1_loop i v42).trips = n + 1 := by
  have hi : (i 1).val < 64 := (i 1).isLt
  have a1 : Affine.IsInt (BitVec.ofNat 32 (i 1).val) ((i 1).val : Int) := Affine.ofNat _ (by omega)
  have a42 : Affine.IsInt v42 (n : Int) := Affine.relit (Affine.word v42) (by rw [BitVec.toInt_eq_toNat_cond]; omega)
  have one : Affine.IsInt 1#32 1 := Affine.ofNat _ (by omega)
  have a47 : Affine.IsInt _ ((i 1).val - n : Int) := Affine.subi a1 a42 (by omega)
  have a48 : Affine.IsInt _ ((i 1).val + 1 : Int) := Affine.addi a1 one (by omega)
  have a53 : Affine.IsInt _ (n + 1 : Int) := Affine.subi a48 a47 (by omega)
  have a55 : Affine.IsInt _ (n + 1 : Int) := Affine.divsi_one a53 one (by omega)
  have a56 : Affine.IsInt _ (n + 1 : Int) := Affine.muli a55 one (by omega)
  have a57 : Affine.IsInt _ ((i 1).val + 1 : Int) := Affine.addi a47 a56 (by omega)
  exact ⟨Affine.ok a47 a57 one (by omega), Affine.trips_eq a47 a57 one _ (by omega)⟩

/-- The second loop, the remainder of the first by a step of one, has no trip. -/
theorem loop2 (i : grid0.Coords) (n : ℕ) (v42 : BitVec 32) (hv : v42.toNat = n) (h : n ≤ (i 1).val) :
    (k0_t2_loop i v42).OK ∧ (k0_t2_loop i v42).trips = 0 := by
  have hi : (i 1).val < 64 := (i 1).isLt
  have a1 : Affine.IsInt (BitVec.ofNat 32 (i 1).val) ((i 1).val : Int) := Affine.ofNat _ (by omega)
  have a42 : Affine.IsInt v42 (n : Int) := Affine.relit (Affine.word v42) (by rw [BitVec.toInt_eq_toNat_cond]; omega)
  have one : Affine.IsInt 1#32 1 := Affine.ofNat _ (by omega)
  have a47 : Affine.IsInt _ ((i 1).val - n : Int) := Affine.subi a1 a42 (by omega)
  have a48 : Affine.IsInt _ ((i 1).val + 1 : Int) := Affine.addi a1 one (by omega)
  have a53 : Affine.IsInt _ (n + 1 : Int) := Affine.subi a48 a47 (by omega)
  have a55 : Affine.IsInt _ (n + 1 : Int) := Affine.divsi_one a53 one (by omega)
  have a56 : Affine.IsInt _ (n + 1 : Int) := Affine.muli a55 one (by omega)
  have a57 : Affine.IsInt _ ((i 1).val + 1 : Int) := Affine.addi a47 a56 (by omega)
  have a54 : Affine.IsInt _ ((i 1).val + 1 : Int) := Affine.addi a47 a53 (by omega)
  exact ⟨Affine.ok a57 a54 one (by omega), Affine.trips_eq a57 a54 one _ (by omega)⟩

/-- The word that trip `k` of the first loop counts with. -/
theorem word1 (i : grid0.Coords) (n : ℕ) (v42 : BitVec 32) (hv : v42.toNat = n) (h : n ≤ (i 1).val) (k : ℕ) (hk : k ≤ n) :
    Scf.iv (Scalar.subi (BitVec.ofNat 32 (i 1).val) v42) 1#32 k = BitVec.ofNat 32 ((i 1).val - n + k) := by
  have hi : (i 1).val < 64 := (i 1).isLt
  apply BitVec.eq_of_toNat_eq
  simp only [Scf.iv, Scalar.subi, IntOp.subi, BitVec.toNat_add, BitVec.toNat_mul, BitVec.toNat_ofNat, BitVec.toNat_sub, hv]
  omega

/-! ## One trip's places -/

/-- The first row of the group of eight that the kernel finds for block `j`, as it computes it. -/
def groupWord (w : BitVec 32) : BitVec 32 :=
  let v197 : BitVec 1 := Scalar.cmpi .sgt w 0#32
  let v198 : BitVec 32 := Scalar.extui v197
  let v199 : BitVec 1 := Scalar.cmpi .slt w 0#32
  let v200 : BitVec 32 := Scalar.extui v199
  let v201 : BitVec 32 := Scalar.subi v198 v200
  let v202 : BitVec 1 := Scalar.cmpi .sgt 8#32 0#32
  let v203 : BitVec 32 := Scalar.extui v202
  let v204 : BitVec 1 := Scalar.cmpi .slt 8#32 0#32
  let v205 : BitVec 32 := Scalar.extui v204
  let v206 : BitVec 32 := Scalar.subi v203 v205
  let v207 : BitVec 1 := Scalar.cmpi .ne v201 v206
  let v208 : BitVec 32 := Scalar.remsi w 8#32
  let v209 : BitVec 1 := Scalar.cmpi .ne v208 0#32
  let v210 : BitVec 1 := Scalar.andi v207 v209
  let v196 : BitVec 32 := Scalar.divsi w 8#32
  let v211 : BitVec 32 := Scalar.subi v196 1#32
  let v212 : BitVec 32 := Scalar.select v210 v211 v196
  Scalar.muli v212 8#32

/-- For a block among 64 it is the multiple of eight below. -/
theorem groupWord_val : ∀ j : Fin 64, (groupWord (BitVec.ofNat 32 j.val)).toNat = j.val / 8 * 8 := by
  decide +kernel

section
variable (i : grid0.Coords) (n : ℕ) (v42 : BitVec 32) (hv : v42.toNat = n) (h : n ≤ (i 1).val)
include hv h

/-- The word of a trip is below 64. -/
theorem iv1_toNat (k : Fin (k0_t1_loop i v42).trips) :
    Scf.iv (Scalar.subi (BitVec.ofNat 32 (i 1).val) v42) 1#32 k.val = BitVec.ofNat 32 ((i 1).val - n + k.val)
      ∧ (i 1).val - n + k.val < 64 := by
  have hi : (i 1).val < 64 := (i 1).isLt
  have hk : k.val < n + 1 := lt_of_lt_of_eq k.isLt (loop1 i n v42 hv h).2
  exact ⟨word1 i n v42 hv h k.val (by omega), by omega⟩

theorem off1_eq (k : Fin (k0_t1_loop i v42).trips) : k0_off1 i v42 k = ![0, (i 1).val - n + k.val, 0, 0] := by
  have e := iv1_toNat i n v42 hv h k
  show ![0, (Scf.iv (Scalar.subi (BitVec.ofNat 32 (i 1).val) v42) 1#32 k.val).toNat, 0, 0] = _
  rw [e.1, BitVec.toNat_ofNat, Nat.mod_eq_of_lt (by omega)]
theorem off2_eq (k : Fin (k0_t1_loop i v42).trips) : k0_off2 i v42 k = ![1, (i 1).val - n + k.val, 0, 0] := by
  have e := iv1_toNat i n v42 hv h k
  show ![1, (Scf.iv (Scalar.subi (BitVec.ofNat 32 (i 1).val) v42) 1#32 k.val).toNat, 0, 0] = _
  rw [e.1, BitVec.toNat_ofNat, Nat.mod_eq_of_lt (by omega)]
theorem off3_eq (k : Fin (k0_t1_loop i v42).trips) : k0_off3 i v42 k = ![2, (i 1).val - n + k.val, 0, 0] := by
  have e := iv1_toNat i n v42 hv h k
  show ![2, (Scf.iv (Scalar.subi (BitVec.ofNat 32 (i 1).val) v42) 1#32 k.val).toNat, 0, 0] = _
  rw [e.1, BitVec.toNat_ofNat, Nat.mod_eq_of_lt (by omega)]
theorem off4_eq (k : Fin (k0_t1_loop i v42).trips) : k0_off4 i v42 k = ![3, (i 1).val - n + k.val, 0, 0] := by
  have e := iv1_toNat i n v42 hv h k
  show ![3, (Scf.iv (Scalar.subi (BitVec.ofNat 32 (i 1).val) v42) 1#32 k.val).toNat, 0, 0] = _
  rw [e.1, BitVec.toNat_ofNat, Nat.mod_eq_of_lt (by omega)]

/-- The multiple of eight of a trip. -/
theorem group1 (k : Fin (k0_t1_loop i v42).trips) :
    (groupWord (Scf.iv (Scalar.subi (BitVec.ofNat 32 (i 1).val) v42) 1#32 k.val)).toNat = ((i 1).val - n + k.val) / 8 * 8 := by
  have e := iv1_toNat i n v42 hv h k
  rw [e.1]
  exact groupWord_val ⟨_, e.2⟩

theorem mult1_eq (k : Fin (k0_t1_loop i v42).trips) : (k0_mult1 i v42 k).toNat = ((i 1).val - n + k.val) / 8 * 8 := group1 i n v42 hv h k
theorem mult2_eq (k : Fin (k0_t1_loop i v42).trips) : (k0_mult2 i v42 k).toNat = ((i 1).val - n + k.val) / 8 * 8 := group1 i n v42 hv h k
theorem mult3_eq (k : Fin (k0_t1_loop i v42).trips) : (k0_mult3 i v42 k).toNat = ((i 1).val - n + k.val) / 8 * 8 := group1 i n v42 hv h k
theorem mult4_eq (k : Fin (k0_t1_loop i v42).trips) : (k0_mult4 i v42 k).toNat = ((i 1).val - n + k.val) / 8 * 8 := group1 i n v42 hv h k
theorem off5_eq (k : Fin (k0_t1_loop i v42).trips) : k0_off5 i v42 k = ![0, 0, ((i 1).val - n + k.val) / 8 * 8, 0] :=
  congrArg (fun x : ℕ => ![0, 0, x, 0]) (group1 i n v42 hv h k)
theorem off6_eq (k : Fin (k0_t1_loop i v42).trips) : k0_off6 i v42 k = ![1, 0, ((i 1).val - n + k.val) / 8 * 8, 0] :=
  congrArg (fun x : ℕ => ![1, 0, x, 0]) (group1 i n v42 hv h k)
theorem off7_eq (k : Fin (k0_t1_loop i v42).trips) : k0_off7 i v42 k = ![2, 0, ((i 1).val - n + k.val) / 8 * 8, 0] :=
  congrArg (fun x : ℕ => ![2, 0, x, 0]) (group1 i n v42 hv h k)
theorem off8_eq (k : Fin (k0_t1_loop i v42).trips) : k0_off8 i v42 k = ![3, 0, ((i 1).val - n + k.val) / 8 * 8, 0] :=
  congrArg (fun x : ℕ => ![3, 0, x, 0]) (group1 i n v42 hv h k)

/-- Everything that the body assumes of the count. -/
theorem chk_of_le : k0_chk1 i v42 := by
  have none : ∀ k : Fin (k0_t2_loop i v42).trips, False := fun k =>
    absurd (lt_of_lt_of_eq k.isLt (loop2 i n v42 hv h).2) (Nat.not_lt_zero _)
  have key : ∀ k : Fin (k0_t1_loop i v42).trips, (i 1).val - n + k.val < 64 := fun k => (iv1_toNat i n v42 hv h k).2
  refine ⟨(loop1 i n v42 hv h).1, fun k => ?_, fun k => ?_, fun k => ?_, fun k => ?_, fun k => ?_, fun k => ?_, fun k => ?_, fun k => ?_,
    fun k => ?_, fun k => ?_, fun k => ?_, fun k => ?_, (loop2 i n v42 hv h).1, fun k => (none k).elim, fun k => (none k).elim,
    fun k => (none k).elim, fun k => (none k).elim, fun k => (none k).elim, fun k => (none k).elim, fun k => (none k).elim,
    fun k => (none k).elim, fun k => (none k).elim, fun k => (none k).elim, fun k => (none k).elim, fun k => (none k).elim⟩
  · rw [off1_eq i n v42 hv h k]; have := key k; intro a; fin_cases a <;> simp <;> omega
  · rw [off2_eq i n v42 hv h k]; have := key k; intro a; fin_cases a <;> simp <;> omega
  · rw [off3_eq i n v42 hv h k]; have := key k; intro a; fin_cases a <;> simp <;> omega
  · rw [off4_eq i n v42 hv h k]; have := key k; intro a; fin_cases a <;> simp <;> omega
  · rw [mult1_eq i n v42 hv h k]; exact Dvd.intro_left _ rfl
  · rw [off5_eq i n v42 hv h k]; have := key k; intro a; fin_cases a <;> simp <;> omega
  · rw [mult2_eq i n v42 hv h k]; exact Dvd.intro_left _ rfl
  · rw [off6_eq i n v42 hv h k]; have := key k; intro a; fin_cases a <;> simp <;> omega
  · rw [mult3_eq i n v42 hv h k]; exact Dvd.intro_left _ rfl
  · rw [off7_eq i n v42 hv h k]; have := key k; intro a; fin_cases a <;> simp <;> omega
  · rw [mult4_eq i n v42 hv h k]; exact Dvd.intro_left _ rfl
  · rw [off8_eq i n v42 hv h k]; have := key k; intro a; fin_cases a <;> simp <;> omega

end

/-! ## The count -/

variable {F : FTy → Type} [FloatOps F] [Named F]

/-- Which rows of the saved sums hold a sum above the threshold, in any of the four heads. -/
def above (v20 v22 : FVec F S64x128 .f32) (v24 v27 : Vec F S1x1x64x128 .f32) : IVec S64x1 1 :=
  cmpf .ogt (shapeCast S64x1 (multiReduction .maximumf [1] S64
      (maximumf (maximumf (maximumf v20 v22) (shapeCast S64x128 v24 shapeCasts_S1x1x64x128_S64x128))
        (shapeCast S64x128 v27 shapeCasts_S1x1x64x128_S64x128))
      0xFF800000#32 reduces_S64x128_S64 (.inl rfl) rfl) shapeCasts_S64_S64x1)
    (broadcast S64x1 (Named.named κ "no_weight" 0xC2B00000#32))

/-- The count, as the body computes it. -/
def seenWord (i : grid0.Coords) (v20 v22 : FVec F S64x128 .f32) (v24 v27 : Vec F S1x1x64x128 .f32) : BitVec 32 :=
  extractAt ![0, 0, 0] (k0_pay171 (BitVec.ofNat 32 (i 1).val) v20 v22 v24 v27) inpos_S1x1x1_p0_0_0

/-- One row's part of the count: one where the row is above the threshold and its number is below `i`. -/
def rowCount (a : IVec S64x1 1) (i : ℕ) (r : Fin 64) : ℕ := if r.val < i then (a (ix2 r 0)).toNat else 0

/-- The words that the body adds up. -/
def rowWords (a : IVec S64x1 1) (i : grid0.Coords) : IVec S1x64x1 32 :=
  shapeCast S1x64x1 (extui 32 (andi a (cmpi .slt (iota .tc S64x1 32 [0] iota_S64x1_d0_w32)
    (broadcast S64x1 (BitVec.ofNat 32 (i 1).val)))) natLt_1_32) shapeCasts_S64x1_S1x64x1

/-- A row's bit and the comparison of its number with `i`, as the word that the body adds up. -/
theorem rowWord (a : IVec S64x1 1) (i : grid0.Coords) (r : Fin 64) : (rowWords a i (ix3 0 r 0)).toNat = rowCount a (i 1).val r := by
  have hi : (i 1).val < 64 := (i 1).isLt
  have hr : r.val < 64 := r.isLt
  unfold rowWords
  rw [shapeCast_apply _ _ (ix3 0 r 0) (ix2 r 0) (by
    rw [show (S64x1.rowMajor (ix2 r 0)).val = _ from Shape.rowMajor_val_two _, show (S1x64x1.rowMajor (ix3 0 r 0)).val = _ from Shape.rowMajor_val_three _]
    simp)]
  have hw : iota .tc S64x1 32 [0] iota_S64x1_d0_w32 (ix2 r 0) = BitVec.ofNat 32 r.val := by simp [iota]
  show (BitVec.setWidth 32 (IntOp.andi (a (ix2 r 0)) (IntOp.cmpi .slt (iota .tc S64x1 32 [0] iota_S64x1_d0_w32 (ix2 r 0)) (BitVec.ofNat 32 (i 1).val)))).toNat = _
  rw [hw]
  show (BitVec.setWidth 32 (IntOp.andi (a (ix2 r 0)) (IntOp.cmpi .slt (BitVec.ofNat 32 r.val) (BitVec.ofNat 32 (i 1).val)))).toNat = _
  rw [Idealize.ShloMosaic.WordCmp.cmpi_slt_ofNat (by omega) (by omega)]
  unfold rowCount
  generalize a (ix2 r 0) = b
  split <;> rename_i hlt <;> simp only [hlt, decide_true, decide_false, BitVec.ofBool_true, BitVec.ofBool_false] <;> revert b <;> decide

theorem rowCount_le (a : IVec S64x1 1) (i : ℕ) (r : Fin 64) : rowCount a i r ≤ if r.val < i then 1 else 0 := by
  unfold rowCount
  split
  · exact Nat.lt_succ_iff.1 (a (ix2 r 0)).isLt
  · exact Nat.zero_le _

/-- The sum of the words is the sum of the rows' parts. -/
theorem count_toNat (a : IVec S64x1 1) (i : grid0.Coords) :
    (extractAt ![0, 0, 0] (shapeCast S1x1x1 (multiReductionI .add [1, 2] S1 (rowWords a i)
      0#32 reduces_S1x64x1_S1 rfl) shapeCasts_S1_S1x1x1) inpos_S1x1x1_p0_0_0).toNat = ∑ r : Fin 64, rowCount a (i 1).val r := by
  have le : ∑ r : Fin 64, rowCount a (i 1).val r ≤ ∑ _r : Fin 64, 1 :=
    Finset.sum_le_sum fun r _ => (rowCount_le a _ r).trans (by split <;> omega)
  have all : ∀ j : S1.Idx, ∑ x ∈ Finset.univ.filter (fun x => reduces_S1x64x1_S1.drop x = j), (rowWords a i x).toNat
      = ∑ r : Fin 64, rowCount a (i 1).val r := by
    intro j
    refine (Shape.Reduces.sum_fiber_r3_a12 _ j _).trans (Finset.sum_congr rfl fun r _ => (Fin.sum_univ_one _).trans ?_)
    exact (congrArg (fun z : Fin 1 => (rowWords a i (ix3 z r 0)).toNat) (Subsingleton.elim _ 0)).trans (rowWord a i r)
  have one : ∀ j : S1.Idx, (multiReductionI .add [1, 2] S1 (rowWords a i)
      0#32 reduces_S1x64x1_S1 rfl j).toNat = ∑ r : Fin 64, rowCount a (i 1).val r := fun j => by
    refine (WordSum.toNat_multiReductionI_add _ _ _ _ ?_).trans (all j)
    rw [all]
    simp at le
    omega
  unfold extractAt shapeCast
  exact one _

/-- The count is the number of rows below `i` that hold a sum above the threshold. -/
theorem seenWord_toNat (i : grid0.Coords) (v20 v22 : FVec F S64x128 .f32) (v24 v27 : Vec F S1x1x64x128 .f32) :
    (seenWord i v20 v22 v24 v27).toNat = ∑ r : Fin 64, rowCount (above v20 v22 v24 v27) (i 1).val r :=
  count_toNat (above v20 v22 v24 v27) i

/-- So the count is at most `i`. -/
theorem seenWord_le (i : grid0.Coords) (v20 v22 : FVec F S64x128 .f32) (v24 v27 : Vec F S1x1x64x128 .f32) :
    (seenWord i v20 v22 v24 v27).toNat ≤ (i 1).val := by
  have hi : (i 1).val < 64 := (i 1).isLt
  rw [seenWord_toNat]
  refine (Finset.sum_le_sum fun r _ => rowCount_le _ _ r).trans ?_
  rw [Finset.sum_boole, Nat.cast_id, Fin.card_filter_val_lt]
  exact Nat.min_le_right _ _

/-- The body's assumption, at every point and whatever the saved sums are. -/
theorem chk_all (i : grid0.Coords) (v20 v22 : FVec F S64x128 .f32) (v24 v27 : Vec F S1x1x64x128 .f32) :
    k0_chk1 i (extractAt ![0, 0, 0] (k0_pay171 (BitVec.ofNat 32 (i 1).val) v20 v22 v24 v27) inpos_S1x1x1_p0_0_0) :=
  chk_of_le i _ _ rfl (seenWord_le i v20 v22 v24 v27)

end Cert.KernelIdeal.Hand

end
-- ==== Proof.PointIdeal.lean ====
/- Hand-written, untrusted. What the two runs of the body share: which of the grid's points is a group's first, and the loop's blocks. -/
module

public import proofs.«01_k».proof.Proof.SeenIdeal
public import proofs.«01_k».proof.Proof.Gen.KernelIdeal.Loops
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Hand

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The body's test of whether it is at a group's first point. -/
abbrev isFirst (i : grid0.Coords) : Prop :=
  Scalar.cmpi .ne (Scalar.extui (Scalar.cmpi .eq (BitVec.ofNat 32 (i 1).val) 0#32) : BitVec 32) 0#32 = 1#1

theorem isFirst_iff (t : Fin cfg0.N) : isFirst (grid0.coords t) ↔ t.val % 64 = 0 := by
  have ht : t.val < 128 := lt_of_lt_of_eq t.isLt N_0
  have e1 : (grid0.coords t 1).val = t.val / 1 % 64 := Pipeline.Grid.coords_val t 1 (by decide) rfl
  simp only [isFirst, e1]
  word_cmp

end Cert.KernelIdeal.Hand

end
-- ==== Proof.FirstIdeal.lean ====
/- Hand-written, untrusted. The body at the first point of a group of heads. -/
module

public import proofs.«01_k».proof.Proof.PointIdeal

@[expose] public section

set_option maxRecDepth 16384

noncomputable section

namespace Cert.KernelIdeal.Hand

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 4000000 in
/-- At the first point of a group of heads the body clears the two key gradients, so nothing of what their blocks held is read. The lists of pieces are what its stores leave in the three outputs. -/
def firstRun (c : Dev nD) (i : grid0.Coords)
    (bk : Memref sig .tc .vmem S4x64x64x128 .bf16) (hk : bk.IsWhole)
    (bv : Memref sig .tc .vmem S4x64x64x128 .bf16) (hv : bv.IsWhole)
    (bq : Memref sig .tc .vmem S4x64x128 .bf16) (hq : bq.IsWhole)
    (bg : Memref sig .tc .vmem S4x64x128 .bf16) (hg : bg.IsWhole)
    (br : Memref sig .tc .vmem S4x1x64x128 .f32) (hr : br.IsWhole)
    (bu : Memref sig .tc .vmem S128x128 .bf16) (hu : bu.IsWhole)
    (bl : Memref sig .tc .vmem S128x128 .bf16) (hl : bl.IsWhole)
    (b0 : Memref sig .tc .vmem S4x64x128 .f32) (h0 : b0.IsWhole)
    (b1 : Memref sig .tc .vmem S4x64x64x128 .f32) (h1 : b1.IsWhole)
    (b2 : Memref sig .tc .vmem S4x64x64x128 .f32) (h2 : b2.IsWhole)
    (hc : isFirst i) (xk : Vec F S4x64x64x128 .bf16) (xv : Vec F S4x64x64x128 .bf16) (xq : Vec F S4x64x128 .bf16) (xg : Vec F S4x64x128 .bf16) (xr : Vec F S4x1x64x128 .f32) (xu : Vec F S128x128 .bf16) (xl : Vec F S128x128 .bf16) :
    Σ' (L0 : List (View.Piece (Elt F) S4x64x128 .f32)), Σ' (L1 : List (View.Piece (Elt F) S4x64x64x128 .f32)),
    { L2 : List (View.Piece (Elt F) S4x64x64x128 .f32) // ∀ (E : Set ℕ) (K : PUnit → sProp 𝕄),
      iprop(owns (c : Thread nD τ) bk fullShare xk ∗ owns (c : Thread nD τ) bv fullShare xv ∗ owns (c : Thread nD τ) bq fullShare xq ∗ owns (c : Thread nD τ) bg fullShare xg ∗ owns (c : Thread nD τ) br fullShare xr ∗ owns (c : Thread nD τ) bu fullShare xu ∗ owns (c : Thread nD τ) bl fullShare xl ∗ (∃ d, owns (c : Thread nD τ) b0 fullShare d) ∗ (∃ d, owns (c : Thread nD τ) b1 fullShare d) ∗ (∃ d, owns (c : Thread nD τ) b2 fullShare d)
        ∗ (iprop(owns (c : Thread nD τ) bk fullShare xk ∗ owns (c : Thread nD τ) bv fullShare xv ∗ owns (c : Thread nD τ) bq fullShare xq ∗ owns (c : Thread nD τ) bg fullShare xg ∗ owns (c : Thread nD τ) br fullShare xr ∗ owns (c : Thread nD τ) bu fullShare xu ∗ owns (c : Thread nD τ) bl fullShare xl ∗ (∃ f, b0.view.loc (c : Thread nD τ) ↦[b0.view.set]{fullShare} b0.view.writes (Elt F) f L0) ∗ (∃ f, b1.view.loc (c : Thread nD τ) ↦[b1.view.set]{fullShare} b1.view.writes (Elt F) f L1) ∗ (∃ f, b2.view.loc (c : Thread nD τ) ↦[b2.view.set]{fullShare} b2.view.writes (Elt F) f L2)) -∗ K ⟨⟩))
      ⊢ wp frame (wpE (defs₀ (F := F)) Variants.none c none) E (cc0_att_bwd_l0 i bk hk bv hv bq hq bg hg br hr bu hu bl hl b0 h0 b1 h1 b2 h2) K } := by
  refine ⟨?_, ?_, ?_, fun E K => ?body⟩
  case body =>
    simp only [cc0_att_bwd_l0_eq_skeleton]
    unfold cc0_att_bwd_l0_skel
    simp only [k0_part25_eq_skeleton, k0_part26_eq_skeleton]
    unfold owns
    iintro ⟨⟨%fk, %ek, Hk⟩, ⟨%fv, %ev, Hv⟩, ⟨%fq, %eq, Hq⟩, ⟨%fg, %eg, Hg⟩, ⟨%fr, %er, Hr⟩, ⟨%fu, %eu, Hu⟩, ⟨%fl, %el, Hl⟩, ⟨%d0, %f0, -, H0⟩, ⟨%d1, %f1, -, H1⟩, ⟨%d2, %f2, -, H2⟩, Hend⟩
    obtain rfl := hk.eq_unread ek
    obtain rfl := hv.eq_unread ev
    obtain rfl := hq.eq_unread eq
    obtain rfl := hg.eq_unread eg
    obtain rfl := hr.eq_unread er
    obtain rfl := hu.eq_unread eu
    obtain rfl := hl.eq_unread el
    sl_exec (disch := first | sl_exact hc | exact chk_all _ _ _ _ _)
    sl_step
    iapply Hend
    isplitl [Hk]
    · iexists _
      isplitr
      · ipureintro; exact hk.read_unread _
      iexact Hk
    isplitl [Hv]
    · iexists _
      isplitr
      · ipureintro; exact hv.read_unread _
      iexact Hv
    isplitl [Hq]
    · iexists _
      isplitr
      · ipureintro; exact hq.read_unread _
      iexact Hq
    isplitl [Hg]
    · iexists _
      isplitr
      · ipureintro; exact hg.read_unread _
      iexact Hg
    isplitl [Hr]
    · iexists _
      isplitr
      · ipureintro; exact hr.read_unread _
      iexact Hr
    isplitl [Hu]
    · iexists _
      isplitr
      · ipureintro; exact hu.read_unread _
      iexact Hu
    isplitl [Hl]
    · iexists _
      isplitr
      · ipureintro; exact hl.read_unread _
      iexact Hl
    isplitl [H0]
    · iexists _; iexact H0
    isplitl [H1]
    · iexists _; iexact H1
    iexists _; iexact H2

end Cert.KernelIdeal.Hand

end
-- ==== Proof.LaterIdeal.lean ====
/- Hand-written, untrusted. The body at the other points of a group of heads. -/
module

public import proofs.«01_k».proof.Proof.FirstIdeal

@[expose] public section

set_option maxRecDepth 16384

noncomputable section

namespace Cert.KernelIdeal.Hand

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 4000000 in
/-- At a later point the body adds to what the blocks of the two key gradients hold. The lists of pieces are what its stores leave in the three outputs. -/
def laterRun (c : Dev nD) (i : grid0.Coords)
    (bk : Memref sig .tc .vmem S4x64x64x128 .bf16) (hk : bk.IsWhole)
    (bv : Memref sig .tc .vmem S4x64x64x128 .bf16) (hv : bv.IsWhole)
    (bq : Memref sig .tc .vmem S4x64x128 .bf16) (hq : bq.IsWhole)
    (bg : Memref sig .tc .vmem S4x64x128 .bf16) (hg : bg.IsWhole)
    (br : Memref sig .tc .vmem S4x1x64x128 .f32) (hr : br.IsWhole)
    (bu : Memref sig .tc .vmem S128x128 .bf16) (hu : bu.IsWhole)
    (bl : Memref sig .tc .vmem S128x128 .bf16) (hl : bl.IsWhole)
    (b0 : Memref sig .tc .vmem S4x64x128 .f32) (h0 : b0.IsWhole)
    (b1 : Memref sig .tc .vmem S4x64x64x128 .f32) (h1 : b1.IsWhole)
    (b2 : Memref sig .tc .vmem S4x64x64x128 .f32) (h2 : b2.IsWhole)
    (hc : ¬ isFirst i) (xk : Vec F S4x64x64x128 .bf16) (xv : Vec F S4x64x64x128 .bf16) (xq : Vec F S4x64x128 .bf16) (xg : Vec F S4x64x128 .bf16) (xr : Vec F S4x1x64x128 .f32) (xu : Vec F S128x128 .bf16) (xl : Vec F S128x128 .bf16) (y1 y2 : Vec F S4x64x64x128 .f32) :
    Σ' (L0 : List (View.Piece (Elt F) S4x64x128 .f32)), Σ' (L1 : List (View.Piece (Elt F) S4x64x64x128 .f32)),
    { L2 : List (View.Piece (Elt F) S4x64x64x128 .f32) // ∀ (E : Set ℕ) (K : PUnit → sProp 𝕄),
      iprop(owns (c : Thread nD τ) bk fullShare xk ∗ owns (c : Thread nD τ) bv fullShare xv ∗ owns (c : Thread nD τ) bq fullShare xq ∗ owns (c : Thread nD τ) bg fullShare xg ∗ owns (c : Thread nD τ) br fullShare xr ∗ owns (c : Thread nD τ) bu fullShare xu ∗ owns (c : Thread nD τ) bl fullShare xl ∗ (∃ d, owns (c : Thread nD τ) b0 fullShare d) ∗ owns (c : Thread nD τ) b1 fullShare y1 ∗ owns (c : Thread nD τ) b2 fullShare y2
        ∗ (iprop(owns (c : Thread nD τ) bk fullShare xk ∗ owns (c : Thread nD τ) bv fullShare xv ∗ owns (c : Thread nD τ) bq fullShare xq ∗ owns (c : Thread nD τ) bg fullShare xg ∗ owns (c : Thread nD τ) br fullShare xr ∗ owns (c : Thread nD τ) bu fullShare xu ∗ owns (c : Thread nD τ) bl fullShare xl ∗ (∃ f, b0.view.loc (c : Thread nD τ) ↦[b0.view.set]{fullShare} b0.view.writes (Elt F) f L0) ∗ (b1.view.loc (c : Thread nD τ) ↦[b1.view.set]{fullShare} b1.view.writes (Elt F) (h1.unread y1) L1) ∗ (b2.view.loc (c : Thread nD τ) ↦[b2.view.set]{fullShare} b2.view.writes (Elt F) (h2.unread y2) L2)) -∗ K ⟨⟩))
      ⊢ wp frame (wpE (defs₀ (F := F)) Variants.none c none) E (cc0_att_bwd_l0 i bk hk bv hv bq hq bg hg br hr bu hu bl hl b0 h0 b1 h1 b2 h2) K } := by
  refine ⟨?_, ?_, ?_, fun E K => ?body⟩
  case body =>
    simp only [cc0_att_bwd_l0_eq_skeleton]
    unfold cc0_att_bwd_l0_skel
    simp only [k0_part25_eq_skeleton, k0_part26_eq_skeleton]
    unfold owns
    iintro ⟨⟨%fk, %ek, Hk⟩, ⟨%fv, %ev, Hv⟩, ⟨%fq, %eq, Hq⟩, ⟨%fg, %eg, Hg⟩, ⟨%fr, %er, Hr⟩, ⟨%fu, %eu, Hu⟩, ⟨%fl, %el, Hl⟩, ⟨%d0, %f0, -, H0⟩, ⟨%f1, %e1, H1⟩, ⟨%f2, %e2, H2⟩, Hend⟩
    obtain rfl := hk.eq_unread ek
    obtain rfl := hv.eq_unread ev
    obtain rfl := hq.eq_unread eq
    obtain rfl := hg.eq_unread eg
    obtain rfl := hr.eq_unread er
    obtain rfl := hu.eq_unread eu
    obtain rfl := hl.eq_unread el
    obtain rfl := h1.eq_unread e1
    obtain rfl := h2.eq_unread e2
    sl_exec (disch := first | sl_exact hc | exact chk_all _ _ _ _ _)
    sl_step
    iapply Hend
    isplitl [Hk]
    · iexists _
      isplitr
      · ipureintro; exact hk.read_unread _
      iexact Hk
    isplitl [Hv]
    · iexists _
      isplitr
      · ipureintro; exact hv.read_unread _
      iexact Hv
    isplitl [Hq]
    · iexists _
      isplitr
      · ipureintro; exact hq.read_unread _
      iexact Hq
    isplitl [Hg]
    · iexists _
      isplitr
      · ipureintro; exact hg.read_unread _
      iexact Hg
    isplitl [Hr]
    · iexists _
      isplitr
      · ipureintro; exact hr.read_unread _
      iexact Hr
    isplitl [Hu]
    · iexists _
      isplitr
      · ipureintro; exact hu.read_unread _
      iexact Hu
    isplitl [Hl]
    · iexists _
      isplitr
      · ipureintro; exact hl.read_unread _
      iexact Hl
    isplitl [H0]
    · iexists _; iexact H0
    isplitl [H1]
    · iexact H1
    iexact H2

end Cert.KernelIdeal.Hand

end
-- ==== Proof.FrameIdeal.lean ====
/- Hand-written, untrusted. What the three outputs' buffers hold after every point of the grid, the pipeline's proof data, the body's
   triple at a point, the run of the program, and its frame. -/
module

public import proofs.«01_k».proof.Proof.LaterIdeal
public import Idealize.ShloMosaic.Lib.Ring
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a point -/

abbrev stage0 (t : Fin cfg0.N) : Memref sig .tc .vmem S4x64x64x128 .bf16 := win0_0.stage (cfg0.slots t 0)
abbrev whole0 (t : Fin cfg0.N) : (stage0 t).IsWhole := hstage0_0 ((cfg0.slots t 0).cast nbuf0_0)
abbrev stage1 (t : Fin cfg0.N) : Memref sig .tc .vmem S4x64x64x128 .bf16 := win0_1.stage (cfg0.slots t 1)
abbrev whole1 (t : Fin cfg0.N) : (stage1 t).IsWhole := hstage0_1 ((cfg0.slots t 1).cast nbuf0_1)
abbrev stage2 (t : Fin cfg0.N) : Memref sig .tc .vmem S4x64x128 .bf16 := win0_2.stage (cfg0.slots t 2)
abbrev whole2 (t : Fin cfg0.N) : (stage2 t).IsWhole := hstage0_2 ((cfg0.slots t 2).cast nbuf0_2)
abbrev stage3 (t : Fin cfg0.N) : Memref sig .tc .vmem S4x64x128 .bf16 := win0_3.stage (cfg0.slots t 3)
abbrev whole3 (t : Fin cfg0.N) : (stage3 t).IsWhole := hstage0_3 ((cfg0.slots t 3).cast nbuf0_3)
abbrev stage4 (t : Fin cfg0.N) : Memref sig .tc .vmem S4x1x64x128 .f32 := win0_4.stage (cfg0.slots t 4)
abbrev whole4 (t : Fin cfg0.N) : (stage4 t).IsWhole := hstage0_4 ((cfg0.slots t 4).cast nbuf0_4)
abbrev stage5 (t : Fin cfg0.N) : Memref sig .tc .vmem S128x128 .bf16 := win0_5.stage (cfg0.slots t 5)
abbrev whole5 (t : Fin cfg0.N) : (stage5 t).IsWhole := hstage0_5 ((cfg0.slots t 5).cast nbuf0_5)
abbrev stage6 (t : Fin cfg0.N) : Memref sig .tc .vmem S128x128 .bf16 := win0_6.stage (cfg0.slots t 6)
abbrev whole6 (t : Fin cfg0.N) : (stage6 t).IsWhole := hstage0_6 ((cfg0.slots t 6).cast nbuf0_6)
abbrev stage7 (t : Fin cfg0.N) : Memref sig .tc .vmem S4x64x128 .f32 := win0_7.stage (cfg0.slots t 7)
abbrev whole7 (t : Fin cfg0.N) : (stage7 t).IsWhole := hstage0_7 ((cfg0.slots t 7).cast nbuf0_7)
abbrev stage8 (t : Fin cfg0.N) : Memref sig .tc .vmem S4x64x64x128 .f32 := win0_8.stage (cfg0.slots t 8)
abbrev whole8 (t : Fin cfg0.N) : (stage8 t).IsWhole := hstage0_8 ((cfg0.slots t 8).cast nbuf0_8)
abbrev stage9 (t : Fin cfg0.N) : Memref sig .tc .vmem S4x64x64x128 .f32 := win0_9.stage (cfg0.slots t 9)
abbrev whole9 (t : Fin cfg0.N) : (stage9 t).IsWhole := hstage0_9 ((cfg0.slots t 9).cast nbuf0_9)

/-- The body at a group's first point, on that point's buffers and blocks. -/
abbrev firstAt (c : Dev nD) (t : Fin cfg0.N) (h : t.val % 64 = 0) :=
  firstRun c (grid0.coords t) (stage0 t) (whole0 t) (stage1 t) (whole1 t) (stage2 t) (whole2 t) (stage3 t) (whole3 t) (stage4 t) (whole4 t) (stage5 t) (whole5 t) (stage6 t) (whole6 t) (stage7 t) (whole7 t) (stage8 t) (whole8 t) (stage9 t) (whole9 t)
    ((isFirst_iff t).mpr h) (iblk m c 0 t) (iblk m c 1 t) (iblk m c 2 t) (iblk m c 3 t) (iblk m c 4 t) (iblk m c 5 t) (iblk m c 6 t)

/-- The body at another point, over what the point before left of the key gradients. -/
abbrev laterAt (c : Dev nD) (t : Fin cfg0.N) (h : ¬ t.val % 64 = 0) (y1 y2 : Vec F S4x64x64x128 .f32) :=
  laterRun c (grid0.coords t) (stage0 t) (whole0 t) (stage1 t) (whole1 t) (stage2 t) (whole2 t) (stage3 t) (whole3 t) (stage4 t) (whole4 t) (stage5 t) (whole5 t) (stage6 t) (whole6 t) (stage7 t) (whole7 t) (stage8 t) (whole8 t) (stage9 t) (whole9 t)
    (fun e => h ((isFirst_iff t).mp e)) (iblk m c 0 t) (iblk m c 1 t) (iblk m c 2 t) (iblk m c 3 t) (iblk m c 4 t) (iblk m c 5 t) (iblk m c 6 t) y1 y2

/-! ## What the stores leave -/

/-- The four stores of the query gradient fill its block. -/
theorem first0_cover (c : Dev nD) (t : Fin cfg0.N) (h : t.val % 64 = 0) (y : S4x64x128.Idx) :
    ∃ pc ∈ (firstAt m c t h).1, y ∈ pc.1.set :=
  View.cover_of_tiledL (firstAt m c t h).1 S1x64x128.size (by sl_kernel_rfl) y

theorem later0_cover (c : Dev nD) (t : Fin cfg0.N) (h : ¬ t.val % 64 = 0) (y1 y2 : Vec F S4x64x64x128 .f32) (y : S4x64x128.Idx) :
    ∃ pc ∈ (laterAt m c t h y1 y2).1, y ∈ pc.1.set :=
  View.cover_of_tiledL (laterAt m c t h y1 y2).1 S1x64x128.size (by sl_kernel_rfl) y

/-- The clearing store of a key gradient fills its block. -/
theorem first1_cover (c : Dev nD) (t : Fin cfg0.N) (h : t.val % 64 = 0) (y : S4x64x64x128.Idx) :
    ∃ pc ∈ (firstAt m c t h).2.1, y ∈ pc.1.set :=
  View.cover_of_wholeMem (firstAt m c t h).2.1 (by sl_whole_mem) y

theorem first2_cover (c : Dev nD) (t : Fin cfg0.N) (h : t.val % 64 = 0) (y : S4x64x64x128.Idx) :
    ∃ pc ∈ (firstAt m c t h).2.2.1, y ∈ pc.1.set :=
  View.cover_of_wholeMem (firstAt m c t h).2.2.1 (by sl_whole_mem) y

/-- The three outputs' blocks after a group's first point. -/
def firstOuts (c : Dev nD) (t : Fin cfg0.N) (h : t.val % 64 = 0) : Vec F S4x64x128 .f32 × Vec F S4x64x64x128 .f32 × Vec F S4x64x64x128 .f32 :=
  ((stage7 t).view.read (Elt F) ((stage7 t).view.writes (Elt F) (stage7 t).view.junk (firstAt m c t h).1),
    (stage8 t).view.read (Elt F) ((stage8 t).view.writes (Elt F) (stage8 t).view.junk (firstAt m c t h).2.1),
    (stage9 t).view.read (Elt F) ((stage9 t).view.writes (Elt F) (stage9 t).view.junk (firstAt m c t h).2.2.1))

/-- And after another point, over the key gradients `y1` and `y2`. -/
def laterOuts (c : Dev nD) (t : Fin cfg0.N) (h : ¬ t.val % 64 = 0) (y1 y2 : Vec F S4x64x64x128 .f32) :
    Vec F S4x64x128 .f32 × Vec F S4x64x64x128 .f32 × Vec F S4x64x64x128 .f32 :=
  ((stage7 t).view.read (Elt F) ((stage7 t).view.writes (Elt F) (stage7 t).view.junk (laterAt m c t h y1 y2).1),
    (stage8 t).view.read (Elt F) ((stage8 t).view.writes (Elt F) ((whole8 t).unread y1) (laterAt m c t h y1 y2).2.1),
    (stage9 t).view.read (Elt F) ((stage9 t).view.writes (Elt F) ((whole9 t).unread y2) (laterAt m c t h y1 y2).2.2.1))

/-- The outputs' blocks after point `n`. -/
def outs (c : Dev nD) : (n : ℕ) → n < cfg0.N → Vec F S4x64x128 .f32 × Vec F S4x64x64x128 .f32 × Vec F S4x64x64x128 .f32
  | 0, hn => firstOuts m c ⟨0, hn⟩ (Nat.zero_mod _)
  | n + 1, hn =>
    if h : (n + 1) % 64 = 0 then firstOuts m c ⟨n + 1, hn⟩ h
    else laterOuts m c ⟨n + 1, hn⟩ h (outs c n (Nat.lt_of_succ_lt hn)).2.1 (outs c n (Nat.lt_of_succ_lt hn)).2.2

theorem outs_first (c : Dev nD) (t : Fin cfg0.N) (h : t.val % 64 = 0) : outs m c t.val t.isLt = firstOuts m c t h := by
  obtain ⟨n, hn⟩ := t
  cases n with
  | zero => exact rfl
  | succ n => exact (dif_pos h).trans rfl

theorem outs_later (c : Dev nD) (t : Fin cfg0.N) (h : ¬ t.val % 64 = 0) :
    outs m c t.val t.isLt = laterOuts m c t h (outs m c (t.val - 1) (Nat.lt_of_le_of_lt (Nat.sub_le _ _) t.isLt)).2.1
      (outs m c (t.val - 1) (Nat.lt_of_le_of_lt (Nat.sub_le _ _) t.isLt)).2.2 := by
  obtain ⟨n, hn⟩ := t
  cases n with
  | zero => exact absurd (Nat.zero_mod _) h
  | succ n => exact (dif_neg h).trans rfl

/-! ## The proof data -/

/-- The arrays as the region finds them, and what every buffer holds after every point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2
  Φ _ := Pipeline.ΦA spec0 c
  q _ := fullShare
  owed _ := 0

theorem data_arrays (c : Dev nD) (w : Fin cfg0.W) : (data m 0 c).A w = V m c (Pipeline.arrRef spec0 w) := by dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = (outs m c t.val t.isLt).1 := by dsimp only [data]
theorem after8 (c : Dev nD) (t : Fin cfg0.N) : (data m 0 c).after 8 t = (outs m c t.val t.isLt).2.1 := by dsimp only [data]
theorem after9 (c : Dev nD) (t : Fin cfg0.N) : (data m 0 c).after 9 t = (outs m c t.val t.isLt).2.2 := by dsimp only [data]

theorem before0 (c : Dev nD) (t : Fin cfg0.N) (d) : (data m 0 c).before 0 t d = iblk m c 0 t :=
  before0_0_of m (data m 0 c) (data_arrays m c 0) (after0 m c) t d
theorem before1 (c : Dev nD) (t : Fin cfg0.N) (d) : (data m 0 c).before 1 t d = iblk m c 1 t :=
  before0_1_of m (data m 0 c) (data_arrays m c 1) (after1 m c) t d
theorem before2 (c : Dev nD) (t : Fin cfg0.N) (d) : (data m 0 c).before 2 t d = iblk m c 2 t :=
  before0_2_of m (data m 0 c) (data_arrays m c 2) (after2 m c) t d
theorem before3 (c : Dev nD) (t : Fin cfg0.N) (d) : (data m 0 c).before 3 t d = iblk m c 3 t :=
  before0_3_of m (data m 0 c) (data_arrays m c 3) (after3 m c) t d
theorem before4 (c : Dev nD) (t : Fin cfg0.N) (d) : (data m 0 c).before 4 t d = iblk m c 4 t :=
  before0_4_of m (data m 0 c) (data_arrays m c 4) (after4 m c) t d
theorem before5 (c : Dev nD) (t : Fin cfg0.N) (d) : (data m 0 c).before 5 t d = iblk m c 5 t :=
  before0_5_of m (data m 0 c) (data_arrays m c 5) (after5 m c) t d
theorem before6 (c : Dev nD) (t : Fin cfg0.N) (d) : (data m 0 c).before 6 t d = iblk m c 6 t :=
  before0_6_of m (data m 0 c) (data_arrays m c 6) (after6 m c) t d

/-- A key gradient's buffer holds, at a point that is not a group's first, what the point before left: it is written back only after a
    group's last point. -/
theorem before8 (c : Dev nD) (t : Fin cfg0.N) (h : ¬ t.val % 64 = 0) (d) :
    (data m 0 c).before 8 t d = (outs m c (t.val - 1) (Nat.lt_of_le_of_lt (Nat.sub_le _ _) t.isLt)).2.1 := by
  have ht : t.val < 128 := lt_of_lt_of_eq t.isLt N_0
  rw [Dat.before_out_kept _ 8 rfl t (by omega)
    (Bool.eq_false_iff.mpr fun e => by have := (flush0_8 _).mp e; dsimp only at this; omega) (fun _ => rfl) (fun _ _ => rfl)]
  dsimp only [data]

theorem before9 (c : Dev nD) (t : Fin cfg0.N) (h : ¬ t.val % 64 = 0) (d) :
    (data m 0 c).before 9 t d = (outs m c (t.val - 1) (Nat.lt_of_le_of_lt (Nat.sub_le _ _) t.isLt)).2.2 := by
  have ht : t.val < 128 := lt_of_lt_of_eq t.isLt N_0
  rw [Dat.before_out_kept _ 9 rfl t (by omega)
    (Bool.eq_false_iff.mpr fun e => by have := (flush0_9 _).mp e; dsimp only at this; omega) (fun _ => rfl) (fun _ _ => rfl)]
  dsimp only [data]

/-! ## The body at a point -/

/-- What the body finds at point `t`. -/
def found (c : Dev nD) (t : Fin cfg0.N) : sProp 𝕄 :=
  iprop((data m 0 c).Φ t.castSucc ∗ (data m 0 c).owesAt () t.castSucc
    ∗ (∃ d, owns (c : Thread nD τ) (stage0 t) fullShare ((data m 0 c).before 0 t d))
    ∗ (∃ d, owns (c : Thread nD τ) (stage1 t) fullShare ((data m 0 c).before 1 t d))
    ∗ (∃ d, owns (c : Thread nD τ) (stage2 t) fullShare ((data m 0 c).before 2 t d))
    ∗ (∃ d, owns (c : Thread nD τ) (stage3 t) fullShare ((data m 0 c).before 3 t d))
    ∗ (∃ d, owns (c : Thread nD τ) (stage4 t) fullShare ((data m 0 c).before 4 t d))
    ∗ (∃ d, owns (c : Thread nD τ) (stage5 t) fullShare ((data m 0 c).before 5 t d))
    ∗ (∃ d, owns (c : Thread nD τ) (stage6 t) fullShare ((data m 0 c).before 6 t d))
    ∗ (∃ d, owns (c : Thread nD τ) (stage7 t) fullShare ((data m 0 c).before 7 t d))
    ∗ (∃ d, owns (c : Thread nD τ) (stage8 t) fullShare ((data m 0 c).before 8 t d))
    ∗ (∃ d, owns (c : Thread nD τ) (stage9 t) fullShare ((data m 0 c).before 9 t d)))

/-- What it leaves. -/
def leaves (c : Dev nD) (t : Fin cfg0.N) : sProp 𝕄 :=
  iprop((data m 0 c).Φ t.succ ∗ (data m 0 c).owesAt () t.succ
    ∗ owns (c : Thread nD τ) (stage0 t) fullShare ((data m 0 c).after 0 t)
    ∗ owns (c : Thread nD τ) (stage1 t) fullShare ((data m 0 c).after 1 t)
    ∗ owns (c : Thread nD τ) (stage2 t) fullShare ((data m 0 c).after 2 t)
    ∗ owns (c : Thread nD τ) (stage3 t) fullShare ((data m 0 c).after 3 t)
    ∗ owns (c : Thread nD τ) (stage4 t) fullShare ((data m 0 c).after 4 t)
    ∗ owns (c : Thread nD τ) (stage5 t) fullShare ((data m 0 c).after 5 t)
    ∗ owns (c : Thread nD τ) (stage6 t) fullShare ((data m 0 c).after 6 t)
    ∗ owns (c : Thread nD τ) (stage7 t) fullShare ((data m 0 c).after 7 t)
    ∗ owns (c : Thread nD τ) (stage8 t) fullShare ((data m 0 c).after 8 t)
    ∗ owns (c : Thread nD τ) (stage9 t) fullShare ((data m 0 c).after 9 t))

set_option maxHeartbeats 1600000 in
theorem body_sound (c : Dev nD) (t : Fin cfg0.N) :
    found m c t ⊢ wp frame (wpE (defs₀ (F := F)) Variants.none c none) Set.univ (bodyAt0 t) (fun _ => leaves m c t) := by
  unfold found leaves bodyAt0
  simp only [before0, before1, before2, before3, before4, before5, before6]
  rw [show (data m 0 c).Φ t.succ = (data m 0 c).Φ t.castSucc from rfl,
    show (data m 0 c).owesAt () t.succ = (data m 0 c).owesAt () t.castSucc from rfl,
    after0, after1, after2, after3, after4, after5, after6, after7, after8, after9]
  by_cases h : t.val % 64 = 0
  · rw [outs_first m c t h]
    unfold firstOuts
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((firstAt m c t h).2.2.2 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexists _; iexact H7
    isplitl [H8]
    · iexists _; iexact H8
    isplitl [H9]
    · iexists _; iexact H9
    iintro ⟨H0, H1, H2, H3, H4, H5, H6, ⟨%e7, H7⟩, ⟨%e8, H8⟩, ⟨%e9, H9⟩⟩
    isplitl [HΦ]
    · iexact HΦ
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · unfold owns
      iexists _
      isplitr
      swap
      · iexact H7
      ipureintro
      exact View.read_writes_of_cover _ _ _ _ _ (first0_cover m c t h)
    isplitl [H8]
    · unfold owns
      iexists _
      isplitr
      swap
      · iexact H8
      ipureintro
      exact View.read_writes_of_cover _ _ _ _ _ (first1_cover m c t h)
    unfold owns
    iexists _
    isplitr
    swap
    · iexact H9
    ipureintro
    exact View.read_writes_of_cover _ _ _ _ _ (first2_cover m c t h)
  · rw [outs_later m c t h]
    simp only [before8 m c t h, before9 m c t h]
    unfold laterOuts
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((laterAt m c t h _ _).2.2.2 Set.univ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexists _; iexact H7
    isplitl [H8]
    · iexact H8
    isplitl [H9]
    · iexact H9
    iintro ⟨H0, H1, H2, H3, H4, H5, H6, ⟨%e7, H7⟩, H8, H9⟩
    isplitl [HΦ]
    · iexact HΦ
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · unfold owns
      iexists _
      isplitr
      swap
      · iexact H7
      ipureintro
      exact View.read_writes_of_cover _ _ _ _ _ (later0_cover m c t h _ _)
    isplitl [H8]
    · unfold owns
      iexists _
      isplitr
      swap
      · iexact H8
      ipureintro
      exact rfl
    unfold owns
    iexists _
    isplitr
    swap
    · iexact H9
    ipureintro
    exact rfl

theorem body_row (t : Fin cfg0.N) : defs₀ (F := F) .tc cfg0.body (cfg0.bodyArgs t (cfg0.slots t)) = bodyAt0 t := by
  unfold defs₀; rw [Defs.onTc_tc]

theorem body_meets (c : Dev nD) : BodyObligation (data (F := F) m 0 c) (defs₀ (F := F)) Variants.none () Set.univ := fun t => by
  rw [bigSep_W0, bigSep_W0, body_row]
  exact triple_restated (body_sound m c t) rfl .rfl fun _ => .rfl

/-! ## The run -/

set_option backward.isDefEq.respectTransparency.types false in
/-- Every weakly fair execution ends, with the pipeline's arrays at what the proof data say and every counter at zero. -/
theorem run_ends : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body_meets m c).loose) (hshare := fun c => (data m 0 c).share_full fun _ => rfl)
    (howed := fun _ _ => rfl) (V := V m) (hmain := hmain m Variants.none) (hA := data_arrays m) (hΦ := fun _ _ => rfl)

theorem run_arrays : θ_run defs (onTc (τ := τ) (main (F := F))) (s₀ m ρ) (Pipeline.FramePost cfgs (data m) 0 (V m)) :=
  (θ_run defs _ _).mono (fun _ h => h.1) (run_ends m ρ)

/-- The program's frame: it ends, leaves its arguments as they were, and leaves no counter raised. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_arrays m) (run_arrays m ρ)) ((θ_run defs _ _).mono (fun _ h => h.2) (run_ends m ρ))

end Cert.KernelIdeal.Hand

end
-- ==== Proof.Scalars.lean ====
/- Hand-written, untrusted. Facts of single numbers: extended reals that are reals, the logistic function, and log(1 + eˣ) written
   without overflow. -/
module

public import Idealize.ShloMosaic.Lib.Pointwise
public import Idealize.ShloMosaic.Lib.IdealHost

@[expose] public section

noncomputable section

namespace Cert.Attn

open Idealize.ShloMosaic

/-! ## Sums of reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type*} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

theorem coe_max (x y : ℝ) : max (x : EReal) (y : EReal) = ((max x y : ℝ) : EReal) :=
  (EReal.coe_strictMono.monotone.map_max).symm

theorem coe_min (x y : ℝ) : min (x : EReal) (y : EReal) = ((min x y : ℝ) : EReal) :=
  (EReal.coe_strictMono.monotone.map_min).symm

theorem coe_abs (x : ℝ) : max (x : EReal) (-(x : EReal)) = ((|x| : ℝ) : EReal) := by
  rw [← EReal.coe_neg, coe_max]; rfl

theorem coe_log1p (x : ℝ) (h : 0 ≤ x) : Ideal.log1p (x : EReal) = ((Real.log (1 + x) : ℝ) : EReal) := by
  show Ideal.log ((1 : EReal) + (x : EReal)) = _
  rw [← EReal.coe_one, ← EReal.coe_add]
  show (if 1 + x ≤ 0 then (⊥ : EReal) else _) = _
  rw [if_neg (by linarith)]

theorem coe_div (x y : ℝ) (h : y ≠ 0) : Ideal.div (x : EReal) (y : EReal) = ((x / y : ℝ) : EReal) := by
  unfold Ideal.div
  rw [if_neg (fun e => h (EReal.coe_eq_zero.mp e)), ← EReal.coe_inv, ← EReal.coe_mul]
  rfl

theorem ofBits_one : Ideal.ofBits .f32 0x3F800000#32 = ((1 : ℝ) : EReal) := Ideal.ofBits_one_f32.trans EReal.coe_one.symm

theorem ofBits_eighth : Ideal.ofBits .f32 0x3E000000#32 = ((1 / 8 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32]; rfl

/-! ## The logistic function -/

/-- log(1 + eˣ). -/
def sp (x : ℝ) : ℝ := Real.log (1 + Real.exp x)

/-- eˣ / (1 + eˣ). -/
def sg (x : ℝ) : ℝ := Real.exp x / (1 + Real.exp x)

theorem one_add_exp_pos (x : ℝ) : 0 < 1 + Real.exp x := by have := Real.exp_pos x; linarith

theorem sp_sub (x : ℝ) : sp x - x = sp (-x) := by
  unfold sp
  have h : 1 + Real.exp x = Real.exp x * (1 + Real.exp (-x)) := by
    rw [mul_add, mul_one, ← Real.exp_add]; simp [add_comm]
  rw [h, Real.log_mul (Real.exp_pos x).ne' (one_add_exp_pos _).ne', Real.log_exp]; ring

theorem exp_sub_sp (x : ℝ) : Real.exp (x - sp x) = sg x := by
  unfold sp sg
  rw [Real.exp_sub, Real.exp_log (one_add_exp_pos x)]

theorem sg_neg (x : ℝ) : sg (-x) = 1 / (1 + Real.exp x) := by
  unfold sg
  have h : 1 + Real.exp x = Real.exp x * (1 + Real.exp (-x)) := by
    rw [mul_add, mul_one, ← Real.exp_add]; simp [add_comm]
  have h1 := one_add_exp_pos (-x)
  have h2 := Real.exp_pos x
  have h3 : Real.exp (-x) * Real.exp x = 1 := by rw [← Real.exp_add]; simp
  rw [h, div_eq_div_iff h1.ne' (mul_pos h2 h1).ne']
  linear_combination (1 + Real.exp (-x)) * h3

/-- The log of one plus the exponential, from the exponential of minus the absolute value. -/
theorem sp_of_abs (x : ℝ) : max x 0 + Real.log (1 + Real.exp (-|x|)) = sp x := by
  rcases le_total 0 x with h | h
  · rw [max_eq_left h, abs_of_nonneg h]
    have := sp_sub x
    unfold sp at this ⊢
    linarith
  · rw [max_eq_right h, abs_of_nonpos h, neg_neg, zero_add]; rfl

theorem neg_sp_neg_of_abs (x : ℝ) : min x 0 - Real.log (1 + Real.exp (-|x|)) = - sp (-x) := by
  have h := sp_of_abs (-x)
  rw [abs_neg] at h
  have : max (-x) 0 = - min x 0 := by rcases le_total 0 x with h | h <;> simp [h]
  rw [this] at h
  linarith

theorem sg_of_abs (x : ℝ) :
    (if 0 ≤ x then 1 / (1 + Real.exp (-|x|)) else Real.exp (-|x|) * (1 / (1 + Real.exp (-|x|)))) = sg x := by
  split
  · next h =>
    rw [abs_of_nonneg h]
    have := sg_neg (-x)
    rw [neg_neg] at this
    exact this.symm
  · next h =>
    rw [abs_of_neg (not_le.mp h), neg_neg]
    unfold sg; ring

theorem sg_neg_of_abs (x : ℝ) :
    (if 0 ≤ x then Real.exp (-|x|) * (1 / (1 + Real.exp (-|x|))) else 1 / (1 + Real.exp (-|x|))) = sg (-x) := by
  split
  · next h =>
    rw [abs_of_nonneg h]
    unfold sg; ring
  · next h =>
    rw [abs_of_neg (not_le.mp h), neg_neg]
    exact (sg_neg x).symm

end Cert.Attn
-- ==== Proof.Head.lean ====
/- Hand-written, untrusted. One head of one key block against one block of queries: the kernel's operations as functions of the loaded
   blocks, and what they are on real numbers. -/
module

public import proofs.«01_k».proof.Proof.Gen.KernelIdeal
public import proofs.«01_k».proof.Proof.Scalars

@[expose] public section

set_option maxRecDepth 16384

noncomputable section

namespace Cert.KernelIdeal.Hand

open Idealize.ShloMosaic Cert.KernelIdeal.Gen Cert.Attn

/-! ## The operations -/

/-- A square of zeros. -/
def zeros : FVec Ideal S128x128 .f32 := broadcast S128x128 (Scalar.ofBits .f32 0x00000000#32)

/-- The logits of keys `k` (down) and queries `q` (across). -/
def zOf (k q : FVec Ideal S64x128 .bf16) : FVec Ideal S128x128 .f32 :=
  mulf (matmul dot_S64x128_S64x128_S128x128_0_0_1_1_n_n none k q (constant S128x128 .f32 0x00000000#32))
    (broadcast S128x128 (Scalar.ofBits .f32 0x3E000000#32))

/-- The exponential of minus the absolute value. -/
def eOf (z : FVec Ideal S128x128 .f32) : FVec Ideal S128x128 .f32 := exp (subf zeros (absf z))

/-- The log of the logistic function. -/
def lbOf (z : FVec Ideal S128x128 .f32) : FVec Ideal S128x128 .f32 := subf (minimumf z zeros) (log1p (eOf z))

/-- The log of one minus it, where the mask holds. -/
def l1Of (p : IVec S128x128 1) (z : FVec Ideal S128x128 .f32) : FVec Ideal S128x128 .f32 := select p (subf (lbOf z) z) zeros

/-- A product with a 0/1 triangle in two halves: the leading digits of `x` and what they leave. -/
def split (tri : FVec Ideal S128x128 .bf16) (x : FVec Ideal S128x128 .f32) : FVec Ideal S128x128 .f32 :=
  addf (matmul dot_S128x128_S128x128_S128x128_1_0_0_1_n_n none tri (truncf .bf16 x bitsLt_bf16_f32) (constant S128x128 .f32 0x00000000#32))
    (matmul dot_S128x128_S128x128_S128x128_1_0_0_1_n_n none tri
      (truncf .bf16 (subf x (extf .f32 (truncf .bf16 x bitsLt_bf16_f32) bitsLt_bf16_f32)) bitsLt_bf16_f32) (constant S128x128 .f32 0x00000000#32))

/-- The sums down the columns. -/
def colSum (x : FVec Ideal S128x128 .f32) : FVec Ideal S1x128 .f32 :=
  shapeCast S1x128 (multiReduction .add [0] S128 x 0x00000000#32 reduces_S128x128_S128 (.inl rfl) rfl) shapeCasts_S128_S1x128

/-- The row of `r` that the mask picks. -/
def pickRow (p : IVec S8x128 1) (r : FVec Ideal S8x128 .f32) : FVec Ideal S1x128 .f32 :=
  shapeCast S1x128 (multiReduction .add [0] S128 (select p r (broadcast S8x128 (Scalar.ofBits .f32 0x00000000#32))) 0x00000000#32 reduces_S8x128_S128 (.inl rfl) rfl)
    shapeCasts_S128_S1x128

/-- The attention weights. -/
def wOf (p : IVec S128x128 1) (z : FVec Ideal S128x128 .f32) (tri : FVec Ideal S128x128 .bf16) (run : FVec Ideal S1x128 .f32) :
    FVec Ideal S128x128 .f32 :=
  select p (exp (addf (addf (lbOf z) (split tri (l1Of p z))) (broadcastTo S128x128 run broadcasts_S1x128_S128x128))) zeros

/-- The gradients of the weights. -/
def daOf (v c : FVec Ideal S64x128 .bf16) : FVec Ideal S128x128 .f32 :=
  matmul dot_S64x128_S64x128_S128x128_0_0_1_1_n_n none v c (constant S128x128 .f32 0x00000000#32)

def ones : FVec Ideal S128x128 .f32 := broadcast S128x128 (Scalar.ofBits .f32 0x3F800000#32)

def invOf (z : FVec Ideal S128x128 .f32) : FVec Ideal S128x128 .f32 := divf ones (addf ones (eOf z))

/-- The gradients of the scaled products of keys and queries. -/
def dzOf (p : IVec S128x128 1) (z g : FVec Ideal S128x128 .f32) (tri : FVec Ideal S128x128 .bf16) (sum : FVec Ideal S1x128 .f32) :
    FVec Ideal S128x128 .f32 :=
  mulf (select p (subf (mulf g (select (cmpf .oge z zeros) (mulf (eOf z) (invOf z)) (invOf z)))
      (mulf (addf (split tri g) (broadcastTo S128x128 sum broadcasts_S1x128_S128x128))
        (select (cmpf .oge z zeros) (invOf z) (mulf (eOf z) (invOf z))))) zeros)
    (broadcast S128x128 (Scalar.ofBits .f32 0x3E000000#32))

/-- What a block adds to the query gradients. -/
def dqAdd (k : FVec Ideal S64x128 .bf16) (dz : FVec Ideal S128x128 .f32) : FVec Ideal S64x128 .f32 :=
  matmul dot_S64x128_S128x128_S64x128_1_0_0_1_n_n none k (truncf .bf16 dz bitsLt_bf16_f32) (constant S64x128 .f32 0x00000000#32)

/-- What it adds to a key or a value gradient. -/
def dkAdd (q : FVec Ideal S64x128 .bf16) (dz : FVec Ideal S128x128 .f32) : FVec Ideal S64x128 .f32 :=
  matmul dot_S64x128_S128x128_S64x128_1_1_0_0_n_n none q (truncf .bf16 dz bitsLt_bf16_f32) (constant S64x128 .f32 0x00000000#32)

end Cert.KernelIdeal.Hand
-- ==== Proof.HeadValue.lean ====
/- Hand-written, untrusted. The head's operations on real numbers. -/
module

public import proofs.«01_k».proof.Proof.Head

@[expose] public section

set_option maxRecDepth 16384

noncomputable section

namespace Cert.KernelIdeal.Hand

open Idealize.ShloMosaic Cert.KernelIdeal.Gen Cert.Attn

/-- A matrix of reals, as extended reals. -/
def IsReal {a b : ℕ} {φ : FTy} (x : FVec Ideal ⟨2, ![a, b]⟩ φ) (r : Fin a → Fin b → ℝ) : Prop :=
  ∀ i j, x (ix2 i j) = ((r i j : ℝ) : EReal)

theorem zOf_apply (k q : FVec Ideal S64x128 .bf16) (s t : Fin 128) :
    zOf k q (ix2 s t) = (∑ d : Fin 64, k (ix2 d s) * q (ix2 d t)) * Ideal.ofBits .f32 0x3E000000#32 := by
  pointwise [zOf]

theorem zOf_real {k q : FVec Ideal S64x128 .bf16} {kr qr : Fin 64 → Fin 128 → ℝ} (hk : IsReal k kr) (hq : IsReal q qr) :
    IsReal (zOf k q) fun s t => (∑ d, kr d s * qr d t) * (1 / 8) := fun s t => by
  rw [zOf_apply, ofBits_eighth, Finset.sum_congr rfl (fun d _ => by rw [hk d s, hq d t]), coe_sum_mul, ← EReal.coe_mul]

theorem zeros_apply (s t : Fin 128) : zeros (ix2 s t) = ((0 : ℝ) : EReal) := ofBits_zero
theorem ones_apply (s t : Fin 128) : ones (ix2 s t) = ((1 : ℝ) : EReal) := ofBits_one

theorem eOf_real {z : FVec Ideal S128x128 .f32} {r : Fin 128 → Fin 128 → ℝ} (h : IsReal z r) :
    IsReal (eOf z) fun s t => Real.exp (-|r s t|) := fun s t => by
  show Ideal.exp (zeros (ix2 s t) - max (z (ix2 s t)) (-(z (ix2 s t)))) = _
  rw [h s t, coe_abs, zeros_apply, ← EReal.coe_sub, zero_sub]
  rfl

theorem lbOf_real {z : FVec Ideal S128x128 .f32} {r : Fin 128 → Fin 128 → ℝ} (h : IsReal z r) :
    IsReal (lbOf z) fun s t => -sp (-(r s t)) := fun s t => by
  show min (z (ix2 s t)) (zeros (ix2 s t)) - Ideal.log1p (eOf z (ix2 s t)) = _
  rw [h s t, zeros_apply, eOf_real h s t, coe_log1p _ (Real.exp_pos _).le, coe_min, ← EReal.coe_sub, neg_sp_neg_of_abs]

/-- A mask, as a relation. -/
def IsMask {a b : ℕ} (p : IVec ⟨2, ![a, b]⟩ 1) (P : Fin a → Fin b → Prop) [∀ i j, Decidable (P i j)] : Prop :=
  ∀ i j, p (ix2 i j) = BitVec.ofBool (decide (P i j))

theorem select_ofBool {α : Type} (c : Prop) [Decidable c] (x y : α) : Scalar.select (BitVec.ofBool (decide c)) x y = if c then x else y := by
  by_cases h : c <;> simp [h, Scalar.select]

theorem select_real {p : IVec S128x128 1} {P : Fin 128 → Fin 128 → Prop} [∀ i j, Decidable (P i j)] (hp : IsMask p P)
    {x : FVec Ideal S128x128 .f32} {r : Fin 128 → Fin 128 → ℝ} (h : IsReal x r) :
    IsReal (select p x zeros) fun s t => if P s t then r s t else 0 := fun s t => by
  show Scalar.select (p (ix2 s t)) (x (ix2 s t)) (zeros (ix2 s t)) = _
  rw [hp s t, select_ofBool, h s t, zeros_apply]
  by_cases hc : P s t <;> simp only [hc, if_true, if_false]

theorem l1Of_real {p : IVec S128x128 1} {P : Fin 128 → Fin 128 → Prop} [∀ i j, Decidable (P i j)] (hp : IsMask p P)
    {z : FVec Ideal S128x128 .f32} {r : Fin 128 → Fin 128 → ℝ} (h : IsReal z r) :
    IsReal (l1Of p z) fun s t => if P s t then -sp (r s t) else 0 := by
  refine select_real hp (r := fun s t => -sp (r s t)) fun s t => ?_
  show lbOf z (ix2 s t) - z (ix2 s t) = _
  rw [lbOf_real h s t, h s t, ← EReal.coe_sub]
  have e := sp_sub (-(r s t))
  rw [neg_neg] at e
  beta_reduce
  rw [← e]
  congr 1
  ring

theorem split_apply (tri : FVec Ideal S128x128 .bf16) (x : FVec Ideal S128x128 .f32) (s t : Fin 128) :
    split tri x (ix2 s t) = (∑ j : Fin 128, tri (ix2 s j) * x (ix2 j t)) + ∑ j : Fin 128, tri (ix2 s j) * (x (ix2 j t) - x (ix2 j t)) := by
  pointwise [split]

theorem split_real {tri : FVec Ideal S128x128 .bf16} {T : Fin 128 → Fin 128 → ℝ} (ht : IsReal tri T)
    {x : FVec Ideal S128x128 .f32} {r : Fin 128 → Fin 128 → ℝ} (h : IsReal x r) :
    IsReal (split tri x) fun s t => ∑ j, T s j * r j t := fun s t => by
  have e : ∑ j : Fin 128, tri (ix2 s j) * (x (ix2 j t) - x (ix2 j t)) = 0 :=
    Finset.sum_eq_zero fun j _ => by rw [h j t, ← EReal.coe_sub, sub_self, EReal.coe_zero, mul_zero]
  rw [split_apply, e, add_zero, Finset.sum_congr rfl (fun d _ => by rw [ht s d, h d t]), coe_sum_mul]

/-- A row of reals. -/
def IsRow {b : ℕ} (x : FVec Ideal ⟨2, ![1, b]⟩ .f32) (r : Fin b → ℝ) : Prop := ∀ j, x (ix2 0 j) = ((r j : ℝ) : EReal)

theorem colSum_apply (x : FVec Ideal S128x128 .f32) (t : Fin 128) : colSum x (ix2 0 t) = ∑ s : Fin 128, x (ix2 s t) := by
  pointwise [colSum]

theorem colSum_real {x : FVec Ideal S128x128 .f32} {r : Fin 128 → Fin 128 → ℝ} (h : IsReal x r) :
    IsRow (colSum x) fun t => ∑ s, r s t := fun t => by
  rw [colSum_apply, Finset.sum_congr rfl (fun s _ => h s t), coe_sum]

theorem pickRow_apply (p : IVec S8x128 1) (r : FVec Ideal S8x128 .f32) (t : Fin 128) :
    pickRow p r (ix2 0 t) = ∑ s : Fin 8, Scalar.select (p (ix2 s t)) (r (ix2 s t)) (Ideal.ofBits .f32 0x00000000#32) := by
  pointwise [pickRow]

theorem pickRow_eq {p : IVec S8x128 1} {k : Fin 8} (hp : IsMask p fun s _ => s = k) (r : FVec Ideal S8x128 .f32) (t : Fin 128) :
    pickRow p r (ix2 0 t) = r (ix2 k t) := by
  rw [pickRow_apply, Finset.sum_congr rfl (fun s _ => by rw [hp s t, select_ofBool, Ideal.ofBits_zero_f32]),
    Finset.sum_ite_eq' Finset.univ k (fun s => r (ix2 s t))]
  simp

theorem wOf_apply (p : IVec S128x128 1) (z : FVec Ideal S128x128 .f32) (tri : FVec Ideal S128x128 .bf16) (run : FVec Ideal S1x128 .f32)
    (s t : Fin 128) : wOf p z tri run (ix2 s t)
      = Scalar.select (p (ix2 s t)) (Ideal.exp ((lbOf z (ix2 s t) + split tri (l1Of p z) (ix2 s t)) + run (ix2 0 t))) (zeros (ix2 s t)) := by
  pointwise [wOf]

theorem wOf_real {p : IVec S128x128 1} {P : Fin 128 → Fin 128 → Prop} [∀ i j, Decidable (P i j)] (hp : IsMask p P)
    {z : FVec Ideal S128x128 .f32} {r : Fin 128 → Fin 128 → ℝ} (h : IsReal z r)
    {tri : FVec Ideal S128x128 .bf16} {T : Fin 128 → Fin 128 → ℝ} (ht : IsReal tri T) {run : FVec Ideal S1x128 .f32} {ru : Fin 128 → ℝ}
    (hr : IsRow run ru) :
    IsReal (wOf p z tri run) fun s t =>
      if P s t then Real.exp (-sp (-(r s t)) + (∑ j, T s j * (if P j t then -sp (r j t) else 0)) + ru t) else 0 := fun s t => by
  rw [wOf_apply, hp s t, select_ofBool, lbOf_real h s t, split_real ht (l1Of_real hp h) s t, hr t, zeros_apply, ← EReal.coe_add,
    ← EReal.coe_add]
  by_cases hc : P s t <;> simp only [hc, if_true, if_false]
  rfl

theorem daOf_apply (v c : FVec Ideal S64x128 .bf16) (s t : Fin 128) :
    daOf v c (ix2 s t) = ∑ d : Fin 64, v (ix2 d s) * c (ix2 d t) := by
  pointwise [daOf]

theorem daOf_real {v c : FVec Ideal S64x128 .bf16} {vr cr : Fin 64 → Fin 128 → ℝ} (hv : IsReal v vr) (hc : IsReal c cr) :
    IsReal (daOf v c) fun s t => ∑ d, vr d s * cr d t := fun s t => by
  rw [daOf_apply, Finset.sum_congr rfl (fun d _ => by rw [hv d s, hc d t]), coe_sum_mul]

theorem mulf_real {a b : ℕ} {x y : FVec Ideal ⟨2, ![a, b]⟩ .f32} {r u : Fin a → Fin b → ℝ} (hx : IsReal x r) (hy : IsReal y u) :
    IsReal (mulf x y) fun s t => r s t * u s t := fun s t => by
  show x (ix2 s t) * y (ix2 s t) = _
  rw [hx s t, hy s t, EReal.coe_mul]

theorem addf_real {a b : ℕ} {x y : FVec Ideal ⟨2, ![a, b]⟩ .f32} {r u : Fin a → Fin b → ℝ} (hx : IsReal x r) (hy : IsReal y u) :
    IsReal (addf x y) fun s t => r s t + u s t := fun s t => by
  show x (ix2 s t) + y (ix2 s t) = _
  rw [hx s t, hy s t, EReal.coe_add]

theorem invOf_real {z : FVec Ideal S128x128 .f32} {r : Fin 128 → Fin 128 → ℝ} (h : IsReal z r) :
    IsReal (invOf z) fun s t => 1 / (1 + Real.exp (-|r s t|)) := fun s t => by
  show Ideal.div (ones (ix2 s t)) (ones (ix2 s t) + eOf z (ix2 s t)) = _
  rw [ones_apply, eOf_real h s t, ← EReal.coe_add, coe_div _ _ (one_add_exp_pos _).ne']

theorem dzOf_apply (p : IVec S128x128 1) (z g : FVec Ideal S128x128 .f32) (tri : FVec Ideal S128x128 .bf16) (sum : FVec Ideal S1x128 .f32)
    (s t : Fin 128) : dzOf p z g tri sum (ix2 s t)
      = Scalar.select (p (ix2 s t)) (g (ix2 s t) * Scalar.select (Ideal.cmp .oge (z (ix2 s t)) (zeros (ix2 s t))) (eOf z (ix2 s t) * invOf z (ix2 s t)) (invOf z (ix2 s t))
          - (split tri g (ix2 s t) + sum (ix2 0 t)) * Scalar.select (Ideal.cmp .oge (z (ix2 s t)) (zeros (ix2 s t))) (invOf z (ix2 s t)) (eOf z (ix2 s t) * invOf z (ix2 s t)))
          (zeros (ix2 s t)) * Ideal.ofBits .f32 0x3E000000#32 := by
  pointwise [dzOf]

theorem cmp_oge (x y : ℝ) : Ideal.cmp .oge (x : EReal) (y : EReal) = BitVec.ofBool (decide (y ≤ x)) := by
  unfold Ideal.cmp
  simp only [EReal.coe_le_coe_iff]

theorem dzOf_real {p : IVec S128x128 1} {P : Fin 128 → Fin 128 → Prop} [∀ i j, Decidable (P i j)] (hp : IsMask p P)
    {z g : FVec Ideal S128x128 .f32} {r gr : Fin 128 → Fin 128 → ℝ} (h : IsReal z r) (hg : IsReal g gr)
    {tri : FVec Ideal S128x128 .bf16} {T : Fin 128 → Fin 128 → ℝ} (ht : IsReal tri T) {sum : FVec Ideal S1x128 .f32} {su : Fin 128 → ℝ}
    (hs : IsRow sum su) :
    IsReal (dzOf p z g tri sum) fun s t =>
      (if P s t then gr s t * sg (-(r s t)) - ((∑ j, T s j * gr j t) + su t) * sg (r s t) else 0) * (1 / 8) := fun s t => by
  rw [dzOf_apply, hp s t, select_ofBool, h s t, zeros_apply, cmp_oge, select_ofBool, select_ofBool, hg s t, eOf_real h s t, invOf_real h s t,
    split_real ht hg s t, hs t, ofBits_eighth]
  beta_reduce
  rw [← sg_of_abs (r s t), ← sg_neg_of_abs (r s t)]
  simp only [← EReal.coe_mul, ← EReal.coe_add]
  by_cases h1 : P s t <;> by_cases h2 : 0 ≤ r s t <;> simp only [h1, h2, if_true, if_false, ← EReal.coe_mul, ← EReal.coe_sub]

theorem dqAdd_apply (k : FVec Ideal S64x128 .bf16) (dz : FVec Ideal S128x128 .f32) (d : Fin 64) (t : Fin 128) :
    dqAdd k dz (ix2 d t) = ∑ s : Fin 128, k (ix2 d s) * dz (ix2 s t) := by
  pointwise [dqAdd]

theorem dqAdd_real {k : FVec Ideal S64x128 .bf16} {kr : Fin 64 → Fin 128 → ℝ} (hk : IsReal k kr) {dz : FVec Ideal S128x128 .f32}
    {r : Fin 128 → Fin 128 → ℝ} (h : IsReal dz r) : IsReal (dqAdd k dz) fun d t => ∑ s, kr d s * r s t := fun d t => by
  rw [dqAdd_apply, Finset.sum_congr rfl (fun s _ => by rw [hk d s, h s t]), coe_sum_mul]

theorem dkAdd_apply (q : FVec Ideal S64x128 .bf16) (dz : FVec Ideal S128x128 .f32) (d : Fin 64) (s : Fin 128) :
    dkAdd q dz (ix2 d s) = ∑ t : Fin 128, q (ix2 d t) * dz (ix2 s t) := by
  pointwise [dkAdd]

theorem dkAdd_real {q : FVec Ideal S64x128 .bf16} {qr : Fin 64 → Fin 128 → ℝ} (hq : IsReal q qr) {dz : FVec Ideal S128x128 .f32}
    {r : Fin 128 → Fin 128 → ℝ} (h : IsReal dz r) : IsReal (dkAdd q dz) fun d s => ∑ t, qr d t * r s t := fun d s => by
  rw [dkAdd_apply, Finset.sum_congr rfl (fun t _ => by rw [hq d t, h s t]), coe_sum_mul]

end Cert.KernelIdeal.Hand
-- ==== Proof.Trip.lean ====
/- Hand-written, untrusted. One trip of the loop over key blocks, in the head's operations. -/
module

public import proofs.«01_k».proof.Proof.PointIdeal
public import proofs.«01_k».proof.Proof.HeadValue

@[expose] public section

set_option maxRecDepth 16384

noncomputable section

namespace Cert.KernelIdeal.Hand

open Idealize.ShloMosaic Idealize.ShloMosaic.TcCoe Idealize.ShloMosaic.Tactic
open Cert.KernelIdeal.Gen Cert.Attn

/-- Where key block `j` lies before the queries of block `i`: the mask of the pair. -/
def maskOf (j i : BitVec 32) : IVec S128x128 1 :=
  cmpi .slt (addi (broadcast S128x128 (Scalar.muli j 128#32)) (iota .tc S128x128 32 [0] iota_S128x128_d0_w32))
    (addi (broadcast S128x128 (Scalar.muli i 128#32)) (iota .tc S128x128 32 [1] iota_S128x128_d1_w32))

/-- Which of the eight rows of the saved sums is block `j`'s. -/
def rowMask (j : BitVec 32) : IVec S8x128 1 :=
  cmpi .eq (iota .tc S8x128 32 [0] iota_S8x128_d0_w32) (broadcast S8x128 (Scalar.subi j (groupWord j)))

/-- What one head of a trip works on. -/
structure HeadIn where
  k : FVec Ideal S64x128 .bf16
  v : FVec Ideal S64x128 .bf16
  q : FVec Ideal S64x128 .bf16
  c : FVec Ideal S64x128 .bf16
  rows : FVec Ideal S8x128 .f32
  sum : FVec Ideal S1x128 .f32

/-- The trip's weights, gradients through the weights and gradients of the products, at block `j` against `i`. -/
def HeadIn.w (x : HeadIn) (tri : FVec Ideal S128x128 .bf16) (j i : BitVec 32) : FVec Ideal S128x128 .f32 :=
  wOf (maskOf j i) (zOf x.k x.q) tri (pickRow (rowMask j) x.rows)
def HeadIn.g (x : HeadIn) (tri : FVec Ideal S128x128 .bf16) (j i : BitVec 32) : FVec Ideal S128x128 .f32 := mulf (daOf x.v x.c) (x.w tri j i)
def HeadIn.dz (x : HeadIn) (tri tri' : FVec Ideal S128x128 .bf16) (j i : BitVec 32) : FVec Ideal S128x128 .f32 :=
  dzOf (maskOf j i) (zOf x.k x.q) (x.g tri j i) tri' x.sum

variable (𝒱 : Variants) (c : Dev nD) (bd : Option 𝒱.V) (i : grid0.Coords)
  (arg2 : Memref sig .tc .vmem S4x64x64x128 .bf16) (harg2 : arg2.IsWhole) (arg3 : Memref sig .tc .vmem S4x64x64x128 .bf16) (harg3 : arg3.IsWhole)
  (arg4 : Memref sig .tc .vmem S4x64x128 .bf16) (harg4 : arg4.IsWhole) (arg5 : Memref sig .tc .vmem S4x64x128 .bf16) (harg5 : arg5.IsWhole)
  (arg6 : Memref sig .tc .vmem S4x1x64x128 .f32) (harg6 : arg6.IsWhole) (arg7 : Memref sig .tc .vmem S128x128 .bf16) (harg7 : arg7.IsWhole)
  (arg8 : Memref sig .tc .vmem S128x128 .bf16) (harg8 : arg8.IsWhole) (arg9 : Memref sig .tc .vmem S4x64x128 .f32) (harg9 : arg9.IsWhole)
  (arg10 : Memref sig .tc .vmem S4x64x64x128 .f32) (harg10 : arg10.IsWhole) (arg11 : Memref sig .tc .vmem S4x64x64x128 .f32) (harg11 : arg11.IsWhole)
  (arg1 : BitVec 32) (v4 v6 v8 v10 v12 v14 v16 v18 : FVec Ideal S64x128 .bf16) (v20 v22 : FVec Ideal S64x128 .f32) (v42 : BitVec 32)
  (k0_hw1 : k0_chk1 i v42) (v47 : BitVec 32)
  (X2 : BufTy.Contents (Elt Ideal) arg2.view.ty) (X3 : BufTy.Contents (Elt Ideal) arg3.view.ty) (X6 : BufTy.Contents (Elt Ideal) arg6.view.ty)
  (X7 : BufTy.Contents (Elt Ideal) arg7.view.ty) (X8 : BufTy.Contents (Elt Ideal) arg8.view.ty) (k : Fin (k0_t1_loop i v42).trips)

/-- The blocks that a trip loads. -/
abbrev loadKV (b : Memref sig .tc .vmem S4x64x64x128 .bf16) (X : BufTy.Contents (Elt Ideal) b.view.ty) (off : Fin 4 → ℕ)
    (inb : ∀ a, off a + S1x1x64x128.size a ≤ S4x64x64x128.size a) : FVec Ideal S64x128 .bf16 :=
  shapeCast S64x128 (View.readAt (Elt Ideal) b.view (Rect.unit (s := S4x64x64x128) off S1x1x64x128.size inb).toLoadRect X) shapeCasts_S1x1x64x128_S64x128
abbrev loadRows (b : Memref sig .tc .vmem S4x1x64x128 .f32) (X : BufTy.Contents (Elt Ideal) b.view.ty) (off : Fin 4 → ℕ)
    (inb : ∀ a, off a + S1x1x8x128.size a ≤ S4x1x64x128.size a) : FVec Ideal S8x128 .f32 :=
  shapeCast S8x128 (View.readAt (Elt Ideal) b.view (Rect.unit (s := S4x1x64x128) off S1x1x8x128.size inb).toLoadRect X) shapeCasts_S1x1x8x128_S8x128
abbrev loadTri (b : Memref sig .tc .vmem S128x128 .bf16) (X : BufTy.Contents (Elt Ideal) b.view.ty) : FVec Ideal S128x128 .bf16 :=
  shapeCast S128x128 (View.readAt (Elt Ideal) b.view (Rect.unit (s := S128x128) ![0, 0] S128x128.size inb_S128x128_S128x128_0_0).toLoadRect X) shapeCasts_S128x128_S128x128

abbrev Carry : Type := FVec Ideal S1x128 .f32 × FVec Ideal S1x128 .f32 × FVec Ideal S1x128 .f32 × FVec Ideal S1x128 .f32 × FVec Ideal S64x128 .f32 × FVec Ideal S64x128 .f32 × FVec Ideal S64x128 .f32 × FVec Ideal S64x128 .f32

end Cert.KernelIdeal.Hand
-- ==== Proof.TripRun.lean ====
/- Hand-written, untrusted. What the generated run of one trip found, in the head's operations. -/
module

public import proofs.«01_k».proof.Proof.Trip

@[expose] public section

set_option maxRecDepth 65536
set_option maxHeartbeats 1600000

noncomputable section

namespace Cert.KernelIdeal.Hand

open Idealize.ShloMosaic Idealize.ShloMosaic.TcCoe Idealize.ShloMosaic.Tactic
open Cert.KernelIdeal.Gen Cert.Attn

variable (𝒱 : Variants) (c : Dev nD) (bd : Option 𝒱.V) (i : grid0.Coords)
  (arg2 : Memref sig .tc .vmem S4x64x64x128 .bf16) (harg2 : arg2.IsWhole) (arg3 : Memref sig .tc .vmem S4x64x64x128 .bf16) (harg3 : arg3.IsWhole)
  (arg4 : Memref sig .tc .vmem S4x64x128 .bf16) (harg4 : arg4.IsWhole) (arg5 : Memref sig .tc .vmem S4x64x128 .bf16) (harg5 : arg5.IsWhole)
  (arg6 : Memref sig .tc .vmem S4x1x64x128 .f32) (harg6 : arg6.IsWhole) (arg7 : Memref sig .tc .vmem S128x128 .bf16) (harg7 : arg7.IsWhole)
  (arg8 : Memref sig .tc .vmem S128x128 .bf16) (harg8 : arg8.IsWhole) (arg9 : Memref sig .tc .vmem S4x64x128 .f32) (harg9 : arg9.IsWhole)
  (arg10 : Memref sig .tc .vmem S4x64x64x128 .f32) (harg10 : arg10.IsWhole) (arg11 : Memref sig .tc .vmem S4x64x64x128 .f32) (harg11 : arg11.IsWhole)
  (arg1 : BitVec 32) (v4 v6 v8 v10 v12 v14 v16 v18 : FVec Ideal S64x128 .bf16) (v20 v22 : FVec Ideal S64x128 .f32) (v42 : BitVec 32)
  (k0_hw1 : k0_chk1 i v42) (v47 : BitVec 32)
  (X2 : BufTy.Contents (Elt Ideal) arg2.view.ty) (X3 : BufTy.Contents (Elt Ideal) arg3.view.ty) (X6 : BufTy.Contents (Elt Ideal) arg6.view.ty)
  (X7 : BufTy.Contents (Elt Ideal) arg7.view.ty) (X8 : BufTy.Contents (Elt Ideal) arg8.view.ty) (k : Fin (k0_t1_loop i v42).trips)
  (acc : Carry) (f10 : BufTy.Contents (Elt Ideal) arg10.view.ty) (f11 : BufTy.Contents (Elt Ideal) arg11.view.ty)

/-- The word of the trip's key block. -/
abbrev blockWord (v47 : BitVec 32) (n : ℕ) : BitVec 32 := Scf.iv v47 1#32 n

abbrev in1 : HeadIn := ⟨loadKV arg2 X2 (k0_off1 i v42 k) (k0_off1_inb i v42 k0_hw1 k), loadKV arg3 X3 (k0_off1 i v42 k) (k0_off1_inb i v42 k0_hw1 k),
  v4, v12, loadRows arg6 X6 (k0_off5 i v42 k) (k0_off5_inb i v42 k0_hw1 k), acc.1⟩
abbrev in2 : HeadIn := ⟨loadKV arg2 X2 (k0_off2 i v42 k) (k0_off2_inb i v42 k0_hw1 k), loadKV arg3 X3 (k0_off2 i v42 k) (k0_off2_inb i v42 k0_hw1 k),
  v6, v14, loadRows arg6 X6 (k0_off6 i v42 k) (k0_off6_inb i v42 k0_hw1 k), acc.2.1⟩
abbrev in3 : HeadIn := ⟨loadKV arg2 X2 (k0_off3 i v42 k) (k0_off3_inb i v42 k0_hw1 k), loadKV arg3 X3 (k0_off3 i v42 k) (k0_off3_inb i v42 k0_hw1 k),
  v8, v16, loadRows arg6 X6 (k0_off7 i v42 k) (k0_off7_inb i v42 k0_hw1 k), acc.2.2.1⟩
abbrev in4 : HeadIn := ⟨loadKV arg2 X2 (k0_off4 i v42 k) (k0_off4_inb i v42 k0_hw1 k), loadKV arg3 X3 (k0_off4 i v42 k) (k0_off4_inb i v42 k0_hw1 k),
  v10, v18, loadRows arg6 X6 (k0_off8 i v42 k) (k0_off8_inb i v42 k0_hw1 k), acc.2.2.2.1⟩

/-! What the run calls its values, in a trip's four heads. -/

theorem w1_eq : trip_k0_t1.sl.v230 (F := Ideal) i arg2 arg6 arg7 arg1 v4 v42 k0_hw1 v47 X2 X6 X7 k = (in1 i arg2 arg3 arg6 v4 v12 v42 k0_hw1 X2 X3 X6 k acc).w (loadTri arg7 X7) (blockWord v47 k.val) arg1 := by rfl
theorem g1_eq : trip_k0_t1.sl.v339 (F := Ideal) i arg2 arg3 arg6 arg7 arg1 v4 v12 v42 k0_hw1 v47 X2 X3 X6 X7 k = (in1 i arg2 arg3 arg6 v4 v12 v42 k0_hw1 X2 X3 X6 k acc).g (loadTri arg7 X7) (blockWord v47 k.val) arg1 := by rfl
theorem dz1_eq : trip_k0_t1.sl.v391 (F := Ideal) i arg2 arg3 arg6 arg7 arg8 arg1 v4 v12 v42 k0_hw1 v47 X2 X3 X6 X7 X8 k acc = (in1 i arg2 arg3 arg6 v4 v12 v42 k0_hw1 X2 X3 X6 k acc).dz (loadTri arg7 X7) (loadTri arg8 X8) (blockWord v47 k.val) arg1 := by rfl
theorem w2_eq : trip_k0_t1.sl.v266 (F := Ideal) i arg2 arg6 arg7 arg1 v6 v42 k0_hw1 v47 X2 X6 X7 k = (in2 i arg2 arg3 arg6 v6 v14 v42 k0_hw1 X2 X3 X6 k acc).w (loadTri arg7 X7) (blockWord v47 k.val) arg1 := by rfl
theorem g2_eq : trip_k0_t1.sl.v340 (F := Ideal) i arg2 arg3 arg6 arg7 arg1 v6 v14 v42 k0_hw1 v47 X2 X3 X6 X7 k = (in2 i arg2 arg3 arg6 v6 v14 v42 k0_hw1 X2 X3 X6 k acc).g (loadTri arg7 X7) (blockWord v47 k.val) arg1 := by rfl
theorem dz2_eq : trip_k0_t1.sl.v411 (F := Ideal) i arg2 arg3 arg6 arg7 arg8 arg1 v6 v14 v42 k0_hw1 v47 X2 X3 X6 X7 X8 k acc = (in2 i arg2 arg3 arg6 v6 v14 v42 k0_hw1 X2 X3 X6 k acc).dz (loadTri arg7 X7) (loadTri arg8 X8) (blockWord v47 k.val) arg1 := by rfl
theorem w3_eq : trip_k0_t1.sl.v302 (F := Ideal) i arg2 arg6 arg7 arg1 v8 v42 k0_hw1 v47 X2 X6 X7 k = (in3 i arg2 arg3 arg6 v8 v16 v42 k0_hw1 X2 X3 X6 k acc).w (loadTri arg7 X7) (blockWord v47 k.val) arg1 := by rfl
theorem g3_eq : trip_k0_t1.sl.v341 (F := Ideal) i arg2 arg3 arg6 arg7 arg1 v8 v16 v42 k0_hw1 v47 X2 X3 X6 X7 k = (in3 i arg2 arg3 arg6 v8 v16 v42 k0_hw1 X2 X3 X6 k acc).g (loadTri arg7 X7) (blockWord v47 k.val) arg1 := by rfl
theorem dz3_eq : trip_k0_t1.sl.v431 (F := Ideal) i arg2 arg3 arg6 arg7 arg8 arg1 v8 v16 v42 k0_hw1 v47 X2 X3 X6 X7 X8 k acc = (in3 i arg2 arg3 arg6 v8 v16 v42 k0_hw1 X2 X3 X6 k acc).dz (loadTri arg7 X7) (loadTri arg8 X8) (blockWord v47 k.val) arg1 := by rfl
theorem w4_eq : trip_k0_t1.sl.v338 (F := Ideal) i arg2 arg6 arg7 arg1 v10 v42 k0_hw1 v47 X2 X6 X7 k = (in4 i arg2 arg3 arg6 v10 v18 v42 k0_hw1 X2 X3 X6 k acc).w (loadTri arg7 X7) (blockWord v47 k.val) arg1 := by rfl
theorem g4_eq : trip_k0_t1.sl.v342 (F := Ideal) i arg2 arg3 arg6 arg7 arg1 v10 v18 v42 k0_hw1 v47 X2 X3 X6 X7 k = (in4 i arg2 arg3 arg6 v10 v18 v42 k0_hw1 X2 X3 X6 k acc).g (loadTri arg7 X7) (blockWord v47 k.val) arg1 := by rfl
theorem dz4_eq : trip_k0_t1.sl.v451 (F := Ideal) i arg2 arg3 arg6 arg7 arg8 arg1 v10 v18 v42 k0_hw1 v47 X2 X3 X6 X7 X8 k acc = (in4 i arg2 arg3 arg6 v10 v18 v42 k0_hw1 X2 X3 X6 k acc).dz (loadTri arg7 X7) (loadTri arg8 X8) (blockWord v47 k.val) arg1 := by rfl

theorem tripR_eq :
    tripR_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 k acc f10 f11
      = (addf acc.1 (colSum ((in1 i arg2 arg3 arg6 v4 v12 v42 k0_hw1 X2 X3 X6 k acc).g (loadTri arg7 X7) (blockWord v47 k.val) arg1)),
        addf acc.2.1 (colSum ((in2 i arg2 arg3 arg6 v6 v14 v42 k0_hw1 X2 X3 X6 k acc).g (loadTri arg7 X7) (blockWord v47 k.val) arg1)),
        addf acc.2.2.1 (colSum ((in3 i arg2 arg3 arg6 v8 v16 v42 k0_hw1 X2 X3 X6 k acc).g (loadTri arg7 X7) (blockWord v47 k.val) arg1)),
        addf acc.2.2.2.1 (colSum ((in4 i arg2 arg3 arg6 v10 v18 v42 k0_hw1 X2 X3 X6 k acc).g (loadTri arg7 X7) (blockWord v47 k.val) arg1)),
        addf acc.2.2.2.2.1 (dqAdd (in1 i arg2 arg3 arg6 v4 v12 v42 k0_hw1 X2 X3 X6 k acc).k ((in1 i arg2 arg3 arg6 v4 v12 v42 k0_hw1 X2 X3 X6 k acc).dz (loadTri arg7 X7) (loadTri arg8 X8) (blockWord v47 k.val) arg1)),
        addf acc.2.2.2.2.2.1 (dqAdd (in2 i arg2 arg3 arg6 v6 v14 v42 k0_hw1 X2 X3 X6 k acc).k ((in2 i arg2 arg3 arg6 v6 v14 v42 k0_hw1 X2 X3 X6 k acc).dz (loadTri arg7 X7) (loadTri arg8 X8) (blockWord v47 k.val) arg1)),
        addf acc.2.2.2.2.2.2.1 (dqAdd (in3 i arg2 arg3 arg6 v8 v16 v42 k0_hw1 X2 X3 X6 k acc).k ((in3 i arg2 arg3 arg6 v8 v16 v42 k0_hw1 X2 X3 X6 k acc).dz (loadTri arg7 X7) (loadTri arg8 X8) (blockWord v47 k.val) arg1)),
        addf acc.2.2.2.2.2.2.2 (dqAdd (in4 i arg2 arg3 arg6 v10 v18 v42 k0_hw1 X2 X3 X6 k acc).k ((in4 i arg2 arg3 arg6 v10 v18 v42 k0_hw1 X2 X3 X6 k acc).dz (loadTri arg7 X7) (loadTri arg8 X8) (blockWord v47 k.val) arg1))) := by
  unfold tripR_k0_t1 trip_k0_t1
  dsimp only
  refine Prod.ext ?_ (Prod.ext ?_ (Prod.ext ?_ (Prod.ext ?_ (Prod.ext ?_ (Prod.ext ?_ (Prod.ext ?_ ?_))))))
  · exact congrArg (fun x => addf _ (colSum x)) (g1_eq i arg2 arg3 arg6 arg7 arg1 v4 v12 v42 k0_hw1 v47 X2 X3 X6 X7 k acc)
  · exact congrArg (fun x => addf _ (colSum x)) (g2_eq i arg2 arg3 arg6 arg7 arg1 v6 v14 v42 k0_hw1 v47 X2 X3 X6 X7 k acc)
  · exact congrArg (fun x => addf _ (colSum x)) (g3_eq i arg2 arg3 arg6 arg7 arg1 v8 v16 v42 k0_hw1 v47 X2 X3 X6 X7 k acc)
  · exact congrArg (fun x => addf _ (colSum x)) (g4_eq i arg2 arg3 arg6 arg7 arg1 v10 v18 v42 k0_hw1 v47 X2 X3 X6 X7 k acc)
  · exact congrArg (fun x => addf _ (dqAdd _ x)) (dz1_eq i arg2 arg3 arg6 arg7 arg8 arg1 v4 v12 v42 k0_hw1 v47 X2 X3 X6 X7 X8 k acc)
  · exact congrArg (fun x => addf _ (dqAdd _ x)) (dz2_eq i arg2 arg3 arg6 arg7 arg8 arg1 v6 v14 v42 k0_hw1 v47 X2 X3 X6 X7 X8 k acc)
  · exact congrArg (fun x => addf _ (dqAdd _ x)) (dz3_eq i arg2 arg3 arg6 arg7 arg8 arg1 v8 v16 v42 k0_hw1 v47 X2 X3 X6 X7 X8 k acc)
  · exact congrArg (fun x => addf _ (dqAdd _ x)) (dz4_eq i arg2 arg3 arg6 arg7 arg8 arg1 v10 v18 v42 k0_hw1 v47 X2 X3 X6 X7 X8 k acc)

end Cert.KernelIdeal.Hand
-- ==== Proof.TripPieces.lean ====
/- Hand-written, untrusted. What one trip adds to the gradients of the keys and the values. -/
module

public import proofs.«01_k».proof.Proof.TripRun
public import Idealize.ShloMosaic.Lib.WritesUnit

@[expose] public section

set_option maxRecDepth 65536
set_option maxHeartbeats 1600000

noncomputable section

namespace Cert.KernelIdeal.Hand

open Idealize.ShloMosaic Idealize.ShloMosaic.TcCoe Idealize.ShloMosaic.Tactic
open Cert.KernelIdeal.Gen Cert.Attn

/-- The write that adds `x` to the block at `off`. -/
def addPiece (b : Memref sig .tc .vmem S4x64x64x128 .f32) (f : BufTy.Contents (Elt Ideal) b.view.ty) (off : Fin 4 → ℕ)
    (inb : ∀ a, off a + S1x1x64x128.size a ≤ S4x64x64x128.size a) (x : FVec Ideal S64x128 .f32) : View.Piece (Elt Ideal) S4x64x64x128 .f32 :=
  ⟨Rect.unit (s := S4x64x64x128) off S1x1x64x128.size inb,
    shapeCast S1x1x64x128 (addf (shapeCast S64x128 (View.readAt (Elt Ideal) b.view (Rect.unit (s := S4x64x64x128) off S1x1x64x128.size inb).toLoadRect f)
      shapeCasts_S1x1x64x128_S64x128) x) shapeCasts_S64x128_S1x1x64x128⟩

/-- The four heads' writes, the last first. -/
def addPieces (b : Memref sig .tc .vmem S4x64x64x128 .f32) (f : BufTy.Contents (Elt Ideal) b.view.ty)
    (o1 : Fin 4 → ℕ) (h1 : ∀ a, o1 a + S1x1x64x128.size a ≤ S4x64x64x128.size a) (x1 : FVec Ideal S64x128 .f32)
    (o2 : Fin 4 → ℕ) (h2 : ∀ a, o2 a + S1x1x64x128.size a ≤ S4x64x64x128.size a) (x2 : FVec Ideal S64x128 .f32)
    (o3 : Fin 4 → ℕ) (h3 : ∀ a, o3 a + S1x1x64x128.size a ≤ S4x64x64x128.size a) (x3 : FVec Ideal S64x128 .f32)
    (o4 : Fin 4 → ℕ) (h4 : ∀ a, o4 a + S1x1x64x128.size a ≤ S4x64x64x128.size a) (x4 : FVec Ideal S64x128 .f32) :
    List (View.Piece (Elt Ideal) S4x64x64x128 .f32) :=
  let p1 := [addPiece b f o1 h1 x1]
  let p2 := addPiece b (b.view.writes (Elt Ideal) f p1) o2 h2 x2 :: p1
  let p3 := addPiece b (b.view.writes (Elt Ideal) f p2) o3 h3 x3 :: p2
  addPiece b (b.view.writes (Elt Ideal) f p3) o4 h4 x4 :: p3

theorem read_addPiece (b : Memref sig .tc .vmem S4x64x64x128 .f32) (f : BufTy.Contents (Elt Ideal) b.view.ty)
    (L : List (View.Piece (Elt Ideal) S4x64x64x128 .f32)) (off : Fin 4 → ℕ) (inb : ∀ a, off a + S1x1x64x128.size a ≤ S4x64x64x128.size a)
    (x : FVec Ideal S64x128 .f32) (n m : ℕ) (hoff : off = ![n, m, 0, 0]) (g : Fin 4) (j : Fin 64) (d : Fin 64) (s : Fin 128) :
    b.view.read (Elt Ideal) (b.view.writes (Elt Ideal) f (addPiece b (b.view.writes (Elt Ideal) f L) off inb x :: L)) (ix4 g j d s)
      = if g.val = n ∧ j.val = m then b.view.read (Elt Ideal) (b.view.writes (Elt Ideal) f L) (ix4 g j d s) + x (ix2 d s)
        else b.view.read (Elt Ideal) (b.view.writes (Elt Ideal) f L) (ix4 g j d s) := by
  subst hoff
  by_cases h : g.val = n ∧ j.val = m
  · rw [if_pos h]
    obtain ⟨rfl, rfl⟩ := h
    rw [addPiece, View.read_writes_cons_unit_of_mem (off' := ![g.val, j.val, 0, 0]) b.view f inb _ L (ix4 g j d s) (ix4 (0 : Fin 1) (0 : Fin 1) d s) rfl
      (by intro a; fin_cases a <;> simp)]
    rw [View.readAt_eq_ld]
    pointwise
  · rw [if_neg h, addPiece]
    by_cases h1 : g.val = n
    · have h2 : j.val ≠ m := fun e => h ⟨h1, e⟩
      exact View.read_writes_cons_unit_of_not_mem (off' := ![n, m, 0, 0]) b.view f inb _ L (ix4 g j d s) rfl 1
        (by rcases Nat.lt_or_gt_of_ne h2 with q | q
            · left; simpa using q
            · right; simpa using q)
    · exact View.read_writes_cons_unit_of_not_mem (off' := ![n, m, 0, 0]) b.view f inb _ L (ix4 g j d s) rfl 0
        (by rcases Nat.lt_or_gt_of_ne h1 with q | q
            · left; simpa using q
            · right; simpa using q)

theorem read_addPieces (b : Memref sig .tc .vmem S4x64x64x128 .f32) (f : BufTy.Contents (Elt Ideal) b.view.ty) (m : ℕ)
    (o1 : Fin 4 → ℕ) (h1 : ∀ a, o1 a + S1x1x64x128.size a ≤ S4x64x64x128.size a) (x1 : FVec Ideal S64x128 .f32) (e1 : o1 = ![0, m, 0, 0])
    (o2 : Fin 4 → ℕ) (h2 : ∀ a, o2 a + S1x1x64x128.size a ≤ S4x64x64x128.size a) (x2 : FVec Ideal S64x128 .f32) (e2 : o2 = ![1, m, 0, 0])
    (o3 : Fin 4 → ℕ) (h3 : ∀ a, o3 a + S1x1x64x128.size a ≤ S4x64x64x128.size a) (x3 : FVec Ideal S64x128 .f32) (e3 : o3 = ![2, m, 0, 0])
    (o4 : Fin 4 → ℕ) (h4 : ∀ a, o4 a + S1x1x64x128.size a ≤ S4x64x64x128.size a) (x4 : FVec Ideal S64x128 .f32) (e4 : o4 = ![3, m, 0, 0])
    (g : Fin 4) (j : Fin 64) (d : Fin 64) (s : Fin 128) :
    b.view.read (Elt Ideal) (b.view.writes (Elt Ideal) f (addPieces b f o1 h1 x1 o2 h2 x2 o3 h3 x3 o4 h4 x4)) (ix4 g j d s)
      = if j.val = m then b.view.read (Elt Ideal) f (ix4 g j d s) + (![x1, x2, x3, x4] : Fin 4 → FVec Ideal S64x128 .f32) g (ix2 d s)
        else b.view.read (Elt Ideal) f (ix4 g j d s) := by
  unfold addPieces
  rw [read_addPiece _ _ _ _ _ _ 3 m e4, read_addPiece _ _ _ _ _ _ 2 m e3, read_addPiece _ _ _ _ _ _ 1 m e2]
  have e := read_addPiece b f [] o1 h1 x1 0 m e1 g j d s
  rw [View.writes_nil] at e
  rw [e]
  fin_cases g <;> by_cases hj : j.val = m <;> simp [hj]

variable (𝒱 : Variants) (c : Dev nD) (bd : Option 𝒱.V) (i : grid0.Coords)
  (arg2 : Memref sig .tc .vmem S4x64x64x128 .bf16) (harg2 : arg2.IsWhole) (arg3 : Memref sig .tc .vmem S4x64x64x128 .bf16) (harg3 : arg3.IsWhole)
  (arg4 : Memref sig .tc .vmem S4x64x128 .bf16) (harg4 : arg4.IsWhole) (arg5 : Memref sig .tc .vmem S4x64x128 .bf16) (harg5 : arg5.IsWhole)
  (arg6 : Memref sig .tc .vmem S4x1x64x128 .f32) (harg6 : arg6.IsWhole) (arg7 : Memref sig .tc .vmem S128x128 .bf16) (harg7 : arg7.IsWhole)
  (arg8 : Memref sig .tc .vmem S128x128 .bf16) (harg8 : arg8.IsWhole) (arg9 : Memref sig .tc .vmem S4x64x128 .f32) (harg9 : arg9.IsWhole)
  (arg10 : Memref sig .tc .vmem S4x64x64x128 .f32) (harg10 : arg10.IsWhole) (arg11 : Memref sig .tc .vmem S4x64x64x128 .f32) (harg11 : arg11.IsWhole)
  (arg1 : BitVec 32) (v4 v6 v8 v10 v12 v14 v16 v18 : FVec Ideal S64x128 .bf16) (v20 v22 : FVec Ideal S64x128 .f32) (v42 : BitVec 32)
  (k0_hw1 : k0_chk1 i v42) (v47 : BitVec 32)
  (X2 : BufTy.Contents (Elt Ideal) arg2.view.ty) (X3 : BufTy.Contents (Elt Ideal) arg3.view.ty) (X6 : BufTy.Contents (Elt Ideal) arg6.view.ty)
  (X7 : BufTy.Contents (Elt Ideal) arg7.view.ty) (X8 : BufTy.Contents (Elt Ideal) arg8.view.ty) (k : Fin (k0_t1_loop i v42).trips)
  (acc : Carry) (f10 : BufTy.Contents (Elt Ideal) arg10.view.ty) (f11 : BufTy.Contents (Elt Ideal) arg11.view.ty)

theorem tripL_eq :
    tripL_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 k acc f10 f11
      = (addPieces arg10 f10
            (k0_off1 i v42 k) (k0_off1_inb i v42 k0_hw1 k) (dkAdd v4 ((in1 i arg2 arg3 arg6 v4 v12 v42 k0_hw1 X2 X3 X6 k acc).dz (loadTri arg7 X7) (loadTri arg8 X8) (blockWord v47 k.val) arg1))
            (k0_off2 i v42 k) (k0_off2_inb i v42 k0_hw1 k) (dkAdd v6 ((in2 i arg2 arg3 arg6 v6 v14 v42 k0_hw1 X2 X3 X6 k acc).dz (loadTri arg7 X7) (loadTri arg8 X8) (blockWord v47 k.val) arg1))
            (k0_off3 i v42 k) (k0_off3_inb i v42 k0_hw1 k) (dkAdd v8 ((in3 i arg2 arg3 arg6 v8 v16 v42 k0_hw1 X2 X3 X6 k acc).dz (loadTri arg7 X7) (loadTri arg8 X8) (blockWord v47 k.val) arg1))
            (k0_off4 i v42 k) (k0_off4_inb i v42 k0_hw1 k) (dkAdd v10 ((in4 i arg2 arg3 arg6 v10 v18 v42 k0_hw1 X2 X3 X6 k acc).dz (loadTri arg7 X7) (loadTri arg8 X8) (blockWord v47 k.val) arg1)),
        addPieces arg11 f11
            (k0_off1 i v42 k) (k0_off1_inb i v42 k0_hw1 k) (dkAdd v12 ((in1 i arg2 arg3 arg6 v4 v12 v42 k0_hw1 X2 X3 X6 k acc).w (loadTri arg7 X7) (blockWord v47 k.val) arg1))
            (k0_off2 i v42 k) (k0_off2_inb i v42 k0_hw1 k) (dkAdd v14 ((in2 i arg2 arg3 arg6 v6 v14 v42 k0_hw1 X2 X3 X6 k acc).w (loadTri arg7 X7) (blockWord v47 k.val) arg1))
            (k0_off3 i v42 k) (k0_off3_inb i v42 k0_hw1 k) (dkAdd v16 ((in3 i arg2 arg3 arg6 v8 v16 v42 k0_hw1 X2 X3 X6 k acc).w (loadTri arg7 X7) (blockWord v47 k.val) arg1))
            (k0_off4 i v42 k) (k0_off4_inb i v42 k0_hw1 k) (dkAdd v18 ((in4 i arg2 arg3 arg6 v10 v18 v42 k0_hw1 X2 X3 X6 k acc).w (loadTri arg7 X7) (blockWord v47 k.val) arg1))) := by
  unfold tripL_k0_t1 trip_k0_t1
  dsimp only
  refine Prod.ext ?_ ?_
  · rw [← dz1_eq i arg2 arg3 arg6 arg7 arg8 arg1 v4 v12 v42 k0_hw1 v47 X2 X3 X6 X7 X8 k acc, ← dz2_eq i arg2 arg3 arg6 arg7 arg8 arg1 v6 v14 v42 k0_hw1 v47 X2 X3 X6 X7 X8 k acc, ← dz3_eq i arg2 arg3 arg6 arg7 arg8 arg1 v8 v16 v42 k0_hw1 v47 X2 X3 X6 X7 X8 k acc, ← dz4_eq i arg2 arg3 arg6 arg7 arg8 arg1 v10 v18 v42 k0_hw1 v47 X2 X3 X6 X7 X8 k acc]
    rfl
  · rw [← w1_eq i arg2 arg3 arg6 arg7 arg1 v4 v12 v42 k0_hw1 v47 X2 X3 X6 X7 k acc, ← w2_eq i arg2 arg3 arg6 arg7 arg1 v6 v14 v42 k0_hw1 v47 X2 X3 X6 X7 k acc, ← w3_eq i arg2 arg3 arg6 arg7 arg1 v8 v16 v42 k0_hw1 v47 X2 X3 X6 X7 k acc, ← w4_eq i arg2 arg3 arg6 arg7 arg1 v10 v18 v42 k0_hw1 v47 X2 X3 X6 X7 k acc]
    rfl

end Cert.KernelIdeal.Hand
-- ==== Proof.Model.lean ====
/- Hand-written, untrusted. One head of the attention's backward pass as plain sums of real numbers over positions, and the sums cut into
   blocks of 128 positions. -/
module

public import proofs.«01_k».proof.Proof.Scalars

@[expose] public section

noncomputable section

namespace Cert.Attn

open Finset

/-- One head: the keys, queries, values and cotangents, by feature and position. -/
structure Head where
  K : Fin 64 → ℕ → ℝ
  Q : Fin 64 → ℕ → ℝ
  V : Fin 64 → ℕ → ℝ
  C : Fin 64 → ℕ → ℝ

namespace Head

variable (h : Head)

/-- The logit of key `k` under query `q`. -/
def z (k q : ℕ) : ℝ := (∑ d, h.K d k * h.Q d q) * (1 / 8)
/-- The log of what is left of the stick after key `k`. -/
def l1 (k q : ℕ) : ℝ := if k < q then -sp (h.z k q) else 0
/-- The sum of those of the later keys. -/
def after (k q : ℕ) : ℝ := ∑ k' ∈ Ico (k + 1) 8192, h.l1 k' q
/-- The attention weight. -/
def w (k q : ℕ) : ℝ := if k < q then Real.exp (-sp (-h.z k q) + h.after k q) else 0
/-- The gradient of the weight. -/
def da (k q : ℕ) : ℝ := ∑ d, h.V d k * h.C d q
/-- The gradient of the log of the weight. -/
def g (k q : ℕ) : ℝ := h.da k q * h.w k q
/-- The sum of those of the earlier keys. -/
def bef (k q : ℕ) : ℝ := ∑ k' ∈ range k, h.g k' q
/-- The gradient of the product of key and query. -/
def dz (k q : ℕ) : ℝ := (if k < q then h.g k q * sg (-h.z k q) - h.bef k q * sg (h.z k q) else 0) * (1 / 8)
/-- The gradients of the query, the key and the value. -/
def dq (d : Fin 64) (q : ℕ) : ℝ := ∑ k ∈ range 8192, h.K d k * h.dz k q
def dk (d : Fin 64) (k : ℕ) : ℝ := ∑ q ∈ range 8192, h.Q d q * h.dz k q
def dv (d : Fin 64) (k : ℕ) : ℝ := ∑ q ∈ range 8192, h.C d q * h.w k q

/-- What lies after key block `j`. -/
def run (j q : ℕ) : ℝ := ∑ k ∈ Ico ((j + 1) * 128) 8192, h.l1 k q

theorem w_of_le {k q : ℕ} (e : q ≤ k) : h.w k q = 0 := if_neg (by omega)
theorem dz_of_le {k q : ℕ} (e : q ≤ k) : h.dz k q = 0 := by rw [dz, if_neg (by omega), zero_mul]

end Head

/-! ## Blocks -/

theorem sum_range_block (f : ℕ → ℝ) (j : ℕ) : ∑ k ∈ range ((j + 1) * 128), f k = ∑ k ∈ range (j * 128), f k + ∑ s : Fin 128, f (j * 128 + s.val) := by
  rw [show (j + 1) * 128 = j * 128 + 128 by ring, sum_range_add, sum_range (fun x => f (j * 128 + x))]

theorem sum_fin_lt (f : ℕ → ℝ) (b : ℕ) (s : ℕ) (hs : s ≤ 128) :
    ∑ s' : Fin 128, (if s'.val < s then (1 : ℝ) else 0) * f (b + s'.val) = ∑ x ∈ range s, f (b + x) := by
  rw [← sum_range (fun x => (if x < s then (1 : ℝ) else 0) * f (b + x))]
  simp only [ite_mul, one_mul, zero_mul]
  rw [← sum_filter]
  refine sum_congr ?_ fun _ _ => rfl
  ext x
  simp only [mem_filter, mem_range]
  omega

theorem sum_earlier (f : ℕ → ℝ) (j : ℕ) (s : Fin 128) :
    (∑ s' : Fin 128, (if s'.val < s.val then (1 : ℝ) else 0) * f (j * 128 + s'.val)) + ∑ k ∈ range (j * 128), f k = ∑ k ∈ range (j * 128 + s.val), f k := by
  rw [sum_fin_lt f _ s.val s.isLt.le, sum_range_add, add_comm]

theorem sum_later (f : ℕ → ℝ) (j : ℕ) (hj : j < 64) (s : Fin 128) :
    (∑ s' : Fin 128, (if s.val < s'.val then (1 : ℝ) else 0) * f (j * 128 + s'.val)) + ∑ k ∈ Ico ((j + 1) * 128) 8192, f k
      = ∑ k ∈ Ico (j * 128 + s.val + 1) 8192, f k := by
  have hs := s.isLt
  have e2 : ∑ k ∈ range (j * 128 + s.val + 1), f k = ∑ k ∈ range (j * 128), f k + ∑ k ∈ range (s.val + 1), f (j * 128 + k) := by
    rw [add_assoc, sum_range_add]
  rw [← sum_Ico_consecutive f (show j * 128 + s.val + 1 ≤ (j + 1) * 128 by omega) (show (j + 1) * 128 ≤ 8192 by omega)]
  congr 1
  have e : ∀ s' : Fin 128, (if s.val < s'.val then (1 : ℝ) else 0) * f (j * 128 + s'.val)
      = f (j * 128 + s'.val) - (if s'.val < s.val + 1 then (1 : ℝ) else 0) * f (j * 128 + s'.val) := by
    intro s'
    by_cases q : s.val < s'.val
    · rw [if_pos q, if_neg (by omega)]; ring
    · rw [if_neg q, if_pos (by omega)]; ring
  rw [sum_congr rfl fun s' _ => e s', sum_sub_distrib, sum_fin_lt f _ (s.val + 1) (by omega), sum_Ico_eq_sub _ (by omega), sum_range_block, e2]
  ring

namespace Head

variable (h : Head)

/-- The weight as a block computes it: the triangle's sum within the block and the sum over the later blocks. -/
theorem w_block (j i : ℕ) (hj : j < 64) (s t : Fin 128) :
    (if j * 128 + s.val < i * 128 + t.val then Real.exp (-sp (-(h.z (j * 128 + s.val) (i * 128 + t.val)))
        + (∑ s' : Fin 128, (if s.val < s'.val then (1 : ℝ) else 0)
            * (if j * 128 + s'.val < i * 128 + t.val then -sp (h.z (j * 128 + s'.val) (i * 128 + t.val)) else 0)) + h.run j (i * 128 + t.val)) else 0)
      = h.w (j * 128 + s.val) (i * 128 + t.val) := by
  have e := sum_later (fun k => h.l1 k (i * 128 + t.val)) j hj s
  rw [w, after, ← e, ← add_assoc]
  rfl

theorem bef_block (j q : ℕ) (s : Fin 128) :
    (∑ s' : Fin 128, (if s'.val < s.val then (1 : ℝ) else 0) * h.g (j * 128 + s'.val) q) + ∑ k ∈ range (j * 128), h.g k q = h.bef (j * 128 + s.val) q :=
  sum_earlier (fun k => h.g k q) j s

/-- The query's gradient is in once the loop has passed its own block. -/
theorem dq_block (d : Fin 64) (i : ℕ) (hi : i < 64) (t : Fin 128) :
    ∑ k ∈ range ((i + 1) * 128), h.K d k * h.dz k (i * 128 + t.val) = h.dq d (i * 128 + t.val) := by
  have ht := t.isLt
  refine sum_subset (range_mono (by omega)) fun k _ hk => ?_
  rw [mem_range] at hk
  rw [h.dz_of_le (by omega), mul_zero]

/-- What the key gradients (`f` = the gradient of a product) hold before trip `n` of the loop at query block `i`. -/
def part (x : Fin 64 → ℕ → ℝ) (f : ℕ → ℕ → ℝ) (i n j : ℕ) (d : Fin 64) (s : ℕ) : ℝ :=
  ∑ q ∈ range (i * 128 + if j < n then 128 else 0), x d q * f (j * 128 + s) q

theorem part_step (x : Fin 64 → ℕ → ℝ) (f : ℕ → ℕ → ℝ) (i n j : ℕ) (d : Fin 64) (s : ℕ) :
    (if j = n then part x f i n j d s + ∑ t : Fin 128, x d (i * 128 + t.val) * f (n * 128 + s) (i * 128 + t.val) else part x f i n j d s)
      = part x f i (n + 1) j d s := by
  by_cases e : j = n
  · subst e
    rw [if_pos rfl, part, part, if_neg (lt_irrefl _), if_pos (Nat.lt_succ_self _), add_zero,
      show i * 128 + 128 = (i + 1) * 128 by ring, sum_range_block]
  · rw [if_neg e, part, part]
    congr 3
    by_cases q : j < n
    · rw [if_pos q, if_pos (by omega)]
    · rw [if_neg q, if_neg (by omega)]

theorem part_next (x : Fin 64 → ℕ → ℝ) (f : ℕ → ℕ → ℝ) (hf : ∀ k q, q ≤ k → f k q = 0) (i j : ℕ) (d : Fin 64) (s : ℕ) :
    part x f i (i + 1) j d s = part x f (i + 1) 0 j d s := by
  rw [part, part, if_neg (Nat.not_lt_zero _), add_zero]
  by_cases q : j < i + 1
  · rw [if_pos q, show i * 128 + 128 = (i + 1) * 128 by ring]
  · rw [if_neg q, add_zero]
    refine sum_subset (range_mono (by omega)) fun p hp _ => ?_
    rw [mem_range] at hp
    rw [hf _ _ (by omega), mul_zero]

theorem part_zero (x : Fin 64 → ℕ → ℝ) (f : ℕ → ℕ → ℝ) (j : ℕ) (d : Fin 64) (s : ℕ) : part x f 0 0 j d s = 0 := by
  rw [part, if_neg (Nat.not_lt_zero _)]; rfl

theorem part_last (x : Fin 64 → ℕ → ℝ) (f : ℕ → ℕ → ℝ) (j : ℕ) (d : Fin 64) (s : ℕ) :
    part x f 64 0 j d s = ∑ q ∈ range 8192, x d q * f (j * 128 + s) q := by
  rw [part, if_neg (Nat.not_lt_zero _)]

end Head

end Cert.Attn
-- ==== Proof.TripValue.lean ====
/- Hand-written, untrusted. One head of a trip on real numbers: the weights and the gradients are the model's. -/
module

public import proofs.«01_k».proof.Proof.TripPieces
public import proofs.«01_k».proof.Proof.Model

@[expose] public section

set_option maxRecDepth 16384

noncomputable section

namespace Cert.KernelIdeal.Hand

open Idealize.ShloMosaic Idealize.ShloMosaic.TcCoe Idealize.ShloMosaic.Tactic
open Cert.KernelIdeal.Gen Cert.Attn

theorem ofBool_congr {p q : Prop} [Decidable p] [Decidable q] (h : p ↔ q) : BitVec.ofBool (decide p) = BitVec.ofBool (decide q) := by
  rw [decide_eq_decide.mpr h]

/-- A key comes before a query. -/
theorem maskOf_mask (j i : ℕ) (hj : j < 64) (hi : i < 64) :
    IsMask (maskOf (BitVec.ofNat 32 j) (BitVec.ofNat 32 i)) fun s t => j * 128 + s.val < i * 128 + t.val := by
  intro s t
  have hs := s.isLt
  have ht := t.isLt
  show Scalar.cmpi .slt (Scalar.addi (Scalar.muli (BitVec.ofNat 32 j) 128#32) (iota .tc S128x128 32 [0] iota_S128x128_d0_w32 (ix2 s t)))
    (Scalar.addi (Scalar.muli (BitVec.ofNat 32 i) 128#32) (iota .tc S128x128 32 [1] iota_S128x128_d1_w32 (ix2 s t))) = _
  have e0 : iota .tc S128x128 32 [0] iota_S128x128_d0_w32 (ix2 s t) = BitVec.ofNat 32 s.val := by pointwise
  have e1 : iota .tc S128x128 32 [1] iota_S128x128_d1_w32 (ix2 s t) = BitVec.ofNat 32 t.val := by pointwise
  rw [e0, e1]
  have f0 : Scalar.addi (Scalar.muli (BitVec.ofNat 32 j) 128#32) (BitVec.ofNat 32 s.val) = BitVec.ofNat 32 (j * 128 + s.val) := by
    apply BitVec.eq_of_toNat_eq
    simp [Scalar.addi, Scalar.muli, IntOp.addi, IntOp.muli]
  have f1 : Scalar.addi (Scalar.muli (BitVec.ofNat 32 i) 128#32) (BitVec.ofNat 32 t.val) = BitVec.ofNat 32 (i * 128 + t.val) := by
    apply BitVec.eq_of_toNat_eq
    simp [Scalar.addi, Scalar.muli, IntOp.addi, IntOp.muli]
  rw [f0, f1]
  exact WordCmp.cmpi_slt_ofNat (by omega) (by omega)

/-- The row of the eight. -/
theorem rowMask_mask (j : ℕ) (hj : j < 64) : IsMask (rowMask (BitVec.ofNat 32 j)) fun s _ => s = (⟨j % 8, Nat.mod_lt _ (by decide)⟩ : Fin 8) := by
  intro s t
  have e0 : iota .tc S8x128 32 [0] iota_S8x128_d0_w32 (ix2 s t) = BitVec.ofNat 32 s.val := by pointwise
  have hg := groupWord_val ⟨j, hj⟩
  have hs := s.isLt
  show Scalar.cmpi .eq (iota .tc S8x128 32 [0] iota_S8x128_d0_w32 (ix2 s t)) (Scalar.subi (BitVec.ofNat 32 j) (groupWord (BitVec.ofNat 32 j))) = _
  have f : Scalar.subi (BitVec.ofNat 32 j) (groupWord (BitVec.ofNat 32 j)) = BitVec.ofNat 32 (j % 8) := by
    apply BitVec.eq_of_toNat_eq
    simp only [Scalar.subi, IntOp.subi, BitVec.toNat_sub, BitVec.toNat_ofNat, hg]
    have := Nat.div_add_mod j 8
    omega
  rw [e0, f]
  refine (WordCmp.cmpi_eq_ofNat (w := 32) (by omega) (by omega)).trans ?_
  exact ofBool_congr ⟨fun e => Fin.ext e, fun e => congrArg Fin.val e⟩

/-- What a head of a trip works on, in the model's terms: key block `j` against query block `i`. -/
structure HeadAt (h : Head) (x : HeadIn) (j i : ℕ) : Prop where
  k : IsReal x.k fun d s => h.K d (j * 128 + s.val)
  v : IsReal x.v fun d s => h.V d (j * 128 + s.val)
  q : IsReal x.q fun d t => h.Q d (i * 128 + t.val)
  c : IsReal x.c fun d t => h.C d (i * 128 + t.val)
  rows : ∀ t : Fin 128, x.rows (ix2 ⟨j % 8, Nat.mod_lt _ (by decide)⟩ t) = ((h.run j (i * 128 + t.val) : ℝ) : EReal)
  sum : IsRow x.sum fun t => ∑ k ∈ Finset.range (j * 128), h.g k (i * 128 + t.val)

/-- The two triangles. -/
def IsLater (tri : FVec Ideal S128x128 .bf16) : Prop := IsReal tri fun s s' => if s.val < s'.val then 1 else 0
def IsEarlier (tri : FVec Ideal S128x128 .bf16) : Prop := IsReal tri fun s s' => if s'.val < s.val then 1 else 0

variable {h : Head} {x : HeadIn} {j i : ℕ} (hj : j < 64) (hi : i < 64) (H : HeadAt h x j i)
  {tri tri' : FVec Ideal S128x128 .bf16} (ht : IsLater tri) (ht' : IsEarlier tri')

include H in
theorem z_at : IsReal (zOf x.k x.q) fun s t => h.z (j * 128 + s.val) (i * 128 + t.val) := zOf_real H.k H.q

include hj hi H ht

theorem w_at : IsReal (x.w tri (BitVec.ofNat 32 j) (BitVec.ofNat 32 i)) fun s t => h.w (j * 128 + s.val) (i * 128 + t.val) := by
  intro s t
  have hr : IsRow (pickRow (rowMask (BitVec.ofNat 32 j)) x.rows) fun t => h.run j (i * 128 + t.val) := fun t => by
    rw [pickRow_eq (rowMask_mask j hj), H.rows t]
  refine (wOf_real (maskOf_mask j i hj hi) (z_at H) ht hr s t).trans ?_
  exact congrArg _ (h.w_block j i hj s t)

theorem g_at : IsReal (x.g tri (BitVec.ofNat 32 j) (BitVec.ofNat 32 i)) fun s t => h.g (j * 128 + s.val) (i * 128 + t.val) :=
  mulf_real (daOf_real H.v H.c) (w_at hj hi H ht)

include ht' in
theorem dz_at : IsReal (x.dz tri tri' (BitVec.ofNat 32 j) (BitVec.ofNat 32 i)) fun s t => h.dz (j * 128 + s.val) (i * 128 + t.val) := by
  intro s t
  refine (dzOf_real (maskOf_mask j i hj hi) (z_at H) (g_at hj hi H ht) ht' H.sum s t).trans ?_
  have e := h.bef_block j (i * 128 + t.val) s
  simp only [e]
  rfl

/-- The next sum over the keys so far. -/
theorem gsum_at : IsRow (addf x.sum (colSum (x.g tri (BitVec.ofNat 32 j) (BitVec.ofNat 32 i)))) fun t => ∑ k ∈ Finset.range ((j + 1) * 128), h.g k (i * 128 + t.val) := by
  intro t
  show x.sum (ix2 0 t) + colSum _ (ix2 0 t) = _
  rw [H.sum t, colSum_real (g_at hj hi H ht) t, ← EReal.coe_add]
  exact congrArg _ (sum_range_block _ j).symm

include ht' in
theorem dq_at {a : FVec Ideal S64x128 .f32} (ha : IsReal a fun d t => ∑ k ∈ Finset.range (j * 128), h.K d k * h.dz k (i * 128 + t.val)) :
    IsReal (addf a (dqAdd x.k (x.dz tri tri' (BitVec.ofNat 32 j) (BitVec.ofNat 32 i))))
      fun d t => ∑ k ∈ Finset.range ((j + 1) * 128), h.K d k * h.dz k (i * 128 + t.val) := by
  intro d t
  refine (addf_real ha (dqAdd_real H.k (dz_at hj hi H ht ht')) d t).trans ?_
  exact congrArg _ (sum_range_block _ j).symm

include ht' in
theorem dk_at : IsReal (dkAdd x.q (x.dz tri tri' (BitVec.ofNat 32 j) (BitVec.ofNat 32 i)))
    fun d s => ∑ t : Fin 128, h.Q d (i * 128 + t.val) * h.dz (j * 128 + s.val) (i * 128 + t.val) :=
  dkAdd_real H.q (dz_at hj hi H ht ht')

theorem dv_at : IsReal (dkAdd x.c (x.w tri (BitVec.ofNat 32 j) (BitVec.ofNat 32 i)))
    fun d s => ∑ t : Fin 128, h.C d (i * 128 + t.val) * h.w (j * 128 + s.val) (i * 128 + t.val) :=
  dkAdd_real H.c (w_at hj hi H ht)

end Cert.KernelIdeal.Hand
-- ==== Proof.LoopValue.lean ====
/- Hand-written, untrusted. The loop over key blocks on real numbers: what it carries and what it has added up, trip by trip. -/
module

public import proofs.«01_k».proof.Proof.TripValue

@[expose] public section

set_option maxRecDepth 65536
set_option maxHeartbeats 1600000

noncomputable section

namespace Cert.KernelIdeal.Hand

open Idealize.ShloMosaic Idealize.ShloMosaic.TcCoe Idealize.ShloMosaic.Tactic
open Cert.KernelIdeal.Gen Cert.Attn

/-- The two halves of the carry, by head. -/
def sums (a : Carry) : Fin 4 → FVec Ideal S1x128 .f32 := ![a.1, a.2.1, a.2.2.1, a.2.2.2.1]
def dqs (a : Carry) : Fin 4 → FVec Ideal S64x128 .f32 := ![a.2.2.2.2.1, a.2.2.2.2.2.1, a.2.2.2.2.2.2.1, a.2.2.2.2.2.2.2]

/-- Where the loop stands before trip `n` at query block `i`. -/
structure LoopAt (h : Fin 4 → Head) (b1 b2 : Memref sig .tc .vmem S4x64x64x128 .f32) (i n : ℕ) (acc : Carry)
    (f10 : BufTy.Contents (Elt Ideal) b1.view.ty) (f11 : BufTy.Contents (Elt Ideal) b2.view.ty) : Prop where
  sum : ∀ g, IsRow (sums acc g) fun t => ∑ k ∈ Finset.range (n * 128), (h g).g k (i * 128 + t.val)
  dq : ∀ g, IsReal (dqs acc g) fun d t => ∑ k ∈ Finset.range (n * 128), (h g).K d k * (h g).dz k (i * 128 + t.val)
  dk : ∀ (g : Fin 4) (j : Fin 64) (d : Fin 64) (s : Fin 128),
    b1.view.read (Elt Ideal) f10 (ix4 g j d s) = ((Head.part (h g).Q (h g).dz i n j.val d s.val : ℝ) : EReal)
  dv : ∀ (g : Fin 4) (j : Fin 64) (d : Fin 64) (s : Fin 128),
    b2.view.read (Elt Ideal) f11 (ix4 g j d s) = ((Head.part (h g).C (h g).w i n j.val d s.val : ℝ) : EReal)

theorem loadKV_apply (b : Memref sig .tc .vmem S4x64x64x128 .bf16) (X : BufTy.Contents (Elt Ideal) b.view.ty) (off : Fin 4 → ℕ)
    (inb : ∀ a, off a + S1x1x64x128.size a ≤ S4x64x64x128.size a) (g : Fin 4) (j : Fin 64) (hoff : off = ![g.val, j.val, 0, 0]) (d : Fin 64) (s : Fin 128) :
    loadKV b X off inb (ix2 d s) = b.view.read (Elt Ideal) X (ix4 g j d s) := by
  subst hoff
  rw [loadKV, View.readAt_eq_ld]
  generalize b.view.read (Elt Ideal) X = Y
  refine (shapeCast_apply _ _ (ix2 d s) (ix4 (0 : Fin 1) (0 : Fin 1) d s) ?_).trans ?_
  · rw [show (S1x1x64x128.rowMajor (ix4 (0 : Fin 1) (0 : Fin 1) d s)).val = _ from Shape.rowMajor_val_four _, show (S64x128.rowMajor (ix2 d s)).val = _ from Shape.rowMajor_val_two _]
    simp
  · exact congrArg Y (Rect.emb_eq_of_coords _ _ _ (by intro a; fin_cases a <;> simp))

/-- A block of a buffer of four heads. -/
theorem loadKV_real (b : Memref sig .tc .vmem S4x64x64x128 .bf16) (X : BufTy.Contents (Elt Ideal) b.view.ty) (off : Fin 4 → ℕ)
    (inb : ∀ a, off a + S1x1x64x128.size a ≤ S4x64x64x128.size a) (g : Fin 4) (j : ℕ) (hj : j < 64) (hoff : off = ![g.val, j, 0, 0])
    (r : Fin 64 → ℕ → ℝ) (hX : ∀ (j d : Fin 64) (s : Fin 128), b.view.read (Elt Ideal) X (ix4 g j d s) = ((r d (j.val * 128 + s.val) : ℝ) : EReal)) :
    IsReal (loadKV b X off inb) fun d s => r d (j * 128 + s.val) :=
  fun d s => (loadKV_apply b X off inb g ⟨j, hj⟩ hoff d s).trans (hX ⟨j, hj⟩ d s)

theorem loadRows_apply (b : Memref sig .tc .vmem S4x1x64x128 .f32) (X : BufTy.Contents (Elt Ideal) b.view.ty) (off : Fin 4 → ℕ)
    (inb : ∀ a, off a + S1x1x8x128.size a ≤ S4x1x64x128.size a) (g : Fin 4) (m : ℕ) (hoff : off = ![g.val, 0, m, 0]) (r : Fin 8) (j : Fin 64)
    (hj : j.val = m + r.val) (t : Fin 128) :
    loadRows b X off inb (ix2 r t) = b.view.read (Elt Ideal) X (ix4 g 0 j t) := by
  subst hoff
  rw [loadRows, View.readAt_eq_ld]
  generalize b.view.read (Elt Ideal) X = Y
  refine (shapeCast_apply _ _ (ix2 r t) (ix4 (0 : Fin 1) (0 : Fin 1) r t) ?_).trans ?_
  · rw [show (S1x1x8x128.rowMajor (ix4 (0 : Fin 1) (0 : Fin 1) r t)).val = _ from Shape.rowMajor_val_four _, show (S8x128.rowMajor (ix2 r t)).val = _ from Shape.rowMajor_val_two _]
    simp
  · exact congrArg Y (Rect.emb_eq_of_coords _ _ _ (by intro a; fin_cases a <;> simp [hj]))

theorem loadRows_real (b : Memref sig .tc .vmem S4x1x64x128 .f32) (X : BufTy.Contents (Elt Ideal) b.view.ty) (off : Fin 4 → ℕ)
    (inb : ∀ a, off a + S1x1x8x128.size a ≤ S4x1x64x128.size a) (g : Fin 4) (j : ℕ) (hj : j < 64) (hoff : off = ![g.val, 0, j / 8 * 8, 0])
    (r : ℕ → Fin 128 → ℝ) (hX : ∀ (j : Fin 64) (t : Fin 128), b.view.read (Elt Ideal) X (ix4 g 0 j t) = ((r j.val t : ℝ) : EReal)) (t : Fin 128) :
    loadRows b X off inb (ix2 ⟨j % 8, Nat.mod_lt _ (by decide)⟩ t) = ((r j t : ℝ) : EReal) :=
  (loadRows_apply b X off inb g (j / 8 * 8) hoff ⟨j % 8, Nat.mod_lt _ (by decide)⟩ ⟨j, hj⟩ (by show j = j / 8 * 8 + j % 8; omega) t).trans (hX ⟨j, hj⟩ t)

variable (𝒱 : Variants) (c : Dev nD) (bd : Option 𝒱.V) (i : grid0.Coords)
  (arg2 : Memref sig .tc .vmem S4x64x64x128 .bf16) (harg2 : arg2.IsWhole) (arg3 : Memref sig .tc .vmem S4x64x64x128 .bf16) (harg3 : arg3.IsWhole)
  (arg4 : Memref sig .tc .vmem S4x64x128 .bf16) (harg4 : arg4.IsWhole) (arg5 : Memref sig .tc .vmem S4x64x128 .bf16) (harg5 : arg5.IsWhole)
  (arg6 : Memref sig .tc .vmem S4x1x64x128 .f32) (harg6 : arg6.IsWhole) (arg7 : Memref sig .tc .vmem S128x128 .bf16) (harg7 : arg7.IsWhole)
  (arg8 : Memref sig .tc .vmem S128x128 .bf16) (harg8 : arg8.IsWhole) (arg9 : Memref sig .tc .vmem S4x64x128 .f32) (harg9 : arg9.IsWhole)
  (arg10 : Memref sig .tc .vmem S4x64x64x128 .f32) (harg10 : arg10.IsWhole) (arg11 : Memref sig .tc .vmem S4x64x64x128 .f32) (harg11 : arg11.IsWhole)
  (arg1 : BitVec 32) (v4 v6 v8 v10 v12 v14 v16 v18 : FVec Ideal S64x128 .bf16) (v20 v22 : FVec Ideal S64x128 .f32) (v42 : BitVec 32)
  (k0_hw1 : k0_chk1 i v42) (v47 : BitVec 32)
  (X2 : BufTy.Contents (Elt Ideal) arg2.view.ty) (X3 : BufTy.Contents (Elt Ideal) arg3.view.ty) (X6 : BufTy.Contents (Elt Ideal) arg6.view.ty)
  (X7 : BufTy.Contents (Elt Ideal) arg7.view.ty) (X8 : BufTy.Contents (Elt Ideal) arg8.view.ty) (k : Fin (k0_t1_loop i v42).trips)
  (acc : Carry) (f10 : BufTy.Contents (Elt Ideal) arg10.view.ty) (f11 : BufTy.Contents (Elt Ideal) arg11.view.ty)

/-- What the loop reads, on real numbers: the keys and values, the sums after each block, the triangles, and the queries and cotangents of
    the block `i` of queries. -/
structure LoopIn (h : Fin 4 → Head) : Prop where
  k : ∀ (g : Fin 4) (j d : Fin 64) (s : Fin 128), arg2.view.read (Elt Ideal) X2 (ix4 g j d s) = (((h g).K d (j.val * 128 + s.val) : ℝ) : EReal)
  v : ∀ (g : Fin 4) (j d : Fin 64) (s : Fin 128), arg3.view.read (Elt Ideal) X3 (ix4 g j d s) = (((h g).V d (j.val * 128 + s.val) : ℝ) : EReal)
  rows : ∀ (g : Fin 4) (j : Fin 64) (t : Fin 128), arg6.view.read (Elt Ideal) X6 (ix4 g 0 j t) = (((h g).run j.val ((i 1).val * 128 + t.val) : ℝ) : EReal)
  later : IsLater (loadTri arg7 X7)
  earlier : IsEarlier (loadTri arg8 X8)
  q : ∀ g : Fin 4, IsReal ((![v4, v6, v8, v10] : Fin 4 → FVec Ideal S64x128 .bf16) g) fun d t => (h g).Q d ((i 1).val * 128 + t.val)
  c : ∀ g : Fin 4, IsReal ((![v12, v14, v16, v18] : Fin 4 → FVec Ideal S64x128 .bf16) g) fun d t => (h g).C d ((i 1).val * 128 + t.val)

variable (h : Fin 4 → Head) (I : LoopIn i arg2 arg3 arg6 arg7 arg8 v4 v6 v8 v10 v12 v14 v16 v18 X2 X3 X6 X7 X8 h)
  (e42 : v42.toNat = (i 1).val) (e1 : arg1 = BitVec.ofNat 32 (i 1).val) (e47 : v47 = Scalar.subi arg1 v42)

include e42 in
theorem trip_lt : k.val < 64 := by
  have hi : (i 1).val < 64 := (i 1).isLt
  have hk : k.val < (i 1).val + 1 := lt_of_lt_of_eq k.isLt (loop1 i (i 1).val v42 e42 le_rfl).2
  omega

include I e42

theorem in1_at (S : LoopAt h arg10 arg11 (i 1).val k.val acc f10 f11) :
    HeadAt (h 0) (in1 i arg2 arg3 arg6 v4 v12 v42 k0_hw1 X2 X3 X6 k acc) k.val (i 1).val :=
  ⟨loadKV_real _ _ _ _ 0 k.val (trip_lt i v42 k e42) ((off1_eq i _ v42 e42 le_rfl k).trans (by simp)) (h 0).K (I.k 0),
    loadKV_real _ _ _ _ 0 k.val (trip_lt i v42 k e42) ((off1_eq i _ v42 e42 le_rfl k).trans (by simp)) (h 0).V (I.v 0), I.q 0, I.c 0,
    loadRows_real _ _ _ _ 0 k.val (trip_lt i v42 k e42) ((off5_eq i _ v42 e42 le_rfl k).trans (by simp)) (fun j t => (h 0).run j ((i 1).val * 128 + t.val)) (I.rows 0),
    S.sum 0⟩

theorem in2_at (S : LoopAt h arg10 arg11 (i 1).val k.val acc f10 f11) :
    HeadAt (h 1) (in2 i arg2 arg3 arg6 v6 v14 v42 k0_hw1 X2 X3 X6 k acc) k.val (i 1).val :=
  ⟨loadKV_real _ _ _ _ 1 k.val (trip_lt i v42 k e42) ((off2_eq i _ v42 e42 le_rfl k).trans (by simp)) (h 1).K (I.k 1),
    loadKV_real _ _ _ _ 1 k.val (trip_lt i v42 k e42) ((off2_eq i _ v42 e42 le_rfl k).trans (by simp)) (h 1).V (I.v 1), I.q 1, I.c 1,
    loadRows_real _ _ _ _ 1 k.val (trip_lt i v42 k e42) ((off6_eq i _ v42 e42 le_rfl k).trans (by simp)) (fun j t => (h 1).run j ((i 1).val * 128 + t.val)) (I.rows 1),
    S.sum 1⟩

theorem in3_at (S : LoopAt h arg10 arg11 (i 1).val k.val acc f10 f11) :
    HeadAt (h 2) (in3 i arg2 arg3 arg6 v8 v16 v42 k0_hw1 X2 X3 X6 k acc) k.val (i 1).val :=
  ⟨loadKV_real _ _ _ _ 2 k.val (trip_lt i v42 k e42) ((off3_eq i _ v42 e42 le_rfl k).trans (by simp)) (h 2).K (I.k 2),
    loadKV_real _ _ _ _ 2 k.val (trip_lt i v42 k e42) ((off3_eq i _ v42 e42 le_rfl k).trans (by simp)) (h 2).V (I.v 2), I.q 2, I.c 2,
    loadRows_real _ _ _ _ 2 k.val (trip_lt i v42 k e42) ((off7_eq i _ v42 e42 le_rfl k).trans (by simp)) (fun j t => (h 2).run j ((i 1).val * 128 + t.val)) (I.rows 2),
    S.sum 2⟩

theorem in4_at (S : LoopAt h arg10 arg11 (i 1).val k.val acc f10 f11) :
    HeadAt (h 3) (in4 i arg2 arg3 arg6 v10 v18 v42 k0_hw1 X2 X3 X6 k acc) k.val (i 1).val :=
  ⟨loadKV_real _ _ _ _ 3 k.val (trip_lt i v42 k e42) ((off4_eq i _ v42 e42 le_rfl k).trans (by simp)) (h 3).K (I.k 3),
    loadKV_real _ _ _ _ 3 k.val (trip_lt i v42 k e42) ((off4_eq i _ v42 e42 le_rfl k).trans (by simp)) (h 3).V (I.v 3), I.q 3, I.c 3,
    loadRows_real _ _ _ _ 3 k.val (trip_lt i v42 k e42) ((off8_eq i _ v42 e42 le_rfl k).trans (by simp)) (fun j t => (h 3).run j ((i 1).val * 128 + t.val)) (I.rows 3),
    S.sum 3⟩

include e1 e47

/-- One trip. -/
theorem loop_step (S : LoopAt h arg10 arg11 (i 1).val k.val acc f10 f11) :
    LoopAt h arg10 arg11 (i 1).val (k.val + 1) (tripR_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 k acc f10 f11)
      (arg10.view.writes (Elt Ideal) f10 (tripL_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 k acc f10 f11).1)
      (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 k acc f10 f11).2) := by
  have hi : (i 1).val < 64 := (i 1).isLt
  have hk := trip_lt i v42 k e42
  have ej : blockWord v47 k.val = BitVec.ofNat 32 k.val := by
    have hk' : k.val ≤ (i 1).val := Nat.lt_succ_iff.1 (lt_of_lt_of_eq k.isLt (loop1 i (i 1).val v42 e42 le_rfl).2)
    have e := word1 i (i 1).val v42 e42 le_rfl k.val hk'
    rw [Nat.sub_self, Nat.zero_add] at e
    rw [e47, e1]
    exact e
  have H1 := in1_at i arg2 arg3 arg6 arg7 arg8 arg10 arg11 v4 v6 v8 v10 v12 v14 v16 v18 v42 k0_hw1 X2 X3 X6 X7 X8 k acc f10 f11 h I e42 S
  have o1 : k0_off1 i v42 k = ![0, k.val, 0, 0] := (off1_eq i _ v42 e42 le_rfl k).trans (by simp)
  have H2 := in2_at i arg2 arg3 arg6 arg7 arg8 arg10 arg11 v4 v6 v8 v10 v12 v14 v16 v18 v42 k0_hw1 X2 X3 X6 X7 X8 k acc f10 f11 h I e42 S
  have o2 : k0_off2 i v42 k = ![1, k.val, 0, 0] := (off2_eq i _ v42 e42 le_rfl k).trans (by simp)
  have H3 := in3_at i arg2 arg3 arg6 arg7 arg8 arg10 arg11 v4 v6 v8 v10 v12 v14 v16 v18 v42 k0_hw1 X2 X3 X6 X7 X8 k acc f10 f11 h I e42 S
  have o3 : k0_off3 i v42 k = ![2, k.val, 0, 0] := (off3_eq i _ v42 e42 le_rfl k).trans (by simp)
  have H4 := in4_at i arg2 arg3 arg6 arg7 arg8 arg10 arg11 v4 v6 v8 v10 v12 v14 v16 v18 v42 k0_hw1 X2 X3 X6 X7 X8 k acc f10 f11 h I e42 S
  have o4 : k0_off4 i v42 k = ![3, k.val, 0, 0] := (off4_eq i _ v42 e42 le_rfl k).trans (by simp)
  rw [tripR_eq, tripL_eq, ej, e1]
  refine ⟨fun g => ?_, fun g => ?_, fun g j d s => ?_, fun g j d s => ?_⟩
  · fin_cases g
    · exact gsum_at hk hi H1 I.later
    · exact gsum_at hk hi H2 I.later
    · exact gsum_at hk hi H3 I.later
    · exact gsum_at hk hi H4 I.later
  · fin_cases g
    · exact dq_at hk hi H1 I.later I.earlier (S.dq 0)
    · exact dq_at hk hi H2 I.later I.earlier (S.dq 1)
    · exact dq_at hk hi H3 I.later I.earlier (S.dq 2)
    · exact dq_at hk hi H4 I.later I.earlier (S.dq 3)
  · rw [read_addPieces arg10 f10 k.val _ _ _ (o1) _ _ _ (o2) _ _ _ (o3) _ _ _ (o4), S.dk g j d s]
    have e : (![dkAdd v4 ((in1 i arg2 arg3 arg6 v4 v12 v42 k0_hw1 X2 X3 X6 k acc).dz (loadTri arg7 X7) (loadTri arg8 X8) (BitVec.ofNat 32 k.val) (BitVec.ofNat 32 (i 1).val)), dkAdd v6 ((in2 i arg2 arg3 arg6 v6 v14 v42 k0_hw1 X2 X3 X6 k acc).dz (loadTri arg7 X7) (loadTri arg8 X8) (BitVec.ofNat 32 k.val) (BitVec.ofNat 32 (i 1).val)), dkAdd v8 ((in3 i arg2 arg3 arg6 v8 v16 v42 k0_hw1 X2 X3 X6 k acc).dz (loadTri arg7 X7) (loadTri arg8 X8) (BitVec.ofNat 32 k.val) (BitVec.ofNat 32 (i 1).val)), dkAdd v10 ((in4 i arg2 arg3 arg6 v10 v18 v42 k0_hw1 X2 X3 X6 k acc).dz (loadTri arg7 X7) (loadTri arg8 X8) (BitVec.ofNat 32 k.val) (BitVec.ofNat 32 (i 1).val))] : Fin 4 → FVec Ideal S64x128 .f32) g (ix2 d s)
        = ((∑ t : Fin 128, (h g).Q d ((i 1).val * 128 + t.val) * (h g).dz (k.val * 128 + s.val) ((i 1).val * 128 + t.val) : ℝ) : EReal) := by
      fin_cases g
      · exact dk_at hk hi H1 I.later I.earlier d s
      · exact dk_at hk hi H2 I.later I.earlier d s
      · exact dk_at hk hi H3 I.later I.earlier d s
      · exact dk_at hk hi H4 I.later I.earlier d s
    rw [e, ← EReal.coe_add, ← Head.part_step]
    by_cases c : j.val = k.val
    · simp only [c, if_true]
    · simp only [c, if_false]
  · rw [read_addPieces arg11 f11 k.val _ _ _ (o1) _ _ _ (o2) _ _ _ (o3) _ _ _ (o4), S.dv g j d s]
    have e : (![dkAdd v12 ((in1 i arg2 arg3 arg6 v4 v12 v42 k0_hw1 X2 X3 X6 k acc).w (loadTri arg7 X7) (BitVec.ofNat 32 k.val) (BitVec.ofNat 32 (i 1).val)), dkAdd v14 ((in2 i arg2 arg3 arg6 v6 v14 v42 k0_hw1 X2 X3 X6 k acc).w (loadTri arg7 X7) (BitVec.ofNat 32 k.val) (BitVec.ofNat 32 (i 1).val)), dkAdd v16 ((in3 i arg2 arg3 arg6 v8 v16 v42 k0_hw1 X2 X3 X6 k acc).w (loadTri arg7 X7) (BitVec.ofNat 32 k.val) (BitVec.ofNat 32 (i 1).val)), dkAdd v18 ((in4 i arg2 arg3 arg6 v10 v18 v42 k0_hw1 X2 X3 X6 k acc).w (loadTri arg7 X7) (BitVec.ofNat 32 k.val) (BitVec.ofNat 32 (i 1).val))] : Fin 4 → FVec Ideal S64x128 .f32) g (ix2 d s)
        = ((∑ t : Fin 128, (h g).C d ((i 1).val * 128 + t.val) * (h g).w (k.val * 128 + s.val) ((i 1).val * 128 + t.val) : ℝ) : EReal) := by
      fin_cases g
      · exact dv_at hk hi H1 I.later d s
      · exact dv_at hk hi H2 I.later d s
      · exact dv_at hk hi H3 I.later d s
      · exact dv_at hk hi H4 I.later d s
    rw [e, ← EReal.coe_add, ← Head.part_step]
    by_cases c : j.val = k.val
    · simp only [c, if_true]
    · simp only [c, if_false]

end Cert.KernelIdeal.Hand
-- ==== Proof.LoopEnd.lean ====
/- Hand-written, untrusted. The whole loop on real numbers, and the count of earlier blocks: every one is counted. -/
module

public import proofs.«01_k».proof.Proof.LoopValue

@[expose] public section

set_option maxRecDepth 65536
set_option maxHeartbeats 1600000

noncomputable section

namespace Cert.KernelIdeal.Hand

open Idealize.ShloMosaic Idealize.ShloMosaic.TcCoe Idealize.ShloMosaic.Tactic
open Cert.KernelIdeal.Gen Cert.Attn

section

variable (𝒱 : Variants) (c : Dev nD) (bd : Option 𝒱.V) (i : grid0.Coords)
  (arg2 : Memref sig .tc .vmem S4x64x64x128 .bf16) (harg2 : arg2.IsWhole) (arg3 : Memref sig .tc .vmem S4x64x64x128 .bf16) (harg3 : arg3.IsWhole)
  (arg4 : Memref sig .tc .vmem S4x64x128 .bf16) (harg4 : arg4.IsWhole) (arg5 : Memref sig .tc .vmem S4x64x128 .bf16) (harg5 : arg5.IsWhole)
  (arg6 : Memref sig .tc .vmem S4x1x64x128 .f32) (harg6 : arg6.IsWhole) (arg7 : Memref sig .tc .vmem S128x128 .bf16) (harg7 : arg7.IsWhole)
  (arg8 : Memref sig .tc .vmem S128x128 .bf16) (harg8 : arg8.IsWhole) (arg9 : Memref sig .tc .vmem S4x64x128 .f32) (harg9 : arg9.IsWhole)
  (arg10 : Memref sig .tc .vmem S4x64x64x128 .f32) (harg10 : arg10.IsWhole) (arg11 : Memref sig .tc .vmem S4x64x64x128 .f32) (harg11 : arg11.IsWhole)
  (arg1 : BitVec 32) (v4 v6 v8 v10 v12 v14 v16 v18 : FVec Ideal S64x128 .bf16) (v20 v22 : FVec Ideal S64x128 .f32) (v42 : BitVec 32)
  (k0_hw1 : k0_chk1 i v42) (v47 : BitVec 32)
  (X2 : BufTy.Contents (Elt Ideal) arg2.view.ty) (X3 : BufTy.Contents (Elt Ideal) arg3.view.ty) (X6 : BufTy.Contents (Elt Ideal) arg6.view.ty)
  (X7 : BufTy.Contents (Elt Ideal) arg7.view.ty) (X8 : BufTy.Contents (Elt Ideal) arg8.view.ty)
  (init : Carry) (f10 : BufTy.Contents (Elt Ideal) arg10.view.ty) (f11 : BufTy.Contents (Elt Ideal) arg11.view.ty)

variable (h : Fin 4 → Head) (I : LoopIn i arg2 arg3 arg6 arg7 arg8 v4 v6 v8 v10 v12 v14 v16 v18 X2 X3 X6 X7 X8 h)
  (e42 : v42.toNat = (i 1).val) (e1 : arg1 = BitVec.ofNat 32 (i 1).val) (e47 : v47 = Scalar.subi arg1 v42)
  (S0 : LoopAt h arg10 arg11 (i 1).val 0 init f10 f11)

include I e42 e1 e47 S0

theorem loop_all (n : ℕ) (hn : n ≤ (i 1).val + 1) :
    LoopAt h arg10 arg11 (i 1).val n (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 f10 f11 init n).1 (arg10.view.writes (Elt Ideal) f10 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 f10 f11 init n).2.1) (arg11.view.writes (Elt Ideal) f11 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 f10 f11 init n).2.2) := by
  induction n with
  | zero => exact S0
  | succ n ih =>
    have hk : n < (k0_t1_loop i v42).trips := lt_of_lt_of_eq hn (loop1 i (i 1).val v42 e42 le_rfl).2.symm
    have e := st_k0_t1_succ (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 f10 f11 init ⟨n, hk⟩
    rw [e]
    dsimp only
    rw [View.writes_append, View.writes_append]
    exact loop_step 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 ⟨n, hk⟩ _ _ _ h I e42 e1 e47 (ih (by omega))

theorem loop_end : LoopAt h arg10 arg11 (i 1).val ((i 1).val + 1) (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 f10 f11 init (k0_t1_loop i v42).trips).1
    (arg10.view.writes (Elt Ideal) f10 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 f10 f11 init (k0_t1_loop i v42).trips).2.1)
    (arg11.view.writes (Elt Ideal) f11 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 f10 f11 init (k0_t1_loop i v42).trips).2.2) := by
  rw [(loop1 i (i 1).val v42 e42 le_rfl).2]
  exact loop_all 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v42 k0_hw1 v47 X2 X3 X6 X7 X8 init f10 f11 h I e42 e1 e47 S0 _ le_rfl

end

/-! ## The count -/

theorem no_weight : (Named.named κ "no_weight" 0xC2B00000#32 : Ideal .f32) = ⊥ :=
  (IdealRules.named_const.statement Cert.KernelIdeal.κ "no_weight" .f32 0xC2B00000#32 ⊥ rfl).2.2

theorem above_apply (v20 v22 : FVec Ideal S64x128 .f32) (v24 v27 : Vec Ideal S1x1x64x128 .f32) (r : Fin 64) :
    above v20 v22 v24 v27 (ix2 r 0) = BitVec.ofBool (decide ((Named.named κ "no_weight" 0xC2B00000#32 : Ideal .f32)
      < Finset.fold max (Ideal.ofBits .f32 0xFF800000#32)
          (fun x => max (max (max (v20 (ix2 r x)) (v22 (ix2 r x))) (v24 (ix4 0 0 r x))) (v27 (ix4 0 0 r x))) Finset.univ)) := by
  pointwise [above]

theorem above_real (v20 v22 : FVec Ideal S64x128 .f32) (v24 v27 : Vec Ideal S1x1x64x128 .f32) (r : Fin 64) {x : ℝ} (hx : v20 (ix2 r 0) = (x : EReal)) :
    above v20 v22 v24 v27 (ix2 r 0) = 1#1 := by
  have e : (⊥ : EReal) < Finset.fold max (Ideal.ofBits .f32 0xFF800000#32)
      (fun x => max (max (max (v20 (ix2 r x)) (v22 (ix2 r x))) (v24 (ix4 0 0 r x))) (v27 (ix4 0 0 r x))) Finset.univ := by
    rw [Finset.lt_fold_max]
    refine Or.inr ⟨0, Finset.mem_univ _, ?_⟩
    rw [hx]
    exact lt_of_lt_of_le (EReal.bot_lt_coe x) ((le_max_left _ _).trans ((le_max_left _ _).trans (le_max_left _ _)))
  rw [above_apply, no_weight, decide_eq_true e]
  rfl

/-- Where the sums are real every earlier block counts. -/
theorem seenWord_real (i : grid0.Coords) (v20 v22 : FVec Ideal S64x128 .f32) (v24 v27 : Vec Ideal S1x1x64x128 .f32) {x : Fin 64 → ℝ}
    (hx : ∀ r, v20 (ix2 r 0) = (x r : EReal)) : (seenWord i v20 v22 v24 v27).toNat = (i 1).val := by
  have hi : (i 1).val < 64 := (i 1).isLt
  rw [seenWord_toNat, Finset.sum_congr rfl fun r _ => show rowCount (above v20 v22 v24 v27) (i 1).val r = if r.val < (i 1).val then 1 else 0 by
    rw [rowCount, above_real _ _ _ _ r (hx r)]; rfl]
  rw [← Finset.sum_range (fun r => if r < (i 1).val then 1 else 0), ← Finset.sum_filter]
  have e : (Finset.range 64).filter (fun r => r < (i 1).val) = Finset.range (i 1).val := by
    ext r
    simp only [Finset.mem_filter, Finset.mem_range]
    omega
  rw [e, Finset.sum_const, Finset.card_range, smul_eq_mul, mul_one]

end Cert.KernelIdeal.Hand
-- ==== Proof.BodyRun.lean ====
/- Hand-written, untrusted. What the body's two runs leave, told by the loop's last state. -/
module

public import proofs.«01_k».proof.Proof.LoopEnd
public import proofs.«01_k».proof.Proof.FirstIdeal
public import proofs.«01_k».proof.Proof.LaterIdeal

@[expose] public section

set_option maxRecDepth 65536
set_option maxHeartbeats 100000

noncomputable section

namespace Cert.KernelIdeal.Hand

open Idealize.ShloMosaic Idealize.ShloMosaic.TcCoe Idealize.ShloMosaic.Tactic
open Cert.KernelIdeal.Gen Cert.Attn

/-- One head's block of queries or cotangents. -/
def headBlock (b : Memref sig .tc .vmem S4x64x128 .bf16) (X : BufTy.Contents (Elt Ideal) b.view.ty) (off : Fin 3 → ℕ)
    (inb : ∀ a, off a + S1x64x128.size a ≤ S4x64x128.size a) : FVec Ideal S64x128 .bf16 :=
  shapeCast S64x128 (View.readAt (Elt Ideal) b.view (Rect.unit (s := S4x64x128) off S1x64x128.size inb).toLoadRect X) shapeCasts_S1x64x128_S64x128

/-- One head's saved sums. -/
def headSums (b : Memref sig .tc .vmem S4x1x64x128 .f32) (X : BufTy.Contents (Elt Ideal) b.view.ty) (off : Fin 4 → ℕ)
    (inb : ∀ a, off a + S1x1x64x128.size a ≤ S4x1x64x128.size a) : Vec Ideal S1x1x64x128 .f32 :=
  View.readAt (Elt Ideal) b.view (Rect.unit (s := S4x1x64x128) off S1x1x64x128.size inb).toLoadRect X

/-- What the loop starts from. -/
def carry0 : Carry := (k0_pay172, k0_pay173, k0_pay174, k0_pay175, k0_pay176, k0_pay177, k0_pay178, k0_pay179)

variable (c : Dev nD) (i : grid0.Coords)
    (bk : Memref sig .tc .vmem S4x64x64x128 .bf16) (hk : bk.IsWhole)
    (bv : Memref sig .tc .vmem S4x64x64x128 .bf16) (hv : bv.IsWhole)
    (bq : Memref sig .tc .vmem S4x64x128 .bf16) (hq : bq.IsWhole)
    (bg : Memref sig .tc .vmem S4x64x128 .bf16) (hg : bg.IsWhole)
    (br : Memref sig .tc .vmem S4x1x64x128 .f32) (hr : br.IsWhole)
    (bu : Memref sig .tc .vmem S128x128 .bf16) (hu : bu.IsWhole)
    (bl : Memref sig .tc .vmem S128x128 .bf16) (hl : bl.IsWhole)
    (b0 : Memref sig .tc .vmem S4x64x128 .f32) (h0 : b0.IsWhole)
    (b1 : Memref sig .tc .vmem S4x64x64x128 .f32) (h1 : b1.IsWhole)
    (b2 : Memref sig .tc .vmem S4x64x64x128 .f32) (h2 : b2.IsWhole)
    (xk : Vec Ideal S4x64x64x128 .bf16) (xv : Vec Ideal S4x64x64x128 .bf16) (xq : Vec Ideal S4x64x128 .bf16) (xg : Vec Ideal S4x64x128 .bf16) (xr : Vec Ideal S4x1x64x128 .f32) (xu : Vec Ideal S128x128 .bf16) (xl : Vec Ideal S128x128 .bf16)

def sums0 : FVec Ideal S64x128 .f32 := shapeCast S64x128 (headSums br (hr.unread xr) ![0, 0, 0, 0] inb_S4x1x64x128_S1x1x64x128_0_0_0_0) shapeCasts_S1x1x64x128_S64x128
def sums1 : FVec Ideal S64x128 .f32 := shapeCast S64x128 (headSums br (hr.unread xr) ![1, 0, 0, 0] inb_S4x1x64x128_S1x1x64x128_1_0_0_0) shapeCasts_S1x1x64x128_S64x128

/-- The count of earlier blocks at a point. -/
def seen : BitVec 32 := seenWord i (sums0 br hr xr) (sums1 br hr xr) (headSums br (hr.unread xr) ![2, 0, 0, 0] inb_S4x1x64x128_S1x1x64x128_2_0_0_0)
  (headSums br (hr.unread xr) ![3, 0, 0, 0] inb_S4x1x64x128_S1x1x64x128_3_0_0_0)

theorem seen_chk : k0_chk1 i (seen i br hr xr) := chk_of_le i _ _ rfl (seenWord_le (F := Ideal) i _ _ _ _)

/-- The loop's last state over the key gradients `G1` and `G2`. -/
def lastState (G1 : BufTy.Contents (Elt Ideal) b1.view.ty) (G2 : BufTy.Contents (Elt Ideal) b2.view.ty) :
    Carry × List (View.Piece (Elt Ideal) S4x64x64x128 .f32) × List (View.Piece (Elt Ideal) S4x64x64x128 .f32) :=
  st_k0_t1 (F := Ideal) Variants.none c none i bk hk bv hv bq hq bg hg br hr bu hu bl hl b0 h0 b1 h1 b2 h2 (BitVec.ofNat 32 (i 1).val)
    (headBlock bq (hq.unread xq) ![0, 0, 0] inb_S4x64x128_S1x64x128_0_0_0) (headBlock bq (hq.unread xq) ![1, 0, 0] inb_S4x64x128_S1x64x128_1_0_0)
    (headBlock bq (hq.unread xq) ![2, 0, 0] inb_S4x64x128_S1x64x128_2_0_0) (headBlock bq (hq.unread xq) ![3, 0, 0] inb_S4x64x128_S1x64x128_3_0_0)
    (headBlock bg (hg.unread xg) ![0, 0, 0] inb_S4x64x128_S1x64x128_0_0_0) (headBlock bg (hg.unread xg) ![1, 0, 0] inb_S4x64x128_S1x64x128_1_0_0)
    (headBlock bg (hg.unread xg) ![2, 0, 0] inb_S4x64x128_S1x64x128_2_0_0) (headBlock bg (hg.unread xg) ![3, 0, 0] inb_S4x64x128_S1x64x128_3_0_0)
    (sums0 br hr xr) (sums1 br hr xr) (seen i br hr xr) (seen_chk i br hr xr) (Scalar.subi (BitVec.ofNat 32 (i 1).val) (seen i br hr xr))
    (hk.unread xk) (hv.unread xv) (hr.unread xr) (hu.unread xu) (hl.unread xl) G1 G2 carry0 (k0_t1_loop i (seen i br hr xr)).trips

/-- The four query gradients' writes. -/
def dqPieces (a : Carry) : List (View.Piece (Elt Ideal) S4x64x128 .f32) :=
  [⟨Rect.unit (s := S4x64x128) ![3, 0, 0] S1x64x128.size inb_S4x64x128_S1x64x128_3_0_0, shapeCast S1x64x128 a.2.2.2.2.2.2.2 shapeCasts_S64x128_S1x64x128⟩,
    ⟨Rect.unit (s := S4x64x128) ![2, 0, 0] S1x64x128.size inb_S4x64x128_S1x64x128_2_0_0, shapeCast S1x64x128 a.2.2.2.2.2.2.1 shapeCasts_S64x128_S1x64x128⟩,
    ⟨Rect.unit (s := S4x64x128) ![1, 0, 0] S1x64x128.size inb_S4x64x128_S1x64x128_1_0_0, shapeCast S1x64x128 a.2.2.2.2.2.1 shapeCasts_S64x128_S1x64x128⟩,
    ⟨Rect.unit (s := S4x64x128) ![0, 0, 0] S1x64x128.size inb_S4x64x128_S1x64x128_0_0_0, shapeCast S1x64x128 a.2.2.2.2.1 shapeCasts_S64x128_S1x64x128⟩]

/-- The write that clears a key gradient. -/
def clear : List (View.Piece (Elt Ideal) S4x64x64x128 .f32) :=
  [⟨Rect.unit (s := S4x64x64x128) ![0, 0, 0, 0] S4x64x64x128.size inb_S4x64x64x128_S4x64x64x128_0_0_0_0, k0_pay159 (F := Ideal)⟩]

/-- A loop of no trips ends where it starts. -/
theorem second_loop (e : (seen i br hr xr).toNat = (i 1).val) : (k0_t2_loop i (seen i br hr xr)).trips = 0 := (loop2 i _ _ e le_rfl).2

theorem st2_none (𝒱 : Variants) (c : Dev nD) (bd : Option 𝒱.V) (i : grid0.Coords) (arg2 : Memref sig .tc .vmem S4x64x64x128 .bf16) (harg2 : arg2.IsWhole) (arg3 : Memref sig .tc .vmem S4x64x64x128 .bf16) (harg3 : arg3.IsWhole) (arg4 : Memref sig .tc .vmem S4x64x128 .bf16) (harg4 : arg4.IsWhole) (arg5 : Memref sig .tc .vmem S4x64x128 .bf16) (harg5 : arg5.IsWhole) (arg6 : Memref sig .tc .vmem S4x1x64x128 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S4x64x128 .f32) (harg9 : arg9.IsWhole) (arg10 : Memref sig .tc .vmem S4x64x64x128 .f32) (harg10 : arg10.IsWhole) (arg11 : Memref sig .tc .vmem S4x64x64x128 .f32) (harg11 : arg11.IsWhole) (arg1 : BitVec 32) (v4 : FVec Ideal S64x128 .bf16) (v6 : FVec Ideal S64x128 .bf16) (v8 : FVec Ideal S64x128 .bf16) (v10 : FVec Ideal S64x128 .bf16) (v12 : FVec Ideal S64x128 .bf16) (v14 : FVec Ideal S64x128 .bf16) (v16 : FVec Ideal S64x128 .bf16) (v18 : FVec Ideal S64x128 .bf16) (v42 : BitVec 32) (k0_hw1 : k0_chk1 i v42) (v57 : BitVec 32) (c1_i32_49 : BitVec 32) (X_arg2 : BufTy.Contents (Elt Ideal) arg2.view.ty) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg10 : BufTy.Contents (Elt Ideal) arg10.view.ty) (G_arg11 : BufTy.Contents (Elt Ideal) arg11.view.ty) (init : FVec Ideal S1x128 .f32 × FVec Ideal S1x128 .f32 × FVec Ideal S1x128 .f32 × FVec Ideal S1x128 .f32 × FVec Ideal S64x128 .f32 × FVec Ideal S64x128 .f32 × FVec Ideal S64x128 .f32 × FVec Ideal S64x128 .f32) (n : ℕ) (hn : n = 0) :
    st_k0_t2 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v42 k0_hw1 v57 c1_i32_49 X_arg2 X_arg3 X_arg6 X_arg7 X_arg8 G_arg10 G_arg11 init n = (init, [], []) := by
  subst hn
  rfl

theorem first_chk : k0_chk1 i (firstRun.sl.v42 c i br hr xr) := seen_chk i br hr xr

/-- The state the run's loop ends in. -/
def firstState : Carry × List (View.Piece (Elt Ideal) S4x64x64x128 .f32) × List (View.Piece (Elt Ideal) S4x64x64x128 .f32) :=
  st_k0_t1 (F := Ideal) Variants.none c none i bk hk bv hv bq hq bg hg br hr bu hu bl hl b0 h0 b1 h1 b2 h2 (BitVec.ofNat 32 (i 1).val)
    (firstRun.sl.r c bq hq xq) (firstRun.sl.r_1 c bq hq xq) (firstRun.sl.r_2 c bq hq xq) (firstRun.sl.r_3 c bq hq xq) (firstRun.sl.r_4 c bg hg xg) (firstRun.sl.r_5 c bg hg xg) (firstRun.sl.r_6 c bg hg xg) (firstRun.sl.r_7 c bg hg xg) (firstRun.sl.r_8 c br hr xr) (firstRun.sl.r_9 c br hr xr) (firstRun.sl.v42 c i br hr xr) (first_chk c i br hr xr) (firstRun.sl.v47 c i br hr xr)
    (hk.unread xk) (hv.unread xv) (hr.unread xr) (hu.unread xu) (hl.unread xl) (b1.view.writes (Elt Ideal) b1.view.junk firstRun.sl.H1_1) (b2.view.writes (Elt Ideal) b2.view.junk firstRun.sl.H2_1)
    (k0_pay172, k0_pay173, k0_pay174, k0_pay175, k0_pay176, k0_pay177, k0_pay178, k0_pay179)
    (Scf.trips (k0_t1_loop i (firstRun.sl.v42 c i br hr xr)).lb (k0_t1_loop i (firstRun.sl.v42 c i br hr xr)).ub (k0_t1_loop i (firstRun.sl.v42 c i br hr xr)).st)

theorem first_state : firstState c i bk hk bv hv bq hq bg hg br hr bu hu bl hl b0 h0 b1 h1 b2 h2 xk xv xq xg xr xu xl = lastState c i bk hk bv hv bq hq bg hg br hr bu hu bl hl b0 h0 b1 h1 b2 h2 xk xv xq xg xr xu xl (b1.view.writes (Elt Ideal) b1.view.junk clear) (b2.view.writes (Elt Ideal) b2.view.junk clear) := rfl

theorem first_r14 (S) (hS : firstState c i bk hk bv hv bq hq bg hg br hr bu hu bl hl b0 h0 b1 h1 b2 h2 xk xv xq xg xr xu xl = S) :
    firstRun.sl.r_14 (F := Ideal) c i bk hk bv hv bq hq bg hg br hr bu hu bl hl b0 h0 b1 h1 b2 h2 xk xv xq xg xr xu xl = S.1.2.2.2.2.1 := by
  rewrite [firstState] at hS
  rewrite [firstRun.sl.r_14, hS]
  rfl

theorem first_r15 (S) (hS : firstState c i bk hk bv hv bq hq bg hg br hr bu hu bl hl b0 h0 b1 h1 b2 h2 xk xv xq xg xr xu xl = S) :
    firstRun.sl.r_15 (F := Ideal) c i bk hk bv hv bq hq bg hg br hr bu hu bl hl b0 h0 b1 h1 b2 h2 xk xv xq xg xr xu xl = S.1.2.2.2.2.2.1 := by
  rewrite [firstState] at hS
  rewrite [firstRun.sl.r_15, hS]
  rfl

theorem first_r16 (S) (hS : firstState c i bk hk bv hv bq hq bg hg br hr bu hu bl hl b0 h0 b1 h1 b2 h2 xk xv xq xg xr xu xl = S) :
    firstRun.sl.r_16 (F := Ideal) c i bk hk bv hv bq hq bg hg br hr bu hu bl hl b0 h0 b1 h1 b2 h2 xk xv xq xg xr xu xl = S.1.2.2.2.2.2.2.1 := by
  rewrite [firstState] at hS
  rewrite [firstRun.sl.r_16, hS]
  rfl

theorem first_r17 (S) (hS : firstState c i bk hk bv hv bq hq bg hg br hr bu hu bl hl b0 h0 b1 h1 b2 h2 xk xv xq xg xr xu xl = S) :
    firstRun.sl.r_17 (F := Ideal) c i bk hk bv hv bq hq bg hg br hr bu hu bl hl b0 h0 b1 h1 b2 h2 xk xv xq xg xr xu xl = S.1.2.2.2.2.2.2.2 := by
  rewrite [firstState] at hS
  rewrite [firstRun.sl.r_17, hS]
  rfl

theorem first0 (hc : isFirst i) (e : (seen i br hr xr).toNat = (i 1).val) :
    (firstRun (F := Ideal) c i bk hk bv hv bq hq bg hg br hr bu hu bl hl b0 h0 b1 h1 b2 h2 hc xk xv xq xg xr xu xl).1 = dqPieces (lastState c i bk hk bv hv bq hq bg hg br hr bu hu bl hl b0 h0 b1 h1 b2 h2 xk xv xq xg xr xu xl (b1.view.writes (Elt Ideal) b1.view.junk clear) (b2.view.writes (Elt Ideal) b2.view.junk clear)).1 := by
  unfold firstRun
  dsimp only [firstRun.sl.v42]
  rw [st2_none]
  · dsimp only
    have hS := first_state c i bk hk bv hv bq hq bg hg br hr bu hu bl hl b0 h0 b1 h1 b2 h2 xk xv xq xg xr xu xl
    revert hS
    generalize lastState c i bk hk bv hv bq hq bg hg br hr bu hu bl hl b0 h0 b1 h1 b2 h2 xk xv xq xg xr xu xl (b1.view.writes (Elt Ideal) b1.view.junk clear) (b2.view.writes (Elt Ideal) b2.view.junk clear) = S
    intro hS
    rw [first_r14 c i bk hk bv hv bq hq bg hg br hr bu hu bl hl b0 h0 b1 h1 b2 h2 xk xv xq xg xr xu xl S hS, first_r15 c i bk hk bv hv bq hq bg hg br hr bu hu bl hl b0 h0 b1 h1 b2 h2 xk xv xq xg xr xu xl S hS, first_r16 c i bk hk bv hv bq hq bg hg br hr bu hu bl hl b0 h0 b1 h1 b2 h2 xk xv xq xg xr xu xl S hS, first_r17 c i bk hk bv hv bq hq bg hg br hr bu hu bl hl b0 h0 b1 h1 b2 h2 xk xv xq xg xr xu xl S hS]
    rfl
  · exact second_loop i br hr xr e

theorem later_chk : k0_chk1 i (laterRun.sl.v42 c i br hr xr) := seen_chk i br hr xr

/-- The state the run's loop ends in. -/
def laterState (x1 x2 : Vec Ideal S4x64x64x128 .f32) : Carry × List (View.Piece (Elt Ideal) S4x64x64x128 .f32) × List (View.Piece (Elt Ideal) S4x64x64x128 .f32) :=
  st_k0_t1 (F := Ideal) Variants.none c none i bk hk bv hv bq hq bg hg br hr bu hu bl hl b0 h0 b1 h1 b2 h2 (BitVec.ofNat 32 (i 1).val)
    (laterRun.sl.r c bq hq xq) (laterRun.sl.r_1 c bq hq xq) (laterRun.sl.r_2 c bq hq xq) (laterRun.sl.r_3 c bq hq xq) (laterRun.sl.r_4 c bg hg xg) (laterRun.sl.r_5 c bg hg xg) (laterRun.sl.r_6 c bg hg xg) (laterRun.sl.r_7 c bg hg xg) (laterRun.sl.r_8 c br hr xr) (laterRun.sl.r_9 c br hr xr) (laterRun.sl.v42 c i br hr xr) (later_chk c i br hr xr) (laterRun.sl.v47 c i br hr xr)
    (hk.unread xk) (hv.unread xv) (hr.unread xr) (hu.unread xu) (hl.unread xl) (h1.unread x1) (h2.unread x2)
    (k0_pay172, k0_pay173, k0_pay174, k0_pay175, k0_pay176, k0_pay177, k0_pay178, k0_pay179)
    (Scf.trips (k0_t1_loop i (laterRun.sl.v42 c i br hr xr)).lb (k0_t1_loop i (laterRun.sl.v42 c i br hr xr)).ub (k0_t1_loop i (laterRun.sl.v42 c i br hr xr)).st)

theorem later_state (x1 x2 : Vec Ideal S4x64x64x128 .f32) : laterState c i bk hk bv hv bq hq bg hg br hr bu hu bl hl b0 h0 b1 h1 b2 h2 xk xv xq xg xr xu xl x1 x2 = lastState c i bk hk bv hv bq hq bg hg br hr bu hu bl hl b0 h0 b1 h1 b2 h2 xk xv xq xg xr xu xl (h1.unread x1) (h2.unread x2) := rfl

theorem later_r14 (x1 x2 : Vec Ideal S4x64x64x128 .f32) (S) (hS : laterState c i bk hk bv hv bq hq bg hg br hr bu hu bl hl b0 h0 b1 h1 b2 h2 xk xv xq xg xr xu xl x1 x2 = S) :
    laterRun.sl.r_14 (F := Ideal) c i bk hk bv hv bq hq bg hg br hr bu hu bl hl b0 h0 b1 h1 b2 h2 xk xv xq xg xr xu xl x1 x2 = S.1.2.2.2.2.1 := by
  rewrite [laterState] at hS
  rewrite [laterRun.sl.r_14, hS]
  rfl

theorem later_r15 (x1 x2 : Vec Ideal S4x64x64x128 .f32) (S) (hS : laterState c i bk hk bv hv bq hq bg hg br hr bu hu bl hl b0 h0 b1 h1 b2 h2 xk xv xq xg xr xu xl x1 x2 = S) :
    laterRun.sl.r_15 (F := Ideal) c i bk hk bv hv bq hq bg hg br hr bu hu bl hl b0 h0 b1 h1 b2 h2 xk xv xq xg xr xu xl x1 x2 = S.1.2.2.2.2.2.1 := by
  rewrite [laterState] at hS
  rewrite [laterRun.sl.r_15, hS]
  rfl

theorem later_r16 (x1 x2 : Vec Ideal S4x64x64x128 .f32) (S) (hS : laterState c i bk hk bv hv bq hq bg hg br hr bu hu bl hl b0 h0 b1 h1 b2 h2 xk xv xq xg xr xu xl x1 x2 = S) :
    laterRun.sl.r_16 (F := Ideal) c i bk hk bv hv bq hq bg hg br hr bu hu bl hl b0 h0 b1 h1 b2 h2 xk xv xq xg xr xu xl x1 x2 = S.1.2.2.2.2.2.2.1 := by
  rewrite [laterState] at hS
  rewrite [laterRun.sl.r_16, hS]
  rfl

theorem later_r17 (x1 x2 : Vec Ideal S4x64x64x128 .f32) (S) (hS : laterState c i bk hk bv hv bq hq bg hg br hr bu hu bl hl b0 h0 b1 h1 b2 h2 xk xv xq xg xr xu xl x1 x2 = S) :
    laterRun.sl.r_17 (F := Ideal) c i bk hk bv hv bq hq bg hg br hr bu hu bl hl b0 h0 b1 h1 b2 h2 xk xv xq xg xr xu xl x1 x2 = S.1.2.2.2.2.2.2.2 := by
  rewrite [laterState] at hS
  rewrite [laterRun.sl.r_17, hS]
  rfl

theorem later0 (x1 x2 : Vec Ideal S4x64x64x128 .f32) (hc : ¬isFirst i) (e : (seen i br hr xr).toNat = (i 1).val) :
    (laterRun (F := Ideal) c i bk hk bv hv bq hq bg hg br hr bu hu bl hl b0 h0 b1 h1 b2 h2 hc xk xv xq xg xr xu xl x1 x2).1 = dqPieces (lastState c i bk hk bv hv bq hq bg hg br hr bu hu bl hl b0 h0 b1 h1 b2 h2 xk xv xq xg xr xu xl (h1.unread x1) (h2.unread x2)).1 := by
  unfold laterRun
  dsimp only [laterRun.sl.v42]
  rw [st2_none]
  · dsimp only
    have hS := later_state c i bk hk bv hv bq hq bg hg br hr bu hu bl hl b0 h0 b1 h1 b2 h2 xk xv xq xg xr xu xl x1 x2
    revert hS
    generalize lastState c i bk hk bv hv bq hq bg hg br hr bu hu bl hl b0 h0 b1 h1 b2 h2 xk xv xq xg xr xu xl (h1.unread x1) (h2.unread x2) = S
    intro hS
    rw [later_r14 c i bk hk bv hv bq hq bg hg br hr bu hu bl hl b0 h0 b1 h1 b2 h2 xk xv xq xg xr xu xl x1 x2 S hS, later_r15 c i bk hk bv hv bq hq bg hg br hr bu hu bl hl b0 h0 b1 h1 b2 h2 xk xv xq xg xr xu xl x1 x2 S hS, later_r16 c i bk hk bv hv bq hq bg hg br hr bu hu bl hl b0 h0 b1 h1 b2 h2 xk xv xq xg xr xu xl x1 x2 S hS, later_r17 c i bk hk bv hv bq hq bg hg br hr bu hu bl hl b0 h0 b1 h1 b2 h2 xk xv xq xg xr xu xl x1 x2 S hS]
    rfl
  · exact second_loop i br hr xr e

section
variable (hc : isFirst i) (e : (seen i br hr xr).toNat = (i 1).val)
include e

theorem first1 : (firstRun (F := Ideal) c i bk hk bv hv bq hq bg hg br hr bu hu bl hl b0 h0 b1 h1 b2 h2 hc xk xv xq xg xr xu xl).2.1 = (lastState c i bk hk bv hv bq hq bg hg br hr bu hu bl hl b0 h0 b1 h1 b2 h2 xk xv xq xg xr xu xl (b1.view.writes (Elt Ideal) b1.view.junk clear) (b2.view.writes (Elt Ideal) b2.view.junk clear)).2.1 ++ clear := by
  unfold firstRun
  dsimp only [firstRun.sl.v42]
  rw [st2_none]
  · dsimp only
    rw [List.nil_append]
    rfl
  · exact second_loop i br hr xr e

theorem first2 : (firstRun (F := Ideal) c i bk hk bv hv bq hq bg hg br hr bu hu bl hl b0 h0 b1 h1 b2 h2 hc xk xv xq xg xr xu xl).2.2.1 = (lastState c i bk hk bv hv bq hq bg hg br hr bu hu bl hl b0 h0 b1 h1 b2 h2 xk xv xq xg xr xu xl (b1.view.writes (Elt Ideal) b1.view.junk clear) (b2.view.writes (Elt Ideal) b2.view.junk clear)).2.2 ++ clear := by
  unfold firstRun
  dsimp only [firstRun.sl.v42]
  rw [st2_none]
  · dsimp only
    rw [List.nil_append]
    rfl
  · exact second_loop i br hr xr e
end

section
variable (hc : ¬isFirst i) (e : (seen i br hr xr).toNat = (i 1).val) (x1 x2 : Vec Ideal S4x64x64x128 .f32)
include e

theorem later1 : (laterRun (F := Ideal) c i bk hk bv hv bq hq bg hg br hr bu hu bl hl b0 h0 b1 h1 b2 h2 hc xk xv xq xg xr xu xl x1 x2).2.1 = (lastState c i bk hk bv hv bq hq bg hg br hr bu hu bl hl b0 h0 b1 h1 b2 h2 xk xv xq xg xr xu xl (h1.unread x1) (h2.unread x2)).2.1 := by
  unfold laterRun
  dsimp only [laterRun.sl.v42]
  rw [st2_none]
  · dsimp only
    rw [List.nil_append]
    rfl
  · exact second_loop i br hr xr e

theorem later2 : (laterRun (F := Ideal) c i bk hk bv hv bq hq bg hg br hr bu hu bl hl b0 h0 b1 h1 b2 h2 hc xk xv xq xg xr xu xl x1 x2).2.2.1 = (lastState c i bk hk bv hv bq hq bg hg br hr bu hu bl hl b0 h0 b1 h1 b2 h2 xk xv xq xg xr xu xl (h1.unread x1) (h2.unread x2)).2.2 := by
  unfold laterRun
  dsimp only [laterRun.sl.v42]
  rw [st2_none]
  · dsimp only
    rw [List.nil_append]
    rfl
  · exact second_loop i br hr xr e
end

end Cert.KernelIdeal.Hand
-- ==== Proof.BodyValue.lean ====
/- Hand-written, untrusted. What the body's two runs leave, on real numbers. -/
module

public import proofs.«01_k».proof.Proof.BodyRun

@[expose] public section

set_option maxRecDepth 65536
set_option maxHeartbeats 400000

noncomputable section

namespace Cert.KernelIdeal.Hand

open Idealize.ShloMosaic Idealize.ShloMosaic.TcCoe Idealize.ShloMosaic.Tactic
open Cert.KernelIdeal.Gen Cert.Attn

/-! ## What the body reads -/

theorem headBlock_apply (b : Memref sig .tc .vmem S4x64x128 .bf16) (X : BufTy.Contents (Elt Ideal) b.view.ty) (off : Fin 3 → ℕ)
    (inb : ∀ a, off a + S1x64x128.size a ≤ S4x64x128.size a) (g : Fin 4) (hoff : off = ![g.val, 0, 0]) (d : Fin 64) (t : Fin 128) :
    headBlock b X off inb (ix2 d t) = b.view.read (Elt Ideal) X (ix3 g d t) := by
  subst hoff
  rw [headBlock, View.readAt_eq_ld]
  generalize b.view.read (Elt Ideal) X = Y
  refine (shapeCast_apply _ _ (ix2 d t) (ix3 (0 : Fin 1) d t) ?_).trans ?_
  · rw [show (S1x64x128.rowMajor (ix3 (0 : Fin 1) d t)).val = _ from Shape.rowMajor_val_three _, show (S64x128.rowMajor (ix2 d t)).val = _ from Shape.rowMajor_val_two _]
    simp
  · exact congrArg Y (Rect.emb_eq_of_coords _ _ _ (by intro a; fin_cases a <;> simp))

theorem sums_apply (b : Memref sig .tc .vmem S4x1x64x128 .f32) (X : BufTy.Contents (Elt Ideal) b.view.ty) (off : Fin 4 → ℕ)
    (inb : ∀ a, off a + S1x1x64x128.size a ≤ S4x1x64x128.size a) (g : Fin 4) (hoff : off = ![g.val, 0, 0, 0]) (j : Fin 64) (t : Fin 128) :
    shapeCast S64x128 (headSums b X off inb) shapeCasts_S1x1x64x128_S64x128 (ix2 j t) = b.view.read (Elt Ideal) X (ix4 g 0 j t) := by
  subst hoff
  rw [headSums, View.readAt_eq_ld]
  generalize b.view.read (Elt Ideal) X = Y
  refine (shapeCast_apply _ _ (ix2 j t) (ix4 (0 : Fin 1) (0 : Fin 1) j t) ?_).trans ?_
  · rw [show (S1x1x64x128.rowMajor (ix4 (0 : Fin 1) (0 : Fin 1) j t)).val = _ from Shape.rowMajor_val_four _, show (S64x128.rowMajor (ix2 j t)).val = _ from Shape.rowMajor_val_two _]
    simp
  · exact congrArg Y (Rect.emb_eq_of_coords _ _ _ (by intro a; fin_cases a <;> simp))

theorem loadTri_unread (b : Memref sig .tc .vmem S128x128 .bf16) (h : b.IsWhole) (x : Vec Ideal S128x128 .bf16) : loadTri b (h.unread x) = x := by
  rw [loadTri, View.readAt_eq_ld, h.read_unread]
  have e : (![0, 0] : Fin S128x128.rank → ℕ) = fun _ => 0 := by
    funext a
    fin_cases a <;> rfl
  funext j
  exact (shapeCast_apply _ _ j j rfl).trans (congrFun (View.ld_unit_zero e _ x) j)

/-- The blocks at a point of query block `i`, on real numbers. -/
structure PointIn (i : ℕ) (xk xv : Vec Ideal S4x64x64x128 .bf16) (xq xg : Vec Ideal S4x64x128 .bf16) (xr : Vec Ideal S4x1x64x128 .f32)
    (xu xl : Vec Ideal S128x128 .bf16) (h : Fin 4 → Head) : Prop where
  k : ∀ (g : Fin 4) (j d : Fin 64) (s : Fin 128), xk (ix4 g j d s) = (((h g).K d (j.val * 128 + s.val) : ℝ) : EReal)
  v : ∀ (g : Fin 4) (j d : Fin 64) (s : Fin 128), xv (ix4 g j d s) = (((h g).V d (j.val * 128 + s.val) : ℝ) : EReal)
  q : ∀ (g : Fin 4) (d : Fin 64) (t : Fin 128), xq (ix3 g d t) = (((h g).Q d (i * 128 + t.val) : ℝ) : EReal)
  c : ∀ (g : Fin 4) (d : Fin 64) (t : Fin 128), xg (ix3 g d t) = (((h g).C d (i * 128 + t.val) : ℝ) : EReal)
  rows : ∀ (g : Fin 4) (j : Fin 64) (t : Fin 128), xr (ix4 g 0 j t) = (((h g).run j.val (i * 128 + t.val) : ℝ) : EReal)
  later : IsLater xu
  earlier : IsEarlier xl

/-- The key gradients before query block `i`. -/
structure GradIn (i : ℕ) (x1 x2 : Vec Ideal S4x64x64x128 .f32) (h : Fin 4 → Head) : Prop where
  dk : ∀ (g : Fin 4) (j d : Fin 64) (s : Fin 128), x1 (ix4 g j d s) = ((Head.part (h g).Q (h g).dz i 0 j.val d s.val : ℝ) : EReal)
  dv : ∀ (g : Fin 4) (j d : Fin 64) (s : Fin 128), x2 (ix4 g j d s) = ((Head.part (h g).C (h g).w i 0 j.val d s.val : ℝ) : EReal)

theorem GradIn.next {i : ℕ} {x1 x2 : Vec Ideal S4x64x64x128 .f32} {h : Fin 4 → Head}
    (hk : ∀ (g : Fin 4) (j d : Fin 64) (s : Fin 128), x1 (ix4 g j d s) = ((Head.part (h g).Q (h g).dz i (i + 1) j.val d s.val : ℝ) : EReal))
    (hv : ∀ (g : Fin 4) (j d : Fin 64) (s : Fin 128), x2 (ix4 g j d s) = ((Head.part (h g).C (h g).w i (i + 1) j.val d s.val : ℝ) : EReal)) :
    GradIn (i + 1) x1 x2 h :=
  ⟨fun g j d s => (hk g j d s).trans (congrArg _ (Head.part_next _ _ (fun _ _ e => (h g).dz_of_le e) _ _ _ _)),
    fun g j d s => (hv g j d s).trans (congrArg _ (Head.part_next _ _ (fun _ _ e => (h g).w_of_le e) _ _ _ _))⟩

/-- The query gradients of block `i`. -/
def IsDq (i : ℕ) (x : Vec Ideal S4x64x128 .f32) (h : Fin 4 → Head) : Prop :=
  ∀ (g : Fin 4) (d : Fin 64) (t : Fin 128), x (ix3 g d t) = (((h g).dq d (i * 128 + t.val) : ℝ) : EReal)

/-! ## The starting values -/

theorem carry0_sum (g : Fin 4) (t : Fin 128) : sums carry0 g (ix2 0 t) = ((0 : ℝ) : EReal) := by
  fin_cases g <;> exact ofBits_zero

theorem carry0_dq (g : Fin 4) (d : Fin 64) (t : Fin 128) : dqs carry0 g (ix2 d t) = ((0 : ℝ) : EReal) := by
  fin_cases g <;> exact ofBits_zero

theorem read_clear (b : Memref sig .tc .vmem S4x64x64x128 .f32) (f : BufTy.Contents (Elt Ideal) b.view.ty) (g : Fin 4) (j d : Fin 64) (s : Fin 128) :
    b.view.read (Elt Ideal) (b.view.writes (Elt Ideal) f clear) (ix4 g j d s) = ((0 : ℝ) : EReal) := by
  rw [clear, View.read_writes_cons_unit_of_mem (off' := ![0, 0, 0, 0]) b.view f inb_S4x64x64x128_S4x64x64x128_0_0_0_0 _ [] (ix4 g j d s) (ix4 g j d s) rfl
    (by intro a; fin_cases a <;> simp)]
  exact ofBits_zero

theorem read_dqPiece (b : Memref sig .tc .vmem S4x64x128 .f32) (f : BufTy.Contents (Elt Ideal) b.view.ty) (x : FVec Ideal S64x128 .f32)
    (L : List (View.Piece (Elt Ideal) S4x64x128 .f32)) (off : Fin 3 → ℕ) (inb : ∀ a, off a + S1x64x128.size a ≤ S4x64x128.size a) (n : Fin 4)
    (hoff : off = ![n.val, 0, 0]) (d : Fin 64) (t : Fin 128) :
    b.view.read (Elt Ideal) (b.view.writes (Elt Ideal) f
      (⟨Rect.unit (s := S4x64x128) off S1x64x128.size inb, shapeCast S1x64x128 x shapeCasts_S64x128_S1x64x128⟩ :: L)) (ix3 n d t) = x (ix2 d t) := by
  subst hoff
  rw [View.read_writes_cons_unit_of_mem (off' := ![n.val, 0, 0]) b.view f inb _ L (ix3 n d t) (ix3 (0 : Fin 1) d t) rfl
    (by intro a; fin_cases a <;> simp)]
  refine shapeCast_apply _ _ (ix3 (0 : Fin 1) d t) (ix2 d t) ?_
  rw [show (S1x64x128.rowMajor (ix3 (0 : Fin 1) d t)).val = _ from Shape.rowMajor_val_three _, show (S64x128.rowMajor (ix2 d t)).val = _ from Shape.rowMajor_val_two _]
  simp

theorem skip_dqPiece (b : Memref sig .tc .vmem S4x64x128 .f32) (f : BufTy.Contents (Elt Ideal) b.view.ty) (x : FVec Ideal S64x128 .f32)
    (L : List (View.Piece (Elt Ideal) S4x64x128 .f32)) (off : Fin 3 → ℕ) (inb : ∀ a, off a + S1x64x128.size a ≤ S4x64x128.size a) (n : Fin 4)
    (hoff : off = ![n.val, 0, 0]) (g : Fin 4) (h : g ≠ n) (d : Fin 64) (t : Fin 128) :
    b.view.read (Elt Ideal) (b.view.writes (Elt Ideal) f
      (⟨Rect.unit (s := S4x64x128) off S1x64x128.size inb, shapeCast S1x64x128 x shapeCasts_S64x128_S1x64x128⟩ :: L)) (ix3 g d t)
      = b.view.read (Elt Ideal) (b.view.writes (Elt Ideal) f L) (ix3 g d t) := by
  subst hoff
  refine View.read_writes_cons_unit_of_not_mem (off' := ![n.val, 0, 0]) b.view f inb _ L (ix3 g d t) rfl 0 ?_
  have h' : g.val ≠ n.val := fun e => h (Fin.ext e)
  show g.val < n.val ∨ n.val + 1 ≤ g.val
  omega

theorem read_dqPieces (b : Memref sig .tc .vmem S4x64x128 .f32) (f : BufTy.Contents (Elt Ideal) b.view.ty) (a : Carry) (g : Fin 4) (d : Fin 64) (t : Fin 128) :
    b.view.read (Elt Ideal) (b.view.writes (Elt Ideal) f (dqPieces a)) (ix3 g d t) = dqs a g (ix2 d t) := by
  unfold dqPieces
  by_cases e3 : g = 3
  · subst e3
    exact read_dqPiece b f _ _ _ _ 3 rfl d t
  refine (skip_dqPiece b f _ _ _ _ 3 rfl g e3 d t).trans ?_
  by_cases e2 : g = 2
  · subst e2
    exact read_dqPiece b f _ _ _ _ 2 rfl d t
  refine (skip_dqPiece b f _ _ _ _ 2 rfl g e2 d t).trans ?_
  by_cases e1 : g = 1
  · subst e1
    exact read_dqPiece b f _ _ _ _ 1 rfl d t
  refine (skip_dqPiece b f _ _ _ _ 1 rfl g e1 d t).trans ?_
  have e0 : g = 0 := by omega
  subst e0
  exact read_dqPiece b f _ _ _ _ 0 rfl d t

variable (c : Dev nD) (i : grid0.Coords)
    (bk : Memref sig .tc .vmem S4x64x64x128 .bf16) (hk : bk.IsWhole)
    (bv : Memref sig .tc .vmem S4x64x64x128 .bf16) (hv : bv.IsWhole)
    (bq : Memref sig .tc .vmem S4x64x128 .bf16) (hq : bq.IsWhole)
    (bg : Memref sig .tc .vmem S4x64x128 .bf16) (hg : bg.IsWhole)
    (br : Memref sig .tc .vmem S4x1x64x128 .f32) (hr : br.IsWhole)
    (bu : Memref sig .tc .vmem S128x128 .bf16) (hu : bu.IsWhole)
    (bl : Memref sig .tc .vmem S128x128 .bf16) (hl : bl.IsWhole)
    (b0 : Memref sig .tc .vmem S4x64x128 .f32) (h0 : b0.IsWhole)
    (b1 : Memref sig .tc .vmem S4x64x64x128 .f32) (h1 : b1.IsWhole)
    (b2 : Memref sig .tc .vmem S4x64x64x128 .f32) (h2 : b2.IsWhole)
    (xk : Vec Ideal S4x64x64x128 .bf16) (xv : Vec Ideal S4x64x64x128 .bf16) (xq : Vec Ideal S4x64x128 .bf16) (xg : Vec Ideal S4x64x128 .bf16) (xr : Vec Ideal S4x1x64x128 .f32) (xu : Vec Ideal S128x128 .bf16) (xl : Vec Ideal S128x128 .bf16)

section
variable (h : Fin 4 → Head) (I : PointIn (i 1).val xk xv xq xg xr xu xl h)
include I

theorem seen_real : (seen i br hr xr).toNat = (i 1).val := by
  refine seenWord_real i _ _ _ _ (x := fun r => (h 0).run r.val ((i 1).val * 128 + (0 : Fin 128).val)) fun r => ?_
  rw [sums0]
  refine (sums_apply br _ _ _ 0 rfl r 0).trans ?_
  rw [hr.read_unread]
  exact I.rows 0 r 0

theorem loopIn : LoopIn i bk bv br bu bl
    (headBlock bq (hq.unread xq) ![0, 0, 0] inb_S4x64x128_S1x64x128_0_0_0) (headBlock bq (hq.unread xq) ![1, 0, 0] inb_S4x64x128_S1x64x128_1_0_0)
    (headBlock bq (hq.unread xq) ![2, 0, 0] inb_S4x64x128_S1x64x128_2_0_0) (headBlock bq (hq.unread xq) ![3, 0, 0] inb_S4x64x128_S1x64x128_3_0_0)
    (headBlock bg (hg.unread xg) ![0, 0, 0] inb_S4x64x128_S1x64x128_0_0_0) (headBlock bg (hg.unread xg) ![1, 0, 0] inb_S4x64x128_S1x64x128_1_0_0)
    (headBlock bg (hg.unread xg) ![2, 0, 0] inb_S4x64x128_S1x64x128_2_0_0) (headBlock bg (hg.unread xg) ![3, 0, 0] inb_S4x64x128_S1x64x128_3_0_0)
    (hk.unread xk) (hv.unread xv) (hr.unread xr) (hu.unread xu) (hl.unread xl) h := by
  refine ⟨fun g j d s => ?_, fun g j d s => ?_, fun g j t => ?_, ?_, ?_, fun g => ?_, fun g => ?_⟩
  · rw [hk.read_unread]; exact I.k g j d s
  · rw [hv.read_unread]; exact I.v g j d s
  · rw [hr.read_unread]; exact I.rows g j t
  · rw [loadTri_unread]; exact I.later
  · rw [loadTri_unread]; exact I.earlier
  · fin_cases g
    · exact fun d t => (headBlock_apply bq _ _ _ 0 rfl d t).trans ((congrFun (hq.read_unread _) _).trans (I.q 0 d t))
    · exact fun d t => (headBlock_apply bq _ _ _ 1 rfl d t).trans ((congrFun (hq.read_unread _) _).trans (I.q 1 d t))
    · exact fun d t => (headBlock_apply bq _ _ _ 2 rfl d t).trans ((congrFun (hq.read_unread _) _).trans (I.q 2 d t))
    · exact fun d t => (headBlock_apply bq _ _ _ 3 rfl d t).trans ((congrFun (hq.read_unread _) _).trans (I.q 3 d t))
  · fin_cases g
    · exact fun d t => (headBlock_apply bg _ _ _ 0 rfl d t).trans ((congrFun (hg.read_unread _) _).trans (I.c 0 d t))
    · exact fun d t => (headBlock_apply bg _ _ _ 1 rfl d t).trans ((congrFun (hg.read_unread _) _).trans (I.c 1 d t))
    · exact fun d t => (headBlock_apply bg _ _ _ 2 rfl d t).trans ((congrFun (hg.read_unread _) _).trans (I.c 2 d t))
    · exact fun d t => (headBlock_apply bg _ _ _ 3 rfl d t).trans ((congrFun (hg.read_unread _) _).trans (I.c 3 d t))

variable (G1 : BufTy.Contents (Elt Ideal) b1.view.ty) (G2 : BufTy.Contents (Elt Ideal) b2.view.ty)
  (J : GradIn (i 1).val (b1.view.read (Elt Ideal) G1) (b2.view.read (Elt Ideal) G2) h)
include J

theorem last_at : LoopAt h b1 b2 (i 1).val ((i 1).val + 1) (lastState c i bk hk bv hv bq hq bg hg br hr bu hu bl hl b0 h0 b1 h1 b2 h2 xk xv xq xg xr xu xl G1 G2).1
    (b1.view.writes (Elt Ideal) G1 (lastState c i bk hk bv hv bq hq bg hg br hr bu hu bl hl b0 h0 b1 h1 b2 h2 xk xv xq xg xr xu xl G1 G2).2.1) (b2.view.writes (Elt Ideal) G2 (lastState c i bk hk bv hv bq hq bg hg br hr bu hu bl hl b0 h0 b1 h1 b2 h2 xk xv xq xg xr xu xl G1 G2).2.2) :=
  loop_end Variants.none c none i bk hk bv hv bq hq bg hg br hr bu hu bl hl b0 h0 b1 h1 b2 h2 (BitVec.ofNat 32 (i 1).val)
    _ _ _ _ _ _ _ _ (sums0 br hr xr) (sums1 br hr xr) (seen i br hr xr) (seen_chk i br hr xr) (Scalar.subi (BitVec.ofNat 32 (i 1).val) (seen i br hr xr))
    (hk.unread xk) (hv.unread xv) (hr.unread xr) (hu.unread xu) (hl.unread xl) carry0 G1 G2 h
    (loopIn i bk hk bv hv bq hq bg hg br hr bu hu bl hl xk xv xq xg xr xu xl h I) (seen_real i br hr xk xv xq xg xr xu xl h I) rfl rfl
    ⟨fun g t => (carry0_sum g t).trans (by beta_reduce; rw [Nat.zero_mul, Finset.range_zero, Finset.sum_empty]),
      fun g d t => (carry0_dq g d t).trans (by beta_reduce; rw [Nat.zero_mul, Finset.range_zero, Finset.sum_empty]), J.dk, J.dv⟩

theorem last_dq (b : Memref sig .tc .vmem S4x64x128 .f32) (f : BufTy.Contents (Elt Ideal) b.view.ty) :
    IsDq (i 1).val (b.view.read (Elt Ideal) (b.view.writes (Elt Ideal) f (dqPieces (lastState c i bk hk bv hv bq hq bg hg br hr bu hu bl hl b0 h0 b1 h1 b2 h2 xk xv xq xg xr xu xl G1 G2).1))) h := fun g d t => by
  rw [read_dqPieces, (last_at c i bk hk bv hv bq hq bg hg br hr bu hu bl hl b0 h0 b1 h1 b2 h2 xk xv xq xg xr xu xl h I G1 G2 J).dq g d t]
  exact congrArg _ (Head.dq_block _ _ _ (i 1).isLt _)

theorem last_grad : GradIn ((i 1).val + 1) (b1.view.read (Elt Ideal) (b1.view.writes (Elt Ideal) G1 (lastState c i bk hk bv hv bq hq bg hg br hr bu hu bl hl b0 h0 b1 h1 b2 h2 xk xv xq xg xr xu xl G1 G2).2.1))
    (b2.view.read (Elt Ideal) (b2.view.writes (Elt Ideal) G2 (lastState c i bk hk bv hv bq hq bg hg br hr bu hu bl hl b0 h0 b1 h1 b2 h2 xk xv xq xg xr xu xl G1 G2).2.2)) h :=
  GradIn.next (last_at c i bk hk bv hv bq hq bg hg br hr bu hu bl hl b0 h0 b1 h1 b2 h2 xk xv xq xg xr xu xl h I G1 G2 J).dk
    (last_at c i bk hk bv hv bq hq bg hg br hr bu hu bl hl b0 h0 b1 h1 b2 h2 xk xv xq xg xr xu xl h I G1 G2 J).dv

end

/-- Before the first block nothing has been added. -/
theorem clear_grad (h : Fin 4 → Head) (f1 : BufTy.Contents (Elt Ideal) b1.view.ty) (f2 : BufTy.Contents (Elt Ideal) b2.view.ty) :
    GradIn 0 (b1.view.read (Elt Ideal) (b1.view.writes (Elt Ideal) f1 clear)) (b2.view.read (Elt Ideal) (b2.view.writes (Elt Ideal) f2 clear)) h :=
  ⟨fun g j d s => by rw [read_clear, Head.part_zero], fun g j d s => by rw [read_clear, Head.part_zero]⟩

end Cert.KernelIdeal.Hand
-- ==== Proof.PointValue.lean ====
/- Hand-written, untrusted. What a point leaves in its outputs, on real numbers. -/
module

public import proofs.«01_k».proof.Proof.BodyValue

@[expose] public section

set_option maxRecDepth 65536
set_option maxHeartbeats 400000

noncomputable section

namespace Cert.KernelIdeal.Hand

open Idealize.ShloMosaic Idealize.ShloMosaic.TcCoe Idealize.ShloMosaic.Tactic
open Cert.KernelIdeal.Gen Cert.Attn

variable (c : Dev nD) (i : grid0.Coords)
    (bk : Memref sig .tc .vmem S4x64x64x128 .bf16) (hk : bk.IsWhole)
    (bv : Memref sig .tc .vmem S4x64x64x128 .bf16) (hv : bv.IsWhole)
    (bq : Memref sig .tc .vmem S4x64x128 .bf16) (hq : bq.IsWhole)
    (bg : Memref sig .tc .vmem S4x64x128 .bf16) (hg : bg.IsWhole)
    (br : Memref sig .tc .vmem S4x1x64x128 .f32) (hr : br.IsWhole)
    (bu : Memref sig .tc .vmem S128x128 .bf16) (hu : bu.IsWhole)
    (bl : Memref sig .tc .vmem S128x128 .bf16) (hl : bl.IsWhole)
    (b0 : Memref sig .tc .vmem S4x64x128 .f32) (h0 : b0.IsWhole)
    (b1 : Memref sig .tc .vmem S4x64x64x128 .f32) (h1 : b1.IsWhole)
    (b2 : Memref sig .tc .vmem S4x64x64x128 .f32) (h2 : b2.IsWhole)
    (xk : Vec Ideal S4x64x64x128 .bf16) (xv : Vec Ideal S4x64x64x128 .bf16) (xq : Vec Ideal S4x64x128 .bf16) (xg : Vec Ideal S4x64x128 .bf16) (xr : Vec Ideal S4x1x64x128 .f32) (xu : Vec Ideal S128x128 .bf16) (xl : Vec Ideal S128x128 .bf16)

variable (h : Fin 4 → Head)

theorem gives_of (f0 : BufTy.Contents (Elt Ideal) b0.view.ty) (f1 : BufTy.Contents (Elt Ideal) b1.view.ty) (f2 : BufTy.Contents (Elt Ideal) b2.view.ty)
    (L0 L0' : List (View.Piece (Elt Ideal) S4x64x128 .f32)) (L1 L1' L2 L2' : List (View.Piece (Elt Ideal) S4x64x64x128 .f32)) (n : ℕ) (e0 : L0 = L0') (e1 : L1 = L1') (e2 : L2 = L2')
    (H0 : IsDq n (b0.view.read (Elt Ideal) (b0.view.writes (Elt Ideal) f0 L0')) h)
    (H1 : GradIn (n + 1) (b1.view.read (Elt Ideal) (b1.view.writes (Elt Ideal) f1 L1')) (b2.view.read (Elt Ideal) (b2.view.writes (Elt Ideal) f2 L2')) h) :
    IsDq n (b0.view.read (Elt Ideal) (b0.view.writes (Elt Ideal) f0 L0)) h ∧
    GradIn (n + 1) (b1.view.read (Elt Ideal) (b1.view.writes (Elt Ideal) f1 L1)) (b2.view.read (Elt Ideal) (b2.view.writes (Elt Ideal) f2 L2)) h := by
  subst e0; subst e1; subst e2
  exact ⟨H0, H1⟩

variable (I : PointIn (i 1).val xk xv xq xg xr xu xl h)
include I

section
variable (hc : isFirst i) (hz : (i 1).val = 0)
include hz

/-- A group's first point starts the key gradients from nothing. -/
theorem first_gives :
    IsDq (i 1).val (b0.view.read (Elt Ideal) (b0.view.writes (Elt Ideal) b0.view.junk (firstRun (F := Ideal) c i bk hk bv hv bq hq bg hg br hr bu hu bl hl b0 h0 b1 h1 b2 h2 hc xk xv xq xg xr xu xl).1)) h ∧
    GradIn ((i 1).val + 1) (b1.view.read (Elt Ideal) (b1.view.writes (Elt Ideal) b1.view.junk (firstRun (F := Ideal) c i bk hk bv hv bq hq bg hg br hr bu hu bl hl b0 h0 b1 h1 b2 h2 hc xk xv xq xg xr xu xl).2.1))
      (b2.view.read (Elt Ideal) (b2.view.writes (Elt Ideal) b2.view.junk (firstRun (F := Ideal) c i bk hk bv hv bq hq bg hg br hr bu hu bl hl b0 h0 b1 h1 b2 h2 hc xk xv xq xg xr xu xl).2.2.1)) h := by
  have e := seen_real i br hr xk xv xq xg xr xu xl h I
  have J : GradIn (i 1).val (b1.view.read (Elt Ideal) (b1.view.writes (Elt Ideal) b1.view.junk clear)) (b2.view.read (Elt Ideal) (b2.view.writes (Elt Ideal) b2.view.junk clear)) h := by
    rw [hz]
    exact clear_grad b1 b2 h _ _
  refine gives_of b0 b1 b2 h _ _ _ _ _ _ _ _ _ _ (first0 c i bk hk bv hv bq hq bg hg br hr bu hu bl hl b0 h0 b1 h1 b2 h2 xk xv xq xg xr xu xl hc e) (first1 c i bk hk bv hv bq hq bg hg br hr bu hu bl hl b0 h0 b1 h1 b2 h2 xk xv xq xg xr xu xl hc e) (first2 c i bk hk bv hv bq hq bg hg br hr bu hu bl hl b0 h0 b1 h1 b2 h2 xk xv xq xg xr xu xl hc e) ?_ ?_
  · exact last_dq c i bk hk bv hv bq hq bg hg br hr bu hu bl hl b0 h0 b1 h1 b2 h2 xk xv xq xg xr xu xl h I _ _ J b0 _
  · rw [View.writes_append, View.writes_append]
    exact last_grad c i bk hk bv hv bq hq bg hg br hr bu hu bl hl b0 h0 b1 h1 b2 h2 xk xv xq xg xr xu xl h I _ _ J

end

section
variable (hc : ¬isFirst i) (x1 x2 : Vec Ideal S4x64x64x128 .f32) (J : GradIn (i 1).val x1 x2 h)
include J

/-- Another point goes on from what the point before left. -/
theorem later_gives :
    IsDq (i 1).val (b0.view.read (Elt Ideal) (b0.view.writes (Elt Ideal) b0.view.junk (laterRun (F := Ideal) c i bk hk bv hv bq hq bg hg br hr bu hu bl hl b0 h0 b1 h1 b2 h2 hc xk xv xq xg xr xu xl x1 x2).1)) h ∧
    GradIn ((i 1).val + 1) (b1.view.read (Elt Ideal) (b1.view.writes (Elt Ideal) (h1.unread x1) (laterRun (F := Ideal) c i bk hk bv hv bq hq bg hg br hr bu hu bl hl b0 h0 b1 h1 b2 h2 hc xk xv xq xg xr xu xl x1 x2).2.1))
      (b2.view.read (Elt Ideal) (b2.view.writes (Elt Ideal) (h2.unread x2) (laterRun (F := Ideal) c i bk hk bv hv bq hq bg hg br hr bu hu bl hl b0 h0 b1 h1 b2 h2 hc xk xv xq xg xr xu xl x1 x2).2.2.1)) h := by
  have e := seen_real i br hr xk xv xq xg xr xu xl h I
  have J' : GradIn (i 1).val (b1.view.read (Elt Ideal) (h1.unread x1)) (b2.view.read (Elt Ideal) (h2.unread x2)) h := by
    rw [h1.read_unread, h2.read_unread]
    exact J
  exact gives_of b0 b1 b2 h _ _ _ _ _ _ _ _ _ _ (later0 c i bk hk bv hv bq hq bg hg br hr bu hu bl hl b0 h0 b1 h1 b2 h2 xk xv xq xg xr xu xl x1 x2 hc e) (later1 c i bk hk bv hv bq hq bg hg br hr bu hu bl hl b0 h0 b1 h1 b2 h2 xk xv xq xg xr xu xl hc e x1 x2) (later2 c i bk hk bv hv bq hq bg hg br hr bu hu bl hl b0 h0 b1 h1 b2 h2 xk xv xq xg xr xu xl hc e x1 x2)
    (last_dq c i bk hk bv hv bq hq bg hg br hr bu hu bl hl b0 h0 b1 h1 b2 h2 xk xv xq xg xr xu xl h I _ _ J' b0 _) (last_grad c i bk hk bv hv bq hq bg hg br hr bu hu bl hl b0 h0 b1 h1 b2 h2 xk xv xq xg xr xu xl h I _ _ J')

end

end Cert.KernelIdeal.Hand
-- ==== Proof.GridPoint.lean ====
/- Hand-written, untrusted. The grid's blocks on real numbers: where every window's block lies and what a point finds in it. -/
module

public import proofs.«01_k».proof.Proof.BodyValue
public import proofs.«01_k».proof.Proof.FrameIdeal

@[expose] public section

set_option maxRecDepth 16384
set_option maxHeartbeats 400000

noncomputable section

namespace Cert.KernelIdeal.Hand

open Idealize.ShloMosaic Idealize.ShloMosaic.TcCoe Idealize.ShloMosaic.Tactic
open Idealize.ShloMosaic.Pipeline (Dat)
open Cert.KernelIdeal.Gen Cert.Attn

/-! ## Where the blocks lie -/

theorem coord0 (t : Fin cfg0.N) : (BitVec.ofNat 32 (grid0.coords t 0).val).toNat = t.val / 64 := by
  have ht : t.val < 128 := lt_of_lt_of_eq t.isLt N_0
  have e : (grid0.coords t 0).val = t.val / 64 % 2 := Pipeline.Grid.coords_val t 0 (by decide) rfl
  rw [e, BitVec.toNat_ofNat, Nat.mod_eq_of_lt (a := t.val / 64) (by omega), Nat.mod_eq_of_lt (by omega)]

theorem coord1_val (t : Fin cfg0.N) : (grid0.coords t 1).val = t.val % 64 := by
  have e : (grid0.coords t 1).val = t.val / 1 % 64 := Pipeline.Grid.coords_val t 1 (by decide) rfl
  rw [e, Nat.div_one]

theorem coord1 (t : Fin cfg0.N) : (BitVec.ofNat 32 (grid0.coords t 1).val).toNat = t.val % 64 := by
  rw [coord1_val, BitVec.toNat_ofNat, Nat.mod_eq_of_lt (by omega)]

theorem head_lt (t : Fin cfg0.N) (g : Fin 4) : t.val / 64 * 4 + g.val < 8 := by
  have ht : t.val < 128 := lt_of_lt_of_eq t.isLt N_0
  omega

/-- The head a point's `g`-th head is. -/
def headOf (t : Fin cfg0.N) (g : Fin 4) : Fin 8 := ⟨t.val / 64 * 4 + g.val, head_lt t g⟩
/-- The position a point's `q`-th query is. -/
def posOf (t : Fin cfg0.N) (q : Fin 128) : Fin 8192 := ⟨t.val % 64 * 128 + q.val, by omega⟩
/-- A point's query block. -/
def blockOf (t : Fin cfg0.N) : Fin 64 := ⟨t.val % 64, Nat.mod_lt _ (by decide)⟩

theorem emb0 (t : Fin cfg0.N) (g : Fin 4) (j d : Fin 64) (s : Fin 128) :
    ((cfg0.win 0).blk t).view.emb (ix4 g j d s : S4x64x64x128.Idx) = (ix4 (headOf t g) j d s : S8x64x64x128.Idx) := by
  funext a; apply Fin.ext
  match a with
  | ⟨0, _⟩ => show (BitVec.ofNat 32 (grid0.coords t 0).val).toNat * 4 + 1 * g.val = t.val / 64 * 4 + g.val; rw [coord0]; omega
  | ⟨1, _⟩ => show 0 * 64 + 1 * j.val = j.val; omega
  | ⟨2, _⟩ => show 0 * 64 + 1 * d.val = d.val; omega
  | ⟨3, _⟩ => show 0 * 128 + 1 * s.val = s.val; omega

theorem emb1 (t : Fin cfg0.N) (g : Fin 4) (j d : Fin 64) (s : Fin 128) :
    ((cfg0.win 1).blk t).view.emb (ix4 g j d s : S4x64x64x128.Idx) = (ix4 (headOf t g) j d s : S8x64x64x128.Idx) := emb0 t g j d s

theorem emb2 (t : Fin cfg0.N) (g : Fin 4) (d : Fin 64) (q : Fin 128) :
    ((cfg0.win 2).blk t).view.emb (ix3 g d q : S4x64x128.Idx) = (ix3 (headOf t g) d (posOf t q) : S8x64x8192.Idx) := by
  funext a; apply Fin.ext
  match a with
  | ⟨0, _⟩ => show (BitVec.ofNat 32 (grid0.coords t 0).val).toNat * 4 + 1 * g.val = t.val / 64 * 4 + g.val; rw [coord0]; omega
  | ⟨1, _⟩ => show 0 * 64 + 1 * d.val = d.val; omega
  | ⟨2, _⟩ => show (BitVec.ofNat 32 (grid0.coords t 1).val).toNat * 128 + 1 * q.val = t.val % 64 * 128 + q.val; rw [coord1]; omega

theorem emb3 (t : Fin cfg0.N) (g : Fin 4) (d : Fin 64) (q : Fin 128) :
    ((cfg0.win 3).blk t).view.emb (ix3 g d q : S4x64x128.Idx) = (ix3 (headOf t g) d (posOf t q) : S8x64x8192.Idx) := emb2 t g d q

theorem emb7 (t : Fin cfg0.N) (g : Fin 4) (d : Fin 64) (q : Fin 128) :
    ((cfg0.win 7).blk t).view.emb (ix3 g d q : S4x64x128.Idx) = (ix3 (headOf t g) d (posOf t q) : S8x64x8192.Idx) := emb2 t g d q

theorem emb8 (t : Fin cfg0.N) (g : Fin 4) (j d : Fin 64) (s : Fin 128) :
    ((cfg0.win 8).blk t).view.emb (ix4 g j d s : S4x64x64x128.Idx) = (ix4 (headOf t g) j d s : S8x64x64x128.Idx) := emb0 t g j d s

theorem emb9 (t : Fin cfg0.N) (g : Fin 4) (j d : Fin 64) (s : Fin 128) :
    ((cfg0.win 9).blk t).view.emb (ix4 g j d s : S4x64x64x128.Idx) = (ix4 (headOf t g) j d s : S8x64x64x128.Idx) := emb0 t g j d s

theorem emb4 (t : Fin cfg0.N) (g : Fin 4) (j : Fin 64) (q : Fin 128) :
    ((cfg0.win 4).blk t).view.emb (ix4 g 0 j q : S4x1x64x128.Idx) = (ix4 (headOf t g) (blockOf t) j q : S8x64x64x128.Idx) := by
  funext a; apply Fin.ext
  match a with
  | ⟨0, _⟩ => show (BitVec.ofNat 32 (grid0.coords t 0).val).toNat * 4 + 1 * g.val = t.val / 64 * 4 + g.val; rw [coord0]; omega
  | ⟨1, _⟩ => show (BitVec.ofNat 32 (grid0.coords t 1).val).toNat * 1 + 1 * 0 = t.val % 64; rw [coord1]; omega
  | ⟨2, _⟩ => show 0 * 64 + 1 * j.val = j.val; omega
  | ⟨3, _⟩ => show 0 * 128 + 1 * q.val = q.val; omega

theorem emb5 (t : Fin cfg0.N) (s s' : Fin 128) : ((cfg0.win 5).blk t).view.emb (ix2 s s' : S128x128.Idx) = (ix2 s s' : S128x128.Idx) := by
  funext a; apply Fin.ext
  match a with
  | ⟨0, _⟩ => show 0 * 128 + 1 * s.val = s.val; omega
  | ⟨1, _⟩ => show 0 * 128 + 1 * s'.val = s'.val; omega

theorem emb6 (t : Fin cfg0.N) (s s' : Fin 128) : ((cfg0.win 6).blk t).view.emb (ix2 s s' : S128x128.Idx) = (ix2 s s' : S128x128.Idx) := emb5 t s s'

/-! ## The points -/

variable (m : (ℓ : Loc nD τ sig) → Buf (Elt Ideal) ℓ) (c : Dev nD)

/-- The call's arrays, on real numbers: eight heads. -/
structure ArrIn (H : Fin 8 → Head) : Prop where
  k : ∀ (G : Fin 8) (j d : Fin 64) (s : Fin 128), (V m c main_v35 : Vec Ideal S8x64x64x128 .bf16) (ix4 G j d s) = (((H G).K d (j.val * 128 + s.val) : ℝ) : EReal)
  v : ∀ (G : Fin 8) (j d : Fin 64) (s : Fin 128), (V m c main_v38 : Vec Ideal S8x64x64x128 .bf16) (ix4 G j d s) = (((H G).V d (j.val * 128 + s.val) : ℝ) : EReal)
  q : ∀ (G : Fin 8) (d : Fin 64) (q : Fin 8192), (V m c main_v40 : Vec Ideal S8x64x8192 .bf16) (ix3 G d q) = (((H G).Q d q.val : ℝ) : EReal)
  ct : ∀ (G : Fin 8) (d : Fin 64) (q : Fin 8192), (V m c main_v42 : Vec Ideal S8x64x8192 .bf16) (ix3 G d q) = (((H G).C d q.val : ℝ) : EReal)
  rows : ∀ (G : Fin 8) (i j : Fin 64) (t : Fin 128), (V m c main_v17 : Vec Ideal S8x64x64x128 .f32) (ix4 G i j t) = (((H G).run j.val (i.val * 128 + t.val) : ℝ) : EReal)
  later : IsLater (V m c main_v25 : Vec Ideal S128x128 .bf16)
  earlier : IsEarlier (V m c main_v32 : Vec Ideal S128x128 .bf16)

variable {m c} {H : Fin 8 → Head} (A : ArrIn m c H)
include A

omit A in
theorem iblk0 (t : Fin cfg0.N) (j : S4x64x64x128.Idx) : (iblk m c 0 t : Vec Ideal S4x64x64x128 .bf16) j = (V m c main_v35 : Vec Ideal S8x64x64x128 .bf16) (((cfg0.win 0).blk t).view.emb j) :=
  show (((cfg0.win 0).blk t).view.read (Elt Ideal) (V m c main_v35 : Vec Ideal S8x64x64x128 .bf16) : Vec Ideal S4x64x64x128 .bf16) j = _ from rfl

omit A in
theorem iblk1 (t : Fin cfg0.N) (j : S4x64x64x128.Idx) : (iblk m c 1 t : Vec Ideal S4x64x64x128 .bf16) j = (V m c main_v38 : Vec Ideal S8x64x64x128 .bf16) (((cfg0.win 1).blk t).view.emb j) :=
  show (((cfg0.win 1).blk t).view.read (Elt Ideal) (V m c main_v38 : Vec Ideal S8x64x64x128 .bf16) : Vec Ideal S4x64x64x128 .bf16) j = _ from rfl

omit A in
theorem iblk2 (t : Fin cfg0.N) (j : S4x64x128.Idx) : (iblk m c 2 t : Vec Ideal S4x64x128 .bf16) j = (V m c main_v40 : Vec Ideal S8x64x8192 .bf16) (((cfg0.win 2).blk t).view.emb j) :=
  show (((cfg0.win 2).blk t).view.read (Elt Ideal) (V m c main_v40 : Vec Ideal S8x64x8192 .bf16) : Vec Ideal S4x64x128 .bf16) j = _ from rfl

omit A in
theorem iblk3 (t : Fin cfg0.N) (j : S4x64x128.Idx) : (iblk m c 3 t : Vec Ideal S4x64x128 .bf16) j = (V m c main_v42 : Vec Ideal S8x64x8192 .bf16) (((cfg0.win 3).blk t).view.emb j) :=
  show (((cfg0.win 3).blk t).view.read (Elt Ideal) (V m c main_v42 : Vec Ideal S8x64x8192 .bf16) : Vec Ideal S4x64x128 .bf16) j = _ from rfl

omit A in
theorem iblk4 (t : Fin cfg0.N) (j : S4x1x64x128.Idx) : (iblk m c 4 t : Vec Ideal S4x1x64x128 .f32) j = (V m c main_v17 : Vec Ideal S8x64x64x128 .f32) (((cfg0.win 4).blk t).view.emb j) :=
  show (((cfg0.win 4).blk t).view.read (Elt Ideal) (V m c main_v17 : Vec Ideal S8x64x64x128 .f32) : Vec Ideal S4x1x64x128 .f32) j = _ from rfl

omit A in
theorem iblk5 (t : Fin cfg0.N) (j : S128x128.Idx) : (iblk m c 5 t : Vec Ideal S128x128 .bf16) j = (V m c main_v25 : Vec Ideal S128x128 .bf16) (((cfg0.win 5).blk t).view.emb j) :=
  show (((cfg0.win 5).blk t).view.read (Elt Ideal) (V m c main_v25 : Vec Ideal S128x128 .bf16) : Vec Ideal S128x128 .bf16) j = _ from rfl

omit A in
theorem iblk6 (t : Fin cfg0.N) (j : S128x128.Idx) : (iblk m c 6 t : Vec Ideal S128x128 .bf16) j = (V m c main_v32 : Vec Ideal S128x128 .bf16) (((cfg0.win 6).blk t).view.emb j) :=
  show (((cfg0.win 6).blk t).view.read (Elt Ideal) (V m c main_v32 : Vec Ideal S128x128 .bf16) : Vec Ideal S128x128 .bf16) j = _ from rfl

theorem point_in (t : Fin cfg0.N) : PointIn (grid0.coords t 1).val (iblk m c 0 t) (iblk m c 1 t) (iblk m c 2 t) (iblk m c 3 t) (iblk m c 4 t)
    (iblk m c 5 t) (iblk m c 6 t) (fun g => H (headOf t g)) := by
  rw [coord1_val]
  refine ⟨fun g j d s => ?_, fun g j d s => ?_, fun g d q => ?_, fun g d q => ?_, fun g j q => ?_, fun s s' => ?_, fun s s' => ?_⟩
  · rw [iblk0, emb0]; exact A.k _ j d s
  · rw [iblk1, emb1]; exact A.v _ j d s
  · rw [iblk2, emb2]; exact A.q _ d (posOf t q)
  · rw [iblk3, emb3]; exact A.ct _ d (posOf t q)
  · rw [iblk4, emb4]; exact A.rows _ (blockOf t) j q
  · rw [iblk5, emb5]; exact A.later s s'
  · rw [iblk6, emb6]; exact A.earlier s s'

end Cert.KernelIdeal.Hand
-- ==== Proof.GridValue.lean ====
/- Hand-written, untrusted. The grid on real numbers: what the outputs hold after every point, and what the run leaves in the arrays. -/
module

public import proofs.«01_k».proof.Proof.PointValue
public import proofs.«01_k».proof.Proof.GridPoint

@[expose] public section

set_option maxRecDepth 16384
set_option maxHeartbeats 400000

noncomputable section

namespace Cert.KernelIdeal.Hand

open Idealize.ShloMosaic Idealize.ShloMosaic.TcCoe Idealize.ShloMosaic.Tactic
open Idealize.ShloMosaic.Pipeline (Dat)
open Cert.KernelIdeal.Gen Cert.Attn

variable {m : (ℓ : Loc nD τ sig) → Buf (Elt Ideal) ℓ} {c : Dev nD} {H : Fin 8 → Head}

/-- What the outputs hold after a point. -/
def Leaves (H : Fin 8 → Head) (t : Fin cfg0.N) (o : Vec Ideal S4x64x128 .f32 × Vec Ideal S4x64x64x128 .f32 × Vec Ideal S4x64x64x128 .f32) : Prop :=
  IsDq (t.val % 64) o.1 (fun g => H (headOf t g)) ∧ GradIn (t.val % 64 + 1) o.2.1 o.2.2 (fun g => H (headOf t g))

theorem leaves_of (t : Fin cfg0.N) (o : Vec Ideal S4x64x128 .f32 × Vec Ideal S4x64x64x128 .f32 × Vec Ideal S4x64x64x128 .f32)
    (h : IsDq (grid0.coords t 1).val o.1 (fun g => H (headOf t g)) ∧ GradIn ((grid0.coords t 1).val + 1) o.2.1 o.2.2 (fun g => H (headOf t g))) : Leaves H t o := by
  rw [coord1_val] at h
  exact h

theorem headOf_pred (t : Fin cfg0.N) (h : ¬ t.val % 64 = 0) (p : t.val - 1 < cfg0.N) : headOf ⟨t.val - 1, p⟩ = headOf t := by
  funext g
  apply Fin.ext
  show (t.val - 1) / 64 * 4 + g.val = t.val / 64 * 4 + g.val
  omega

section
variable (A : ArrIn m c H)
include A

theorem first_leaves (t : Fin cfg0.N) (h : t.val % 64 = 0) : Leaves H t (firstOuts m c t h) :=
  leaves_of t _ (first_gives c (grid0.coords t) (stage0 t) (whole0 t) (stage1 t) (whole1 t) (stage2 t) (whole2 t) (stage3 t) (whole3 t) (stage4 t) (whole4 t)
    (stage5 t) (whole5 t) (stage6 t) (whole6 t) (stage7 t) (whole7 t) (stage8 t) (whole8 t) (stage9 t) (whole9 t) (iblk m c 0 t) (iblk m c 1 t) (iblk m c 2 t)
    (iblk m c 3 t) (iblk m c 4 t) (iblk m c 5 t) (iblk m c 6 t) (fun g => H (headOf t g)) (point_in A t) ((isFirst_iff t).mpr h) ((coord1_val t).trans h))

theorem later_leaves (t : Fin cfg0.N) (h : ¬ t.val % 64 = 0) (p : t.val - 1 < cfg0.N) (o : Vec Ideal S4x64x128 .f32 × Vec Ideal S4x64x64x128 .f32 × Vec Ideal S4x64x64x128 .f32)
    (L : Leaves H ⟨t.val - 1, p⟩ o) : Leaves H t (laterOuts m c t h o.2.1 o.2.2) := by
  have J : GradIn (grid0.coords t 1).val o.2.1 o.2.2 (fun g => H (headOf t g)) := by
    have J := L.2
    rw [headOf_pred t h p, show (t.val - 1) % 64 + 1 = t.val % 64 from by omega] at J
    rw [coord1_val]
    exact J
  exact leaves_of t _ (later_gives c (grid0.coords t) (stage0 t) (whole0 t) (stage1 t) (whole1 t) (stage2 t) (whole2 t) (stage3 t) (whole3 t) (stage4 t) (whole4 t)
    (stage5 t) (whole5 t) (stage6 t) (whole6 t) (stage7 t) (whole7 t) (stage8 t) (whole8 t) (stage9 t) (whole9 t) (iblk m c 0 t) (iblk m c 1 t) (iblk m c 2 t)
    (iblk m c 3 t) (iblk m c 4 t) (iblk m c 5 t) (iblk m c 6 t) (fun g => H (headOf t g)) (point_in A t) (fun e => h ((isFirst_iff t).mp e)) o.2.1 o.2.2 J)

theorem outs_leaves : ∀ (n : ℕ) (hn : n < cfg0.N), Leaves H ⟨n, hn⟩ (outs m c n hn)
  | 0, hn => by
    rw [outs_first m c ⟨0, hn⟩ (Nat.zero_mod _)]
    exact first_leaves A ⟨0, hn⟩ (Nat.zero_mod _)
  | n + 1, hn => by
    by_cases h : (n + 1) % 64 = 0
    · rw [outs_first m c ⟨n + 1, hn⟩ h]
      exact first_leaves A ⟨n + 1, hn⟩ h
    · rw [outs_later m c ⟨n + 1, hn⟩ h]
      exact later_leaves A ⟨n + 1, hn⟩ h (Nat.lt_of_succ_lt hn) _ (outs_leaves n (Nat.lt_of_succ_lt hn))

end

/-! ## The arrays after the run -/

/-- The query gradients' array. -/
def dqArr (H : Fin 8 → Head) : Vec Ideal S8x64x8192 .f32 := fun x => (((H (x 0)).dq (x 1) (x 2).val : ℝ) : EReal)
/-- The key gradients' array, in blocks of 128 positions. -/
def dkArr (H : Fin 8 → Head) : Vec Ideal S8x64x64x128 .f32 := fun x => (((H (x 0)).dk (x 2) ((x 1).val * 128 + (x 3).val) : ℝ) : EReal)
/-- The value gradients' array, in blocks of 128 positions. -/
def dvArr (H : Fin 8 → Head) : Vec Ideal S8x64x64x128 .f32 := fun x => (((H (x 0)).dv (x 2) ((x 1).val * 128 + (x 3).val) : ℝ) : EReal)

variable (A : ArrIn m c H)
include A

theorem flushed7 (t : Fin cfg0.N) : (data m 0 c).flushed 7 t = ((cfg0.win 7).blk t).view.read (Elt Ideal) (dqArr H) := by
  have L := (outs_leaves A t.val t.isLt).1
  show (cfg0.win 7).cut (grid0.coords t) ((data m 0 c).after 7 t) = _
  rw [after7]
  revert L
  generalize outs m c t.val t.isLt = o
  intro L
  funext j
  have e : (((cfg0.win 7).blk t).view.read (Elt Ideal) (dqArr H) : Vec Ideal S4x64x128 .f32) j = dqArr H (((cfg0.win 7).blk t).view.emb j) := rfl
  have J : (j : S4x64x128.Idx) = ix3 (j 0) (j 1) (j 2) := (ix3_eta j).symm
  rw [J] at e ⊢
  refine Eq.trans (L (j 0) (j 1) (j 2)) (Eq.trans ?_ e.symm)
  exact (congrArg (dqArr H) (emb7 t (j 0) (j 1) (j 2))).symm

theorem flushed8 (t : Fin cfg0.N) (ht : t.val % 64 = 63) : (data m 0 c).flushed 8 t = ((cfg0.win 8).blk t).view.read (Elt Ideal) (dkArr H) := by
  have L := (outs_leaves A t.val t.isLt).2
  show (cfg0.win 8).cut (grid0.coords t) ((data m 0 c).after 8 t) = _
  rw [after8]
  revert L
  generalize outs m c t.val t.isLt = o
  intro L
  funext j
  have e : (((cfg0.win 8).blk t).view.read (Elt Ideal) (dkArr H) : Vec Ideal S4x64x64x128 .f32) j = dkArr H (((cfg0.win 8).blk t).view.emb j) := rfl
  have J : (j : S4x64x64x128.Idx) = ix4 (j 0) (j 1) (j 2) (j 3) := (ix4_eta j).symm
  rw [J] at e ⊢
  refine Eq.trans (L.dk (j 0) (j 1) (j 2) (j 3)) (Eq.trans ?_ e.symm)
  refine Eq.trans ?_ (congrArg (dkArr H) (emb8 t (j 0) (j 1) (j 2) (j 3))).symm
  have hn : (⟨t.val, t.isLt⟩ : Fin cfg0.N).val % 64 + 1 = 64 := congrArg (· + 1) ht
  rw [hn]
  exact congrArg Real.toEReal (Head.part_last _ _ _ _ _)

theorem flushed9 (t : Fin cfg0.N) (ht : t.val % 64 = 63) : (data m 0 c).flushed 9 t = ((cfg0.win 9).blk t).view.read (Elt Ideal) (dvArr H) := by
  have L := (outs_leaves A t.val t.isLt).2
  show (cfg0.win 9).cut (grid0.coords t) ((data m 0 c).after 9 t) = _
  rw [after9]
  revert L
  generalize outs m c t.val t.isLt = o
  intro L
  funext j
  have e : (((cfg0.win 9).blk t).view.read (Elt Ideal) (dvArr H) : Vec Ideal S4x64x64x128 .f32) j = dvArr H (((cfg0.win 9).blk t).view.emb j) := rfl
  have J : (j : S4x64x64x128.Idx) = ix4 (j 0) (j 1) (j 2) (j 3) := (ix4_eta j).symm
  rw [J] at e ⊢
  refine Eq.trans (L.dv (j 0) (j 1) (j 2) (j 3)) (Eq.trans ?_ e.symm)
  refine Eq.trans ?_ (congrArg (dvArr H) (emb9 t (j 0) (j 1) (j 2) (j 3))).symm
  have hn : (⟨t.val, t.isLt⟩ : Fin cfg0.N).val % 64 + 1 = 64 := congrArg (· + 1) ht
  rw [hn]
  exact congrArg Real.toEReal (Head.part_last _ _ _ _ _)

omit A in
theorem covered7 (i : S8x64x8192.Idx) : ∃ t : Fin cfg0.N, (cfg0.win 7).flush t = true ∧ i ∈ ((cfg0.win 7).blk t).view.set := by
  have h0 : (i 0).val < 8 := (i 0).isLt
  have h2 : (i 2).val < 8192 := (i 2).isLt
  have ht : (i 0).val / 4 * 64 + (i 2).val / 128 < cfg0.N := lt_of_lt_of_eq (by omega) N_0.symm
  refine ⟨⟨_, ht⟩, flush0_7 _, ?_⟩
  have h := ((cfg0.win 7).blk ⟨_, ht⟩).view.emb_mem_set (ix3 (⟨(i 0).val % 4, Nat.mod_lt _ (by decide)⟩ : Fin 4) (i 1) (⟨(i 2).val % 128, Nat.mod_lt _ (by decide)⟩ : Fin 128) : S4x64x128.Idx)
  refine (congrArg (· ∈ ((cfg0.win 7).blk ⟨_, ht⟩).view.set) (Eq.trans (emb7 ⟨_, ht⟩ _ _ _) ?_)).mp h
  funext a; apply Fin.ext
  match a with
  | ⟨0, _⟩ => show ((i 0).val / 4 * 64 + (i 2).val / 128) / 64 * 4 + (i 0).val % 4 = (i 0).val; omega
  | ⟨1, _⟩ => rfl
  | ⟨2, _⟩ => show ((i 0).val / 4 * 64 + (i 2).val / 128) % 64 * 128 + (i 2).val % 128 = (i 2).val; omega

theorem final7 : (data m 0 c).arrAt 7 cfg0.N = dqArr H :=
  (data m 0 c).arrAt_eq_of_cover 7 (dqArr H) (fun t _ => flushed7 A t) covered7

omit A in
theorem covered8 (i : S8x64x64x128.Idx) : ∃ t : Fin cfg0.N, (cfg0.win 8).flush t = true ∧ i ∈ ((cfg0.win 8).blk t).view.set := by
  have h0 : (i 0).val < 8 := (i 0).isLt
  have ht : (i 0).val / 4 * 64 + 63 < cfg0.N := lt_of_lt_of_eq (by omega) N_0.symm
  refine ⟨⟨_, ht⟩, (flush0_8 _).mpr (show ((i 0).val / 4 * 64 + 63) % 64 = 63 by omega), ?_⟩
  have h := ((cfg0.win 8).blk ⟨_, ht⟩).view.emb_mem_set (ix4 (⟨(i 0).val % 4, Nat.mod_lt _ (by decide)⟩ : Fin 4) (i 1) (i 2) (i 3) : S4x64x64x128.Idx)
  refine (congrArg (· ∈ ((cfg0.win 8).blk ⟨_, ht⟩).view.set) (Eq.trans (emb8 ⟨_, ht⟩ _ _ _ _) ?_)).mp h
  funext a; apply Fin.ext
  match a with
  | ⟨0, _⟩ => show ((i 0).val / 4 * 64 + 63) / 64 * 4 + (i 0).val % 4 = (i 0).val; omega
  | ⟨1, _⟩ => rfl
  | ⟨2, _⟩ => rfl
  | ⟨3, _⟩ => rfl

theorem final8 : (data m 0 c).arrAt 8 cfg0.N = dkArr H :=
  (data m 0 c).arrAt_eq_of_cover 8 (dkArr H) (fun t ht => flushed8 A t ((flush0_8 t).mp ht)) covered8

omit A in
theorem covered9 (i : S8x64x64x128.Idx) : ∃ t : Fin cfg0.N, (cfg0.win 9).flush t = true ∧ i ∈ ((cfg0.win 9).blk t).view.set := by
  have h0 : (i 0).val < 8 := (i 0).isLt
  have ht : (i 0).val / 4 * 64 + 63 < cfg0.N := lt_of_lt_of_eq (by omega) N_0.symm
  refine ⟨⟨_, ht⟩, (flush0_9 _).mpr (show ((i 0).val / 4 * 64 + 63) % 64 = 63 by omega), ?_⟩
  have h := ((cfg0.win 9).blk ⟨_, ht⟩).view.emb_mem_set (ix4 (⟨(i 0).val % 4, Nat.mod_lt _ (by decide)⟩ : Fin 4) (i 1) (i 2) (i 3) : S4x64x64x128.Idx)
  refine (congrArg (· ∈ ((cfg0.win 9).blk ⟨_, ht⟩).view.set) (Eq.trans (emb9 ⟨_, ht⟩ _ _ _ _) ?_)).mp h
  funext a; apply Fin.ext
  match a with
  | ⟨0, _⟩ => show ((i 0).val / 4 * 64 + 63) / 64 * 4 + (i 0).val % 4 = (i 0).val; omega
  | ⟨1, _⟩ => rfl
  | ⟨2, _⟩ => rfl
  | ⟨3, _⟩ => rfl

theorem final9 : (data m 0 c).arrAt 9 cfg0.N = dvArr H :=
  (data m 0 c).arrAt_eq_of_cover 9 (dvArr H) (fun t ht => flushed9 A t ((flush0_9 t).mp ht)) covered9

end Cert.KernelIdeal.Hand
-- ==== Proof.HostArrays.lean ====
/- Hand-written, untrusted. The kernel program's arrays as the host's lines leave them: the lines read as functions of the arguments. -/
module

public import proofs.«01_k».proof.Proof.Scalars
public import proofs.«01_k».proof.Proof.Gen.KernelIdeal.Frame

@[expose] public section

set_option maxRecDepth 16384
set_option maxHeartbeats 400000

noncomputable section

namespace Cert.KernelIdeal.Hand

open Idealize.ShloMosaic Idealize.ShloMosaic.TcCoe Idealize.ShloMosaic.Tactic
open Cert.KernelIdeal.Gen Cert.Attn

/-! ## The lines -/

/-- A host array of zeros. -/
def hZero : FVec Ideal S8x8192x8192 .f32 := broadcastInDim S8x8192x8192 ![] bcast_S_S8x8192x8192 (constant S_ .f32 0x00000000#32)

/-- The logits. -/
def hLogits (q k : FVec Ideal S8x8192x64 .f32) : FVec Ideal S8x8192x8192 .f32 :=
  mulf (Host.dotGeneral dot_S8x8192x64_S8x8192x64_S8x8192x8192_2_2_1_1_0_0 none q k) (broadcastInDim S8x8192x8192 ![] bcast_S_S8x8192x8192 (constant S_ .f32 0x3E000000#32))

/-- log(1 + eˣ) as the library function writes it. -/
def hSoftplus (x : FVec Ideal S8x8192x8192 .f32) : FVec Ideal S8x8192x8192 .f32 :=
  select (cmpf .une (subf x hZero) (subf x hZero)) (addf x hZero) (addf (maximumf x hZero) (Host.log1p (Host.exp (Host.negf (Host.absf (subf x hZero))))))

/-- Which keys lie before which queries. -/
def hMask : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The logs of what is left of the stick. -/
def hLogs (q k : FVec Ideal S8x8192x64 .f32) : FVec Ideal S8x8192x8192 .f32 :=
  select (broadcastInDim S8x8192x8192 ![1, 2] bcast_S8192x8192_S8x8192x8192_1_2 hMask) (Host.negf (hSoftplus (Host.negf (Host.negf (hLogits q k))))) hZero

/-- Their sums over blocks of 128 keys. -/
def hSums (l : FVec Ideal S8x8192x8192 .f32) : FVec Ideal S8x8192x64 .f32 :=
  Host.reduceAdd (shapeCast S8x8192x64x128 l shapeCasts_S8x8192x8192_S8x8192x64x128) (constant S_ .f32 0x00000000#32) reducesTo_S8x8192x64x128_S8x8192x64_d3 h_S_

/-- A block's sum and those of the later blocks. -/
def hFrom (x : FVec Ideal S8x8192x64 .f32) : FVec Ideal S8x8192x64 .f32 :=
  Host.reduceWindowAdd ![1, 1, 64] ![1, 1, 1] ![0, 0, 0] ![0, 0, 63] x (broadcastInDim S_ ![] bcast_S_S_ (constant S_ .f32 0x00000000#32)) reduceWindows_S8x8192x64_S8x8192x64_w1s1p0_0_w1s1p0_0_w64s1p0_63 h_S_

/-- The sums of the later blocks, by query block, key block and query. -/
def hRuns (x : FVec Ideal S8x8192x64 .f32) : FVec Ideal S8x64x64x128 .f32 :=
  transpose S8x64x64x128 [0, 1, 3, 2] (shapeCast S8x64x128x64 (subf (hFrom x) x) shapeCasts_S8x8192x64_S8x64x128x64) transposes_S8x64x128x64_S8x64x64x128_0_1_3_2

/-- Positions cut into blocks of 128, features before positions. -/
def hBlocks (x : FVec Ideal S8x8192x64 .f32) : FVec Ideal S8x64x64x128 .bf16 :=
  transpose S8x64x64x128 [0, 1, 3, 2] (shapeCast S8x64x128x64 (truncf .bf16 x bitsLt_bf16_f32) shapeCasts_S8x8192x64_S8x64x128x64) transposes_S8x64x128x64_S8x64x64x128_0_1_3_2

/-- Features before positions. -/
def hRows (x : FVec Ideal S8x8192x64 .f32) : FVec Ideal S8x64x8192 .bf16 :=
  transpose S8x64x8192 [0, 2, 1] (truncf .bf16 x bitsLt_bf16_f32) transposes_S8x8192x64_S8x64x8192_0_2_1

/-- A row's index and a column's. -/
def hRow : IVec S128x128 32 := broadcastInDim S128x128 ![0, 1] bcast_S128x1_S128x128_0_1 (broadcastInDim S128x1 ![0] bcast_S128_S128x1_0 (iotaInDim S128 32 0))
def hCol : IVec S128x128 32 := broadcastInDim S128x128 ![0, 1] bcast_S1x128_S128x128_0_1 (broadcastInDim S1x128 ![1] bcast_S128_S1x128_1 (iotaInDim S128 32 0))

/-- One where the mask is, zero elsewhere. -/
def hOnes (p : IVec S128x128 1) : FVec Ideal S128x128 .bf16 :=
  truncf .bf16 (select p (broadcastInDim S128x128 ![] bcast_S_S128x128 (constant S_ .f32 0x3F800000#32)) (broadcastInDim S128x128 ![] bcast_S_S128x128 (constant S_ .f32 0x00000000#32)) : FVec Ideal S128x128 .f32) bitsLt_bf16_f32

/-! ## What the region finds -/

variable (m : (ℓ : Loc nD τ sig) → Buf (Elt Ideal) ℓ) (c : Dev nD)

theorem V_main_v35 : V m c main_v35 = hBlocks (m ((c : Thread nD τ).loc main_arg1)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  open StableHlo in after_results
  rfl

theorem V_main_v38 : V m c main_v38 = hBlocks (m ((c : Thread nD τ).loc main_arg2)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  open StableHlo in after_results
  rfl

theorem V_main_v40 : V m c main_v40 = hRows (m ((c : Thread nD τ).loc main_arg0)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  open StableHlo in after_results
  rfl

theorem V_main_v42 : V m c main_v42 = hRows (m ((c : Thread nD τ).loc main_arg3)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  open StableHlo in after_results
  rfl

theorem V_main_v25 : V m c main_v25 = hOnes (cmpi .sgt hCol hRow) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  open StableHlo in after_results
  rfl

theorem V_main_v32 : V m c main_v32 = hOnes (cmpi .slt hCol hRow) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  open StableHlo in after_results
  rfl

end Cert.KernelIdeal.Hand
-- ==== Proof.HostRuns.lean ====
/- Hand-written, untrusted. The running sums' array as the host's lines leave it, list of lines by list of lines. -/
module

public import proofs.«01_k».proof.Proof.HostArrays

@[expose] public section

set_option maxRecDepth 16384
set_option maxHeartbeats 400000

noncomputable section

namespace Cert.KernelIdeal.Hand

open Idealize.ShloMosaic Idealize.ShloMosaic.TcCoe Idealize.ShloMosaic.Tactic Idealize.ShloMosaic.StableHlo
open Cert.KernelIdeal.Gen Cert.Attn

theorem after_two (l₁ l₂ : List (HloOp τ sig (Elt Ideal))) (X : Valuation τ sig (Elt Ideal)) : after (l₁ ++ l₂) X = after l₂ (after l₁ X) := by
  induction l₁ generalizing X with
  | nil => rfl
  | cons op l ih => exact ih _

variable (X : Valuation τ sig (Elt Ideal))

theorem ops0_v9 : (after hostOps0 X (Proc.tc.devRef main_v9) : _) = Host.negf (hLogits (X (Proc.tc.devRef main_arg0)) (X (Proc.tc.devRef main_arg1))) := by
  simp only [hostOps0]
  after_results
  rfl

theorem ops0_v8 : (after hostOps0 X (Proc.tc.devRef main_v8) : _) = hMask := by
  simp only [hostOps0]
  after_results
  rfl

theorem ops1_v10 : (after hostOps0_1 X (Proc.tc.devRef main_v10) : _) = (Host.negf (hSoftplus (Host.negf (X (Proc.tc.devRef main_v9) : FVec Ideal S8x8192x8192 .f32))) : FVec Ideal S8x8192x8192 .f32) := by
  simp only [hostOps0_1]
  after_results
  rfl

theorem ops1_v8 : (after hostOps0_1 X (Proc.tc.devRef main_v8) : _) = (X (Proc.tc.devRef main_v8)) := by
  simp only [hostOps0_1]
  after_results

theorem ops2_v8 : (after hostOps0_2 X (Proc.tc.devRef main_v8) : _) = (X (Proc.tc.devRef main_v8)) := by
  simp only [hostOps0_2]
  after_results

theorem ops2_v10 : (after hostOps0_2 X (Proc.tc.devRef main_v10) : _) = (X (Proc.tc.devRef main_v10)) := by
  simp only [hostOps0_2]
  after_results

theorem ops2_zero : (after hostOps0_2 X (Proc.tc.devRef main_cst_0) : _) = (constant S_ .f32 0x00000000#32 : FVec Ideal S_ .f32) := by
  simp only [hostOps0_2]
  after_results

theorem ops3_v11 : (after hostOps0_3 X (Proc.tc.devRef main_v11) : _) = (select (broadcastInDim S8x8192x8192 ![1, 2] bcast_S8192x8192_S8x8192x8192_1_2 (X (Proc.tc.devRef main_v8) : IVec S8192x8192 1)) (X (Proc.tc.devRef main_v10) : FVec Ideal S8x8192x8192 .f32) (broadcastInDim S8x8192x8192 ![] bcast_S_S8x8192x8192 (X (Proc.tc.devRef main_cst_0) : FVec Ideal S_ .f32)) : FVec Ideal S8x8192x8192 .f32) := by
  simp only [hostOps0_3]
  after_results
  rfl

theorem ops4_v13 : (after hostOps0_4 X (Proc.tc.devRef main_v13) : _) = hSums (X (Proc.tc.devRef main_v11)) := by
  simp only [hostOps0_4]
  after_results
  rfl

theorem ops5_v14 : (after hostOps0_5 X (Proc.tc.devRef main_v14) : _) = hFrom (X (Proc.tc.devRef main_v13)) := by
  simp only [hostOps0_5]
  after_results
  rfl

theorem ops5_v13 : (after hostOps0_5 X (Proc.tc.devRef main_v13) : _) = (X (Proc.tc.devRef main_v13)) := by
  simp only [hostOps0_5]
  after_results

theorem ops6_v17 : (after hostOps0_6 X (Proc.tc.devRef main_v17) : _) = (transpose S8x64x64x128 [0, 1, 3, 2] (shapeCast S8x64x128x64 (subf (X (Proc.tc.devRef main_v14) : FVec Ideal S8x8192x64 .f32) (X (Proc.tc.devRef main_v13) : FVec Ideal S8x8192x64 .f32)) shapeCasts_S8x8192x64_S8x64x128x64) transposes_S8x64x128x64_S8x64x64x128_0_1_3_2 : FVec Ideal S8x64x64x128 .f32) := by
  simp only [hostOps0_6]
  after_results
  rfl

theorem ops7_v17 : (after hostOps0_7 X (Proc.tc.devRef main_v17) : _) = (X (Proc.tc.devRef main_v17)) := by
  simp only [hostOps0_7]
  after_results

theorem ops8_v17 : (after hostOps0_8 X (Proc.tc.devRef main_v17) : _) = (X (Proc.tc.devRef main_v17)) := by
  simp only [hostOps0_8]
  after_results

theorem ops9_v17 : (after hostOps0_9 X (Proc.tc.devRef main_v17) : _) = (X (Proc.tc.devRef main_v17)) := by
  simp only [hostOps0_9]
  after_results

theorem ops10_v17 : (after hostOps0_10 X (Proc.tc.devRef main_v17) : _) = (X (Proc.tc.devRef main_v17)) := by
  simp only [hostOps0_10]
  after_results

variable (m : (ℓ : Loc nD τ sig) → Buf (Elt Ideal) ℓ) (c : Dev nD)

theorem V_main_v17 : V m c main_v17 = hRuns (hSums (hLogs (m ((c : Thread nD τ).loc main_arg0)) (m ((c : Thread nD τ).loc main_arg1)))) := by
  unfold V
  simp only [List.flatten_cons, List.flatten_nil, List.append_nil, after_two]
  rw [ops10_v17, ops9_v17, ops8_v17, ops7_v17, ops6_v17, ops5_v14, ops5_v13, ops4_v13, ops3_v11, ops2_v8, ops2_v10, ops2_zero, ops1_v8, ops1_v10, ops0_v8, ops0_v9]
  rfl

end Cert.KernelIdeal.Hand
-- ==== Proof.WindowSum.lean ====
/- Hand-written, untrusted. A sum over a sliding window of the last axis, as the running sum it is. -/
module

public import proofs.«01_k».proof.Proof.Scalars

@[expose] public section

noncomputable section

namespace Cert.Attn

open Idealize.ShloMosaic
open Finset (range Ico)

theorem foldl_add {α : Type} (f : α → EReal) (v : EReal) (l : List α) : l.foldl (fun r n => r + f n) v = v + (l.map f).sum := by
  induction l generalizing v with
  | nil => simp
  | cons a l ih => rw [List.foldl_cons, ih, List.map_cons, List.sum_cons, add_assoc]

/-- The positions of a window along the last axis. -/
def windowEquiv (W : ℕ) : (⟨3, ![1, 1, W]⟩ : Shape).Idx ≃ Fin W where
  toFun i := i 2
  invFun n := ix3 (0 : Fin 1) (0 : Fin 1) n
  left_inv i := by
    funext a
    match a with
    | ⟨0, _⟩ => exact Subsingleton.elim (α := Fin 1) _ _
    | ⟨1, _⟩ => exact Subsingleton.elim (α := Fin 1) _ _
    | ⟨2, _⟩ => rfl
  right_inv _ := rfl

theorem windowAdd_ideal {s t u : Shape} {φ : FTy} (window strides lo hi : Fin s.rank → ℕ) (x : FVec Ideal s φ) (init : FVec Ideal u φ)
    (h : s.ReduceWindows window strides lo hi t) (hu : 0 < u.numel) (j : t.Idx) :
    Host.reduceWindowAdd window strides lo hi x init h hu j = Ideal.hostReduceWindowAdd window strides lo hi h x (init (Shape.Idx.first hu)) j := rfl

theorem window_sum {A B N W lo hi : ℕ} (h : (⟨3, ![A, B, N]⟩ : Shape).ReduceWindows ![1, 1, W] ![1, 1, 1] ![0, 0, lo] ![0, 0, hi] ⟨3, ![A, B, N]⟩)
    (x : (⟨3, ![A, B, N]⟩ : Shape).Idx → EReal) (a : Fin A) (b : Fin B) (c : Fin N) :
    Ideal.hostReduceWindowAdd (s := ⟨3, ![A, B, N]⟩) ![1, 1, W] ![1, 1, 1] ![0, 0, lo] ![0, 0, hi] h x 0 (ix3 a b c) =
      ∑ n : Fin W, if hn : lo ≤ c.val + n.val ∧ c.val + n.val - lo < N then x (ix3 a b ⟨c.val + n.val - lo, hn.2⟩) else 0 := by
  let p : (⟨3, ![1, 1, W]⟩ : Shape).Idx → Fin 3 → ℕ := fun q d => ((ix3 a b c : (⟨3, ![A, B, N]⟩ : Shape).Idx) d).val * (![1, 1, 1] : Fin 3 → ℕ) d + (q d).val
  let G : (⟨3, ![1, 1, W]⟩ : Shape).Idx → EReal := fun q =>
    if hin : ∀ d : Fin 3, (![0, 0, lo] : Fin 3 → ℕ) d ≤ p q d ∧ p q d - (![0, 0, lo] : Fin 3 → ℕ) d < (⟨3, ![A, B, N]⟩ : Shape).size d then
      x (fun d => ⟨p q d - (![0, 0, lo] : Fin 3 → ℕ) d, (hin d).2⟩) else 0
  unfold Ideal.hostReduceWindowAdd Host.reduceWindow
  dsimp only
  rw [foldl_add, zero_add, ← Fin.sum_univ_def]
  refine Eq.trans (b := ∑ n : Fin (Shape.numel ⟨3, ![1, 1, W]⟩), G ((Shape.rowMajor ⟨3, ![1, 1, W]⟩).symm n)) (Finset.sum_congr rfl fun i _ => ?_) ?_
  · by_cases hin : ∀ d : Fin 3, (![0, 0, lo] : Fin 3 → ℕ) d ≤ p ((Shape.rowMajor ⟨3, ![1, 1, W]⟩).symm i) d ∧
        p ((Shape.rowMajor ⟨3, ![1, 1, W]⟩).symm i) d - (![0, 0, lo] : Fin 3 → ℕ) d < (⟨3, ![A, B, N]⟩ : Shape).size d
    · refine (dif_pos hin).trans ?_
      simp only [G]
      rw [dif_pos hin]
      rfl
    · refine (dif_neg hin).trans ?_
      simp only [G]
      rw [dif_neg hin]
  rw [Equiv.sum_comp (Shape.rowMajor ⟨3, ![1, 1, W]⟩).symm G, ← Equiv.sum_comp (windowEquiv W).symm G]
  refine Finset.sum_congr rfl fun n _ => ?_
  show (if hin : ∀ d : Fin 3, (![0, 0, lo] : Fin 3 → ℕ) d ≤ p ((windowEquiv W).symm n) d ∧ p ((windowEquiv W).symm n) d - (![0, 0, lo] : Fin 3 → ℕ) d < (⟨3, ![A, B, N]⟩ : Shape).size d then
      x (fun d => ⟨p ((windowEquiv W).symm n) d - (![0, 0, lo] : Fin 3 → ℕ) d, (hin d).2⟩) else 0) = _
  by_cases hn : lo ≤ c.val + n.val ∧ c.val + n.val - lo < N
  · rw [dif_pos hn, dif_pos]
    · refine congrArg x ?_
      funext d
      apply Fin.ext
      match d with
      | ⟨0, _⟩ => show a.val * 1 + 0 - 0 = a.val; omega
      | ⟨1, _⟩ => show b.val * 1 + 0 - 0 = b.val; omega
      | ⟨2, _⟩ => show c.val * 1 + n.val - lo = c.val + n.val - lo; omega
    · intro d
      match d with
      | ⟨0, _⟩ => exact ⟨Nat.zero_le _, show a.val * 1 + 0 - 0 < A by omega⟩
      | ⟨1, _⟩ => exact ⟨Nat.zero_le _, show b.val * 1 + 0 - 0 < B by omega⟩
      | ⟨2, _⟩ => exact ⟨show lo ≤ c.val * 1 + n.val by omega, show c.val * 1 + n.val - lo < N by omega⟩
  · rw [dif_neg hn, dif_neg]
    intro q
    have q2 := q ⟨2, by decide⟩
    have q3 : lo ≤ c.val * 1 + n.val ∧ c.val * 1 + n.val - lo < N := q2
    exact hn (by omega)

/-- A window that reaches to the end, padded high: the sum from its start on. -/
theorem window_from {A B N hi : ℕ} (h : (⟨3, ![A, B, N]⟩ : Shape).ReduceWindows ![1, 1, N] ![1, 1, 1] ![0, 0, 0] ![0, 0, hi] ⟨3, ![A, B, N]⟩)
    (x : (⟨3, ![A, B, N]⟩ : Shape).Idx → EReal) (a : Fin A) (b : Fin B) (c : Fin N) (f : ℕ → ℝ) (hf : ∀ n : Fin N, x (ix3 a b n) = (f n.val : EReal)) :
    Ideal.hostReduceWindowAdd (s := ⟨3, ![A, B, N]⟩) ![1, 1, N] ![1, 1, 1] ![0, 0, 0] ![0, 0, hi] h x 0 (ix3 a b c) = ((∑ k ∈ Ico c.val N, f k : ℝ) : EReal) := by
  rw [window_sum]
  have e : ∀ n : Fin N, (if hn : 0 ≤ c.val + n.val ∧ c.val + n.val - 0 < N then x (ix3 a b ⟨c.val + n.val - 0, hn.2⟩) else 0) =
      (((fun n => if c.val + n < N then f (c.val + n) else 0) n.val : ℝ) : EReal) := fun n => by
    by_cases hn : c.val + n.val < N
    · rw [dif_pos ⟨Nat.zero_le _, hn⟩, hf]
      simp only [if_pos hn, Nat.sub_zero]
    · rw [dif_neg (fun q => hn q.2)]
      simp only [if_neg hn]
      rfl
  rw [Finset.sum_congr rfl fun n _ => e n, coe_sum, Fin.sum_univ_eq_sum_range (fun n => if c.val + n < N then f (c.val + n) else 0), ← Finset.sum_filter, Finset.sum_Ico_eq_sum_range]
  refine congrArg Real.toEReal (Finset.sum_congr ?_ fun _ _ => rfl)
  ext k
  simp only [Finset.mem_filter, Finset.mem_range]
  omega

/-- A window that reaches to the start, padded low: the sum up to its end. -/
theorem window_upto {A B N lo hi : ℕ} (hlo : lo + 1 = N) (h : (⟨3, ![A, B, N]⟩ : Shape).ReduceWindows ![1, 1, N] ![1, 1, 1] ![0, 0, lo] ![0, 0, hi] ⟨3, ![A, B, N]⟩)
    (x : (⟨3, ![A, B, N]⟩ : Shape).Idx → EReal) (a : Fin A) (b : Fin B) (c : Fin N) (f : ℕ → ℝ) (hf : ∀ n : Fin N, x (ix3 a b n) = (f n.val : EReal)) :
    Ideal.hostReduceWindowAdd (s := ⟨3, ![A, B, N]⟩) ![1, 1, N] ![1, 1, 1] ![0, 0, lo] ![0, 0, hi] h x 0 (ix3 a b c) = ((∑ k ∈ range (c.val + 1), f k : ℝ) : EReal) := by
  rw [window_sum]
  have hc := c.isLt
  have e : ∀ n : Fin N, (if hn : lo ≤ c.val + n.val ∧ c.val + n.val - lo < N then x (ix3 a b ⟨c.val + n.val - lo, hn.2⟩) else 0) =
      (((fun n => if lo ≤ c.val + n then f (c.val + n - lo) else 0) n.val : ℝ) : EReal) := fun n => by
    have := n.isLt
    by_cases hn : lo ≤ c.val + n.val
    · rw [dif_pos ⟨hn, by omega⟩, hf]
      simp only [if_pos hn]
    · rw [dif_neg (fun q => hn q.1)]
      simp only [if_neg hn]
      rfl
  rw [Finset.sum_congr rfl fun n _ => e n, coe_sum, Fin.sum_univ_eq_sum_range (fun n => if lo ≤ c.val + n then f (c.val + n - lo) else 0), ← Finset.sum_filter]
  have e2 : (range N).filter (fun n => lo ≤ c.val + n) = Ico (lo - c.val) N := by
    ext k
    simp only [Finset.mem_filter, Finset.mem_range, Finset.mem_Ico]
    omega
  rw [e2, Finset.sum_Ico_eq_sum_range, show N - (lo - c.val) = c.val + 1 by omega]
  refine congrArg Real.toEReal (Finset.sum_congr rfl fun k _ => congrArg f ?_)
  omega

end Cert.Attn
-- ==== Proof.RefValue.lean ====
/- Hand-written, untrusted. The reference's stages on real numbers: the logits, their log sigmoids, the weights. -/
module

public import proofs.«01_k».proof.Proof.WindowSum
public import proofs.«01_k».proof.Proof.Model
public import proofs.«01_k».proof.Proof.Gen.ReferenceIdeal.Read
public import Idealize.ShloMosaic.Lib.Tactic.WordOmega

@[expose] public section

set_option maxRecDepth 16384

noncomputable section

namespace Cert.ReferenceIdeal.Hand

open Idealize.ShloMosaic Idealize.ShloMosaic.TcCoe
open Cert.ReferenceIdeal.Gen Cert.ReferenceIdeal.Read Cert.Attn
open Finset (range Ico)

/-! ## Single numbers -/

theorem ofBits_inf : Ideal.ofBits .f32 0x7F800000#32 = ⊤ := by
  simp [Ideal.ofBits, Ideal.ieee]

theorem cmp_une_self (x : EReal) : Ideal.cmp .une x x = 0#1 := by
  simp [Ideal.cmp]

theorem cmp_oeq_top (x : ℝ) : Ideal.cmp .oeq (x : EReal) ⊤ = 0#1 := by
  simp [Ideal.cmp]

/-- log(1 + eˣ) as the library function writes it. -/
theorem softplus_real (x : ℝ) (Z : EReal) (hZ : Z = ((0 : ℝ) : EReal)) :
    Scalar.select (Ideal.cmp .une ((x : EReal) - Z) ((x : EReal) - Z)) ((x : EReal) + Z)
      (max (x : EReal) Z + Ideal.log1p (Ideal.exp (-(max ((x : EReal) - Z) (-((x : EReal) - Z)))))) = ((sp x : ℝ) : EReal) := by
  subst hZ
  rw [cmp_une_self, ← EReal.coe_sub, sub_zero, coe_abs, coe_max, ← EReal.coe_neg]
  show ((max x 0 : ℝ) : EReal) + Ideal.log1p ((Real.exp (-|x|) : ℝ) : EReal) = _
  rw [coe_log1p _ (Real.exp_pos _).le, ← EReal.coe_add, sp_of_abs]

/-- Its derivative as the library function writes it. -/
theorem logistic_real (x : ℝ) (Z Z' I I' : EReal) (hI : I = ⊤) (hI' : I' = ⊤) :
    Ideal.exp (Scalar.select (Ideal.cmp .oeq (x : EReal) I) Z (x : EReal) - Scalar.select (Ideal.cmp .oeq ((sp x : ℝ) : EReal) I') Z' ((sp x : ℝ) : EReal)) = ((sg x : ℝ) : EReal) := by
  subst hI; subst hI'
  rw [cmp_oeq_top, cmp_oeq_top]
  show Ideal.exp ((x : EReal) - ((sp x : ℝ) : EReal)) = _
  rw [← EReal.coe_sub]
  show ((Real.exp (x - sp x) : ℝ) : EReal) = _
  rw [exp_sub_sp]

/-! ## The two calls of the library function -/

section
variable (x0 x1 : (⟨S8x8192x64, .f32⟩ : BufTy).Contents (Elt Ideal)) (i : S8x8192x8192.Idx) (x : ℝ)

theorem call0_softplus (h : val_main_call0_v0 (F := Ideal) x0 x1 i = (x : EReal)) : val_main_call0_v1_0 (F := Ideal) x0 x1 i = ((sp x : ℝ) : EReal) := by
  rw [val_main_call0_v1_0_apply, val_main_call0_call0_v4_apply, val_main_call0_call0_v6_apply, val_main_call0_call0_v11_apply, val_main_call0_call0_v1_apply, val_main_call0_call0_v10_apply, val_main_call0_call0_v9_apply, val_main_call0_call0_v8_apply, val_main_call0_call0_v7_apply, val_main_call0_call0_v3_apply, h]
  exact softplus_real x _ ofBits_zero

theorem call0_logistic (h : val_main_call0_v0 (F := Ideal) x0 x1 i = (x : EReal)) : val_main_v9_1 (F := Ideal) x0 x1 i = ((sg x : ℝ) : EReal) := by
  rw [val_main_v9_1_apply, val_main_call0_call0_v21_apply, val_main_call0_call0_v16_apply, val_main_call0_call0_v20_apply, val_main_call0_call0_v14_apply, val_main_call0_call0_v18_apply, h, call0_softplus x0 x1 i x h]
  exact logistic_real x (val_main_call0_call0_v15 (F := Ideal) i) (val_main_call0_call0_v19 (F := Ideal) i) (val_main_call0_call0_v13 (F := Ideal) i) (val_main_call0_call0_v17 (F := Ideal) i)
    ((val_main_call0_call0_v13_apply i).trans ((val_main_call0_call0_cst_0_apply _).trans ofBits_inf)) ((val_main_call0_call0_v17_apply i).trans ((val_main_call0_call0_cst_2_apply _).trans ofBits_inf))

theorem call1_softplus (h : val_main_call1_v0 (F := Ideal) x0 x1 i = (x : EReal)) : val_main_call1_v1_0 (F := Ideal) x0 x1 i = ((sp x : ℝ) : EReal) := by
  rw [val_main_call1_v1_0_apply, val_main_call1_call0_v4_apply, val_main_call1_call0_v6_apply, val_main_call1_call0_v11_apply, val_main_call1_call0_v1_apply, val_main_call1_call0_v10_apply, val_main_call1_call0_v9_apply, val_main_call1_call0_v8_apply, val_main_call1_call0_v7_apply, val_main_call1_call0_v3_apply, h]
  exact softplus_real x _ ofBits_zero

theorem call1_logistic (h : val_main_call1_v0 (F := Ideal) x0 x1 i = (x : EReal)) : val_main_v11_1 (F := Ideal) x0 x1 i = ((sg x : ℝ) : EReal) := by
  rw [val_main_v11_1_apply, val_main_call1_call0_v21_apply, val_main_call1_call0_v16_apply, val_main_call1_call0_v20_apply, val_main_call1_call0_v14_apply, val_main_call1_call0_v18_apply, h, call1_softplus x0 x1 i x h]
  exact logistic_real x (val_main_call1_call0_v15 (F := Ideal) i) (val_main_call1_call0_v19 (F := Ideal) i) (val_main_call1_call0_v13 (F := Ideal) i) (val_main_call1_call0_v17 (F := Ideal) i)
    ((val_main_call1_call0_v13_apply i).trans ((val_main_call1_call0_cst_0_apply _).trans ofBits_inf)) ((val_main_call1_call0_v17_apply i).trans ((val_main_call1_call0_cst_2_apply _).trans ofBits_inf))

end

/-! ## The logits, their logs and the weights -/

theorem eq_of3 {a b c : ℕ} {i : (⟨3, ![a, b, c]⟩ : Shape).Idx} {x : Fin a} {y : Fin b} {z : Fin c} (hx : i 0 = x) (hy : i 1 = y) (hz : i 2 = z) : i = ix3 x y z := by
  subst hx; subst hy; subst hz
  exact eq_ix3 i

/-- The arguments on real numbers: position by position, eight heads. -/
structure ArgIn (x0 x1 x2 x3 : (⟨S8x8192x64, .f32⟩ : BufTy).Contents (Elt Ideal)) (H : Fin 8 → Head) : Prop where
  q : ∀ (G : Fin 8) (n : Fin 8192) (d : Fin 64), x0 (ix3 G n d) = (((H G).Q d n.val : ℝ) : EReal)
  k : ∀ (G : Fin 8) (n : Fin 8192) (d : Fin 64), x1 (ix3 G n d) = (((H G).K d n.val : ℝ) : EReal)
  v : ∀ (G : Fin 8) (n : Fin 8192) (d : Fin 64), x2 (ix3 G n d) = (((H G).V d n.val : ℝ) : EReal)
  ct : ∀ (G : Fin 8) (n : Fin 8192) (d : Fin 64), x3 (ix3 G n d) = (((H G).C d n.val : ℝ) : EReal)

theorem mask_at (G : Fin 8) (q k : Fin 8192) : val_main_v12_1 (F := Ideal) (ix3 G q k) = BitVec.ofBool (decide (k.val < q.val)) := by
  rw [val_main_v12_1_apply, val_main_v8_apply, val_main_v6_apply, val_main_v7_apply, val_main_v4_apply, val_main_v5_apply, val_main_v0_apply, val_main_v0_apply]
  exact WordCmp.cmpi_slt_ofNat (w := 32) (a := k.val) (b := q.val) (by have := k.isLt; omega) (by have := q.isLt; omega)

theorem select_of {α : Type} (c : Prop) [Decidable c] (x y : α) : Scalar.select (BitVec.ofBool (decide c)) x y = if c then x else y := by
  by_cases h : c <;> simp [Scalar.select, h]

section
variable {x0 x1 x2 x3 : (⟨S8x8192x64, .f32⟩ : BufTy).Contents (Elt Ideal)} {H : Fin 8 → Head} (A : ArgIn x0 x1 x2 x3 H)
include A

theorem v1_at (G : Fin 8) (q k : Fin 8192) : val_main_v1 (F := Ideal) x0 x1 (ix3 G q k) = ((∑ d, (H G).K d k.val * (H G).Q d q.val : ℝ) : EReal) := by
  rw [val_main_v1_apply, ← coe_sum_mul]
  refine Finset.sum_congr rfl fun d _ => ?_
  rw [show lidx_main_v1 (ix3 G q k) d = ix3 G q d from eq_of3 rfl rfl rfl, show ridx_main_v1 (ix3 G q k) d = ix3 G k d from eq_of3 rfl rfl rfl, A.q, A.k, mul_comm]

theorem z_at (G : Fin 8) (q k : Fin 8192) : val_main_v3 (F := Ideal) x0 x1 (ix3 G q k) = (((H G).z k.val q.val : ℝ) : EReal) := by
  rw [val_main_v3_apply, val_main_v2_apply, val_main_cst_apply, v1_at A]
  show _ * Ideal.ofBits .f32 0x3E000000#32 = _
  rw [ofBits_eighth, ← EReal.coe_mul]
  rfl

theorem neg_z_at (G : Fin 8) (q k : Fin 8192) : val_main_call0_v0 (F := Ideal) x0 x1 (ix3 G q k) = ((-(H G).z k.val q.val : ℝ) : EReal) := by
  rw [val_main_call0_v0_apply, z_at A]
  exact (EReal.coe_neg _).symm

theorem pos_z_at (G : Fin 8) (q k : Fin 8192) : val_main_call1_v0 (F := Ideal) x0 x1 (ix3 G q k) = (((H G).z k.val q.val : ℝ) : EReal) := by
  rw [val_main_call1_v0_apply, val_main_v10_apply, z_at A]
  exact neg_neg _

theorem v9_0_at (G : Fin 8) (q k : Fin 8192) : val_main_v9_0 (F := Ideal) x0 x1 (ix3 G q k) = ((-sp (-(H G).z k.val q.val) : ℝ) : EReal) := by
  rw [val_main_v9_0_apply, call0_softplus x0 x1 _ _ (neg_z_at A G q k)]
  exact (EReal.coe_neg _).symm

theorem l1_at (G : Fin 8) (q k : Fin 8192) : val_main_v12_0 (F := Ideal) x0 x1 (ix3 G q k) = (((H G).l1 k.val q.val : ℝ) : EReal) := by
  rw [val_main_v12_0_apply, mask_at, select_of, val_main_v11_0_apply, call1_softplus x0 x1 _ _ (pos_z_at A G q k)]
  rw [Head.l1]
  split
  · exact (EReal.coe_neg _).symm
  · exact (val_main_call2_v2_apply _).trans ofBits_zero

theorem after_at (G : Fin 8) (q k : Fin 8192) : val_main_v14 (F := Ideal) x0 x1 (ix3 G q k) = (((H G).after k.val q.val : ℝ) : EReal) := by
  rw [val_main_v14_apply, l1_at A]
  have e : val_main_v13 (F := Ideal) x0 x1 (ix3 G q k) = ((∑ n ∈ Ico k.val 8192, (H G).l1 n q.val : ℝ) : EReal) := by
    have hz : val_main_call3_v0 (F := Ideal) (Shape.Idx.first h_S_) = 0 := (val_main_call3_v0_apply _).trans (ofBits_zero.trans rfl)
    have e0 : ∀ i, val_main_v13 (F := Ideal) x0 x1 i = Ideal.hostReduceWindowAdd (s := ⟨3, ![8, 8192, 8192]⟩) ![1, 1, 8192] ![1, 1, 1] ![0, 0, 0] ![0, 0, 8191] reduceWindows_S8x8192x8192_S8x8192x8192_w1s1p0_0_w1s1p0_0_w8192s1p0_8191 (val_main_v12_0 (F := Ideal) x0 x1) (val_main_call3_v0 (F := Ideal) (Shape.Idx.first h_S_)) i := by
      intro i
      unfold val_main_v13
      generalize val_main_v12_0 (F := Ideal) x0 x1 = y
      exact windowAdd_ideal _ _ _ _ y _ _ _ i
    rw [e0, hz]
    exact (window_from reduceWindows_S8x8192x8192_S8x8192x8192_w1s1p0_0_w1s1p0_0_w8192s1p0_8191 (val_main_v12_0 (F := Ideal) x0 x1) G q k (fun n => (H G).l1 n q.val) (fun n => l1_at A G q n))
  rw [e, Finset.sum_eq_sum_Ico_succ_bot k.isLt]
  show ((_ : ℝ) : EReal) - ((_ : ℝ) : EReal) = _
  rw [← EReal.coe_sub, add_sub_cancel_left]
  rfl

theorem exp_at (G : Fin 8) (q k : Fin 8192) : val_main_v16 (F := Ideal) x0 x1 (ix3 G q k) = ((Real.exp (-sp (-(H G).z k.val q.val) + (H G).after k.val q.val) : ℝ) : EReal) := by
  rw [val_main_v16_apply, val_main_v15_apply, v9_0_at A, after_at A]
  show Ideal.exp (((_ : ℝ) : EReal) + ((_ : ℝ) : EReal)) = _
  rw [← EReal.coe_add]
  rfl

theorem w_at (G : Fin 8) (q k : Fin 8192) : val_main_v17_0 (F := Ideal) x0 x1 (ix3 G q k) = (((H G).w k.val q.val : ℝ) : EReal) := by
  rw [val_main_v17_0_apply, show val_main_v17_1 (F := Ideal) (ix3 G q k) = _ from mask_at G q k, select_of, exp_at A, Head.w]
  split
  · rfl
  · exact (val_main_call4_v2_apply _).trans ofBits_zero

/-! ## The gradients -/

theorem da_at (G : Fin 8) (q k : Fin 8192) : val_main_v21 (F := Ideal) x2 x3 (ix3 G q k) = (((H G).da k.val q.val : ℝ) : EReal) := by
  rw [val_main_v21_apply, Head.da, ← coe_sum_mul]
  refine Finset.sum_congr rfl fun d _ => ?_
  rw [show lidx_main_v21 (ix3 G q k) d = ix3 G q d from eq_of3 rfl rfl rfl, show ridx_main_v21 (ix3 G q k) d = ix3 G k d from eq_of3 rfl rfl rfl, A.ct, A.v, mul_comm]

theorem g_at (G : Fin 8) (q k : Fin 8192) : val_main_v23 (F := Ideal) x0 x1 x2 x3 (ix3 G q k) = (((H G).g k.val q.val : ℝ) : EReal) := by
  rw [val_main_v23_apply, val_main_v22_apply, show val_main_v17_1 (F := Ideal) (ix3 G q k) = _ from mask_at G q k, select_of, exp_at A, da_at A, Head.g, Head.w]
  split
  · exact (EReal.coe_mul _ _).symm
  · rw [show val_main_call5_v0 (F := Ideal) (ix3 G q k) = ((0 : ℝ) : EReal) from (val_main_call5_v0_apply _).trans ofBits_zero]
    show ((_ : ℝ) : EReal) * ((_ : ℝ) : EReal) = _
    rw [← EReal.coe_mul, zero_mul, mul_zero]

theorem bef_at (G : Fin 8) (q k : Fin 8192) : val_main_v26 (F := Ideal) x0 x1 x2 x3 (ix3 G q k) = (((H G).bef k.val q.val : ℝ) : EReal) := by
  rw [val_main_v26_apply, val_main_v24_apply, g_at A]
  have e : val_main_v25 (F := Ideal) x0 x1 x2 x3 (ix3 G q k) = ((∑ n ∈ range (k.val + 1), (H G).g n q.val : ℝ) : EReal) := by
    have hz : val_main_call6_v0 (F := Ideal) (Shape.Idx.first h_S_) = 0 := (val_main_call6_v0_apply _).trans (ofBits_zero.trans rfl)
    have e0 : ∀ i, val_main_v25 (F := Ideal) x0 x1 x2 x3 i = Ideal.hostReduceWindowAdd (s := ⟨3, ![8, 8192, 8192]⟩) ![1, 1, 8192] ![1, 1, 1] ![0, 0, 8191] ![0, 0, 0] reduceWindows_S8x8192x8192_S8x8192x8192_w1s1p0_0_w1s1p0_0_w8192s1p8191_0 (val_main_v23 (F := Ideal) x0 x1 x2 x3) (val_main_call6_v0 (F := Ideal) (Shape.Idx.first h_S_)) i := by
      intro i
      unfold val_main_v25
      generalize val_main_v23 (F := Ideal) x0 x1 x2 x3 = y
      exact windowAdd_ideal _ _ _ _ y _ _ _ i
    rw [e0, hz]
    exact (window_upto rfl reduceWindows_S8x8192x8192_S8x8192x8192_w1s1p0_0_w1s1p0_0_w8192s1p8191_0 (val_main_v23 (F := Ideal) x0 x1 x2 x3) G q k (fun n => (H G).g n q.val) (fun n => g_at A G q n))
  rw [e, Finset.sum_range_succ]
  show -((_ : ℝ) : EReal) + ((_ : ℝ) : EReal) = _
  rw [← EReal.coe_neg, ← EReal.coe_add, neg_add_cancel_comm_assoc, Head.bef]

theorem dz_at (G : Fin 8) (q k : Fin 8192) : val_main_v33 (F := Ideal) x0 x1 x2 x3 (ix3 G q k) = (((H G).dz k.val q.val : ℝ) : EReal) := by
  rw [val_main_v33_apply, val_main_v32_apply, val_main_cst_2_apply, val_main_v31_apply, val_main_v29_apply, val_main_v28_apply, val_main_call8_v1_apply, val_main_call8_v0_apply,
    val_main_v30_apply, val_main_call9_v1_apply, val_main_call9_v0_apply, g_at A, call0_logistic x0 x1 _ _ (neg_z_at A G q k), call1_logistic x0 x1 _ _ (pos_z_at A G q k),
    val_main_v27_apply, mask_at, select_of, bef_at A, show val_main_call7_v0 (F := Ideal) (ix3 G q k) = ((0 : ℝ) : EReal) from (val_main_call7_v0_apply _).trans ofBits_zero]
  have m : (if k.val < q.val then (((H G).bef k.val q.val : ℝ) : EReal) else ((0 : ℝ) : EReal)) = ((if k.val < q.val then (H G).bef k.val q.val else 0 : ℝ) : EReal) := by
    split <;> rfl
  rw [m]
  generalize he : (if k.val < q.val then (H G).bef k.val q.val else 0) = b
  show (-(-(-((b : ℝ) : EReal) * ((_ : ℝ) : EReal))) + -(-((_ : ℝ) : EReal) * ((_ : ℝ) : EReal))) * Ideal.ofBits .f32 0x3E000000#32 = _
  rw [ofBits_eighth]
  simp only [← EReal.coe_neg, ← EReal.coe_mul, ← EReal.coe_add]
  refine congrArg Real.toEReal ?_
  rw [Head.dz, ← he]
  split
  · ring
  · next h => rw [Head.g, Head.w, if_neg h]; ring

theorem dk_at (G : Fin 8) (n : Fin 8192) (d : Fin 64) : val_main_v34 (F := Ideal) x0 x1 x2 x3 (ix3 G n d) = (((H G).dk d n.val : ℝ) : EReal) := by
  rw [val_main_v34_apply, Head.dk, Finset.sum_range (fun q => (H G).Q d q * (H G).dz n.val q), ← coe_sum_mul]
  refine Finset.sum_congr rfl fun q _ => ?_
  rw [show lidx_main_v34 (ix3 G n d) q = ix3 G q n from eq_of3 rfl rfl rfl, show ridx_main_v34 (ix3 G n d) q = ix3 G q d from eq_of3 rfl rfl rfl, A.q, dz_at A, mul_comm]

theorem dq_at (G : Fin 8) (n : Fin 8192) (d : Fin 64) : val_main_v35 (F := Ideal) x0 x1 x2 x3 (ix3 G n d) = (((H G).dq d n.val : ℝ) : EReal) := by
  rw [val_main_v35_apply, Head.dq, Finset.sum_range (fun k => (H G).K d k * (H G).dz k n.val), ← coe_sum_mul]
  refine Finset.sum_congr rfl fun k _ => ?_
  rw [show lidx_main_v35 (ix3 G n d) k = ix3 G n k from eq_of3 rfl rfl rfl, show ridx_main_v35 (ix3 G n d) k = ix3 G k d from eq_of3 rfl rfl rfl, A.k, dz_at A, mul_comm]

theorem dv_at (G : Fin 8) (n : Fin 8192) (d : Fin 64) : val_main_v20 (F := Ideal) x0 x1 x3 (ix3 G n d) = (((H G).dv d n.val : ℝ) : EReal) := by
  rw [val_main_v20_apply, show idx_main_v20 (ix3 G n d) = ix3 G d n from eq_of3 rfl rfl rfl, val_main_v19_apply, Head.dv, Finset.sum_range (fun q => (H G).C d q * (H G).w n.val q), ← coe_sum_mul]
  refine Finset.sum_congr rfl fun q _ => ?_
  rw [show lidx_main_v19 (ix3 G d n) q = ix3 G q d from eq_of3 rfl rfl rfl, show ridx_main_v19 (ix3 G d n) q = ix3 G q n from eq_of3 rfl rfl rfl, A.ct, w_at A]

/-! ## The results, as they are laid out -/

theorem res_q (G : Fin 8) (d : Fin 64) (q : Fin 8192) : val_main_v36 (F := Ideal) x0 x1 x2 x3 (ix3 G d q) = (((H G).dq d q.val : ℝ) : EReal) := by
  rw [val_main_v36_apply, show idx_main_v36 (ix3 G d q) = ix3 G q d from eq_of3 rfl rfl rfl, dq_at A]

omit A in
theorem unblock (G : Fin 8) (j : Fin 64) (s : Fin 128) (d : Fin 64) (p : j.val * 128 + s.val < 8192) :
    idx_main_v37 (idx_main_v38 (ix4 G j d s)) = ix3 G ⟨j.val * 128 + s.val, p⟩ d := by
  refine eq_of3 (Fin.ext ?_) (Fin.ext ?_) (Fin.ext ?_)
  · show (((G.val * 64 + j.val) * 128 + s.val) * 64 + d.val) / 524288 = G.val; omega
  · show (((G.val * 64 + j.val) * 128 + s.val) * 64 + d.val) / 64 % 8192 = j.val * 128 + s.val; omega
  · show (((G.val * 64 + j.val) * 128 + s.val) * 64 + d.val) % 64 = d.val; omega

theorem res_k (G : Fin 8) (j d : Fin 64) (s : Fin 128) : val_main_v38 (F := Ideal) x0 x1 x2 x3 (ix4 G j d s) = (((H G).dk d (j.val * 128 + s.val) : ℝ) : EReal) := by
  rw [val_main_v38_apply, val_main_v37_apply, unblock G j s d (by omega), dk_at A]

theorem res_v (G : Fin 8) (j d : Fin 64) (s : Fin 128) : val_main_v40 (F := Ideal) x0 x1 x3 (ix4 G j d s) = (((H G).dv d (j.val * 128 + s.val) : ℝ) : EReal) := by
  rw [val_main_v40_apply, val_main_v39_apply, show idx_main_v39 (idx_main_v40 (ix4 G j d s)) = _ from unblock G j s d (by omega), dv_at A]

end

end Cert.ReferenceIdeal.Hand
-- ==== Proof.HostValue.lean ====
/- Hand-written, untrusted. What the region finds in its arrays, on real numbers. -/
module

public import proofs.«01_k».proof.Proof.HostArrays
public import proofs.«01_k».proof.Proof.HostRuns
public import proofs.«01_k».proof.Proof.RefValue
public import proofs.«01_k».proof.Proof.GridPoint

@[expose] public section

set_option maxRecDepth 16384
set_option maxHeartbeats 400000

noncomputable section

namespace Cert.KernelIdeal.Hand

open Idealize.ShloMosaic Idealize.ShloMosaic.TcCoe Idealize.ShloMosaic.Tactic
open Cert.KernelIdeal.Gen Cert.Attn
open Cert.ReferenceIdeal.Hand (ArgIn select_of l1_at eq_of3)
open Finset (range Ico)

/-! ## The arguments, rearranged -/

/-- A position of a block, among all. -/
def posIn (j : Fin 64) (s : Fin 128) : Fin 8192 := ⟨j.val * 128 + s.val, by omega⟩

/-- Positions cut into blocks, the last coordinate before the position in its block. -/
theorem cut_at {F : Type} (x : S8x8192x64.Idx → F) (G : Fin 8) (j d : Fin 64) (s : Fin 128) :
    transpose S8x64x64x128 [0, 1, 3, 2] (shapeCast S8x64x128x64 x shapeCasts_S8x8192x64_S8x64x128x64) transposes_S8x64x128x64_S8x64x64x128_0_1_3_2 (ix4 G j d s) = x (ix3 G (posIn j s) d) := by
  refine (transpose_apply [0, 1, 3, 2] _ _ (ix4 G j d s) (ix4 G j s d) (fun b => match b with | ⟨0, _⟩ => rfl | ⟨1, _⟩ => rfl | ⟨2, _⟩ => rfl | ⟨3, _⟩ => rfl)).trans ?_
  refine shapeCast_apply _ _ (ix4 G j s d) (ix3 G (posIn j s) d) ?_
  rw [Shape.rowMajor_val_three, Shape.rowMajor_val_four]
  show (G.val * 8192 + (j.val * 128 + s.val)) * 64 + d.val = ((G.val * 64 + j.val) * 128 + s.val) * 64 + d.val
  omega

theorem hBlocks_at (x : FVec Ideal S8x8192x64 .f32) (G : Fin 8) (j d : Fin 64) (s : Fin 128) : hBlocks x (ix4 G j d s) = x (ix3 G (posIn j s) d) :=
  cut_at (truncf .bf16 x bitsLt_bf16_f32) G j d s

theorem hRows_at (x : FVec Ideal S8x8192x64 .f32) (G : Fin 8) (d : Fin 64) (n : Fin 8192) : hRows x (ix3 G d n) = x (ix3 G n d) :=
  transpose_apply [0, 2, 1] (truncf .bf16 x bitsLt_bf16_f32) _ (ix3 G d n) (ix3 G n d) (fun b => match b with | ⟨0, _⟩ => rfl | ⟨1, _⟩ => rfl | ⟨2, _⟩ => rfl)

/-! ## The triangles -/

theorem hRow_at (s t : Fin 128) : hRow (ix2 s t) = BitVec.ofNat 32 s.val := by
  pointwise [hRow]

theorem hCol_at (s t : Fin 128) : hCol (ix2 s t) = BitVec.ofNat 32 t.val := by
  pointwise [hCol]

theorem hOnes_at (p : IVec S128x128 1) (i : S128x128.Idx) : hOnes p i = Scalar.select (p i) (Ideal.ofBits .f32 0x3F800000#32) (Ideal.ofBits .f32 0x00000000#32) := rfl

theorem ones_of (p : IVec S128x128 1) (s t : Fin 128) (c : Prop) [Decidable c] (h : p (ix2 s t) = BitVec.ofBool (decide c)) :
    hOnes p (ix2 s t) = ((if c then 1 else 0 : ℝ) : EReal) := by
  rw [hOnes_at, h, select_of, ofBits_one, ofBits_zero]
  split <;> rfl

theorem later_of : IsLater (hOnes (cmpi .sgt hCol hRow)) := fun s t => ones_of _ s t (s.val < t.val) (by
  show Scalar.cmpi .sgt (hCol (ix2 s t)) (hRow (ix2 s t)) = _
  rw [hRow_at, hCol_at]
  exact WordCmp.cmpi_slt_ofNat (w := 32) (a := s.val) (b := t.val) (by have := s.isLt; omega) (by have := t.isLt; omega))

theorem earlier_of : IsEarlier (hOnes (cmpi .slt hCol hRow)) := fun s t => ones_of _ s t (t.val < s.val) (by
  show Scalar.cmpi .slt (hCol (ix2 s t)) (hRow (ix2 s t)) = _
  rw [hRow_at, hCol_at]
  exact WordCmp.cmpi_slt_ofNat (w := 32) (a := t.val) (b := s.val) (by have := t.isLt; omega) (by have := s.isLt; omega))

/-! ## The sums over the later keys -/

theorem hLogs_eq (q k : FVec Ideal S8x8192x64 .f32) : hLogs q k = Cert.ReferenceIdeal.Read.val_main_v12_0 (F := Ideal) q k := rfl

theorem hSums_at {l : FVec Ideal S8x8192x8192 .f32} {r : ℕ → ℝ} {G : Fin 8} {q : Fin 8192} (h : ∀ k : Fin 8192, l (ix3 G q k) = (r k.val : EReal)) (j : Fin 64) :
    hSums l (ix3 G q j) = ((∑ s ∈ range 128, r (j.val * 128 + s) : ℝ) : EReal) := by
  have e : hSums l (ix3 G q j) = Ideal.ofBits .f32 0x00000000#32 + ∑ s : Fin 128, shapeCast S8x8192x64x128 l shapeCasts_S8x8192x8192_S8x8192x64x128 (ix4 G q j s) :=
    Ideal.hostReduceAdd_r4_a3 reducesTo_S8x8192x64x128_S8x8192x64_d3 _ _ _
  have e2 : ∀ s : Fin 128, shapeCast S8x8192x64x128 l shapeCasts_S8x8192x8192_S8x8192x64x128 (ix4 G q j s) = l (ix3 G q (posIn j s)) := fun s => by
    refine shapeCast_apply _ _ (ix4 G q j s) (ix3 G q (posIn j s)) ?_
    rw [Shape.rowMajor_val_three, Shape.rowMajor_val_four]
    show (G.val * 8192 + q.val) * 8192 + (j.val * 128 + s.val) = ((G.val * 8192 + q.val) * 64 + j.val) * 128 + s.val
    omega
  rw [e, ofBits_zero, EReal.coe_zero, zero_add, Finset.sum_range (fun s => r (j.val * 128 + s)), ← coe_sum]
  exact Finset.sum_congr rfl fun s _ => (e2 s).trans (h _)

theorem hFrom_at {x : FVec Ideal S8x8192x64 .f32} {b : ℕ → ℝ} {G : Fin 8} {q : Fin 8192} (h : ∀ j : Fin 64, x (ix3 G q j) = (b j.val : EReal)) (j : Fin 64) :
    hFrom x (ix3 G q j) = ((∑ k ∈ Ico j.val 64, b k : ℝ) : EReal) := by
  have hz : (broadcastInDim S_ ![] bcast_S_S_ (constant S_ .f32 0x00000000#32) : FVec Ideal S_ .f32) (Shape.Idx.first h_S_) = 0 := ofBits_zero.trans rfl
  unfold hFrom
  refine (windowAdd_ideal _ _ _ _ x _ _ _ (ix3 G q j)).trans ?_
  rw [hz]
  exact window_from reduceWindows_S8x8192x64_S8x8192x64_w1s1p0_0_w1s1p0_0_w64s1p0_63 x G q j b h

theorem sum_blocks (r : ℕ → ℝ) (j n : ℕ) (h : j ≤ n) : ∑ k ∈ Ico j n, ∑ s ∈ range 128, r (k * 128 + s) = ∑ k ∈ Ico (j * 128) (n * 128), r k := by
  induction n, h using Nat.le_induction with
  | base => simp
  | succ n h ih =>
    rw [Finset.sum_Ico_succ_top h, ih, Nat.succ_mul, ← Finset.sum_Ico_consecutive r (Nat.mul_le_mul_right 128 h) (Nat.le_add_right _ 128), Finset.sum_Ico_eq_sum_range r (n * 128), Nat.add_sub_cancel_left]

theorem hRuns_at {l : FVec Ideal S8x8192x8192 .f32} {G : Fin 8} {q : Fin 8192} {r : ℕ → ℝ} (h : ∀ k : Fin 8192, l (ix3 G q k) = (r k.val : EReal)) (j : Fin 64) :
    subf (hFrom (hSums l)) (hSums l) (ix3 G q j) = ((∑ k ∈ Ico ((j.val + 1) * 128) 8192, r k : ℝ) : EReal) := by
  show hFrom (hSums l) (ix3 G q j) - hSums l (ix3 G q j) = _
  rw [hFrom_at (b := fun k => ∑ s ∈ range 128, r (k * 128 + s)) (hSums_at h) j, hSums_at h j, ← EReal.coe_sub, Finset.sum_eq_sum_Ico_succ_bot j.isLt, add_sub_cancel_left, sum_blocks r _ 64 j.isLt]

/-! ## All of them -/

variable {m : (ℓ : Loc nD τ sig) → Buf (Elt Ideal) ℓ} {c : Dev nD} {H : Fin 8 → Head}

theorem arrIn (A : ArgIn (m ((c : Thread nD τ).loc main_arg0)) (m ((c : Thread nD τ).loc main_arg1)) (m ((c : Thread nD τ).loc main_arg2)) (m ((c : Thread nD τ).loc main_arg3)) H) : ArrIn m c H where
  k G j d s := by rw [V_main_v35]; exact (hBlocks_at _ G j d s).trans (A.k G (posIn j s) d)
  v G j d s := by rw [V_main_v38]; exact (hBlocks_at _ G j d s).trans (A.v G (posIn j s) d)
  q G d q := by rw [V_main_v40]; exact (hRows_at _ G d q).trans (A.q G q d)
  ct G d q := by rw [V_main_v42]; exact (hRows_at _ G d q).trans (A.ct G q d)
  rows G i j t := by
    rw [V_main_v17]
    exact (cut_at _ G i j t).trans (hRuns_at (fun k => (congrFun (hLogs_eq _ _) _).trans (l1_at A G (posIn i t) k)) j)
  later := by rw [V_main_v25]; exact later_of
  earlier := by rw [V_main_v32]; exact earlier_of

end Cert.KernelIdeal.Hand
-- ==== Proof.Algebraic.lean ====
/- Hand-written, untrusted. Both programs leave the same gradients: the arguments' eight heads, the two runs and what each leaves. -/
module

public import proofs.«01_k».proof.Pre_finite
public import proofs.«01_k».proof.Proof.GridValue
public import proofs.«01_k».proof.Proof.HostValue
public import proofs.«01_k».proof.Proof.Gen.ReferenceIdeal.Run

@[expose] public section

set_option maxRecDepth 16384
set_option maxHeartbeats 400000

noncomputable section

namespace Cert.Attn

open Idealize.ShloMosaic Idealize.ShloMosaic.TcCoe Idealize.SL.Sem
open Cert.ReferenceIdeal.Hand (ArgIn res_q res_k res_v ofBits_inf)

/-! ## The precondition, element by element -/

theorem both_one (a b : BitVec 1) (h : a &&& b = 1#1) : a = 1#1 ∧ b = 1#1 := by
  revert a b
  decide

theorem real_of_lt {x : EReal} (h : Ideal.cmp .olt (max x (-x)) (Ideal.ofBits .f32 0x7F800000#32) = 1#1) : x = ((x.toReal : ℝ) : EReal) := by
  rw [ofBits_inf] at h
  refine (EReal.coe_toReal ?_ ?_).symm
  · rintro rfl
    simp [Ideal.cmp] at h
  · rintro rfl
    simp [Ideal.cmp] at h

abbrev Arg : Type := FVec Ideal Cert.Pre_finite.S8x8192x64 .f32

theorem reals_of [Cert.Pre_finite.Facts] {x0 x1 x2 x3 : Arg} (h : Cert.Pre_finite.fn (F := Ideal) x0 x1 x2 x3 = fun _ => 1#1) (i : Cert.Pre_finite.S8x8192x64.Idx) :
    x0 i = (((x0 i).toReal : ℝ) : EReal) ∧ x1 i = (((x1 i).toReal : ℝ) : EReal) ∧ x2 i = (((x2 i).toReal : ℝ) : EReal) ∧ x3 i = (((x3 i).toReal : ℝ) : EReal) := by
  have e := congrFun h i
  obtain ⟨e012, e3⟩ := both_one _ _ e
  obtain ⟨e01, e2⟩ := both_one _ _ e012
  obtain ⟨e0, e1⟩ := both_one _ _ e01
  exact ⟨real_of_lt e0, real_of_lt e1, real_of_lt e2, real_of_lt e3⟩

/-! ## The heads -/

/-- An argument's numbers of one head, zero past the last position. -/
def numbers (x : Arg) (G : Fin 8) (d : Fin 64) (n : ℕ) : ℝ := if h : n < 8192 then (x (ix3 G (⟨n, h⟩ : Fin 8192) d) : EReal).toReal else 0

theorem numbers_at {x : Arg} (h : ∀ i, x i = (((x i : EReal).toReal : ℝ) : EReal)) (G : Fin 8) (n : Fin 8192) (d : Fin 64) : x (ix3 G n d) = ((numbers x G d n.val : ℝ) : EReal) := by
  rw [numbers, dif_pos n.isLt]
  exact h _

/-- The eight heads of the arguments: queries, keys, values, cotangents. -/
def heads (x0 x1 x2 x3 : Arg) (G : Fin 8) : Head := ⟨numbers x1 G, numbers x0 G, numbers x2 G, numbers x3 G⟩

theorem argIn [Cert.Pre_finite.Facts] {x0 x1 x2 x3 : Arg} (h : Cert.Pre_finite.fn (F := Ideal) x0 x1 x2 x3 = fun _ => 1#1) : ArgIn x0 x1 x2 x3 (heads x0 x1 x2 x3) where
  q := numbers_at fun i => (reals_of h i).1
  k := numbers_at fun i => (reals_of h i).2.1
  v := numbers_at fun i => (reals_of h i).2.2.1
  ct := numbers_at fun i => (reals_of h i).2.2.2

end Cert.Attn

/-! ## The kernel's program -/

namespace Cert.KernelIdeal.Hand

open Idealize.ShloMosaic Idealize.ShloMosaic.TcCoe Idealize.SL.Sem
open Cert.KernelIdeal.Gen Cert.Attn
open Cert.ReferenceIdeal.Hand (ArgIn)

theorem run_value (m : (ℓ : Loc nD τ sig) → Buf (Elt Ideal) ℓ) (ρ : Dev nD → PrngReg) (H : Dev nD → Fin 8 → Head)
    (A : ∀ c : Dev nD, ArgIn (m ((c.tc : Thread nD τ).loc main_arg0)) (m ((c.tc : Thread nD τ).loc main_arg1)) (m ((c.tc : Thread nD τ).loc main_arg2)) (m ((c.tc : Thread nD τ).loc main_arg3)) (H c)) :
    θ_run defs (onTc (τ := τ) (main (F := Ideal))) ⟨m, fun _ => 0, ρ⟩ (fun r => ∀ c : Dev nD,
      r.2.mem ((c.tc : Thread nD τ).loc main_v43_0) = dqArr (H c)
      ∧ r.2.mem ((c.tc : Thread nD τ).loc main_v43_1) = dkArr (H c)
      ∧ r.2.mem ((c.tc : Thread nD τ).loc main_v43_2) = dvArr (H c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 7).trans (final7 (arrIn (A c))), ((h.1 c).1 8).trans (final8 (arrIn (A c))), ((h.1 c).1 9).trans (final9 (arrIn (A c))), h.2.1 c⟩)
    (θ_run_and (run_arrays m ρ) (frame_any m ρ))

end Cert.KernelIdeal.Hand

/-! ## The reference -/

namespace Cert.ReferenceIdeal.Hand

open Idealize.ShloMosaic Idealize.ShloMosaic.TcCoe Idealize.SL.Sem
open Cert.ReferenceIdeal.Gen Cert.Attn
open Cert.KernelIdeal.Hand (dqArr dkArr dvArr)

/-- A position is a block's. -/
theorem ref_dq {x0 x1 x2 x3 : Arg} {H : Fin 8 → Head} (A : ArgIn x0 x1 x2 x3 H) : Read.val_main_v36 (F := Ideal) x0 x1 x2 x3 = dqArr H := by
  funext i
  rw [eq_ix3 i]
  exact res_q A (i 0) (i 1) (i 2)

theorem ref_dk {x0 x1 x2 x3 : Arg} {H : Fin 8 → Head} (A : ArgIn x0 x1 x2 x3 H) : Read.val_main_v38 (F := Ideal) x0 x1 x2 x3 = dkArr H := by
  funext i
  rw [eq_ix4 i]
  exact res_k A (i 0) (i 1) (i 2) (i 3)

theorem ref_dv {x0 x1 x2 x3 : Arg} {H : Fin 8 → Head} (A : ArgIn x0 x1 x2 x3 H) : Read.val_main_v40 (F := Ideal) x0 x1 x3 = dvArr H := by
  funext i
  rw [eq_ix4 i]
  exact res_v A (i 0) (i 1) (i 2) (i 3)

theorem run_value (m : (ℓ : Loc nD τ sig) → Buf (Elt Ideal) ℓ) (ρ : Dev nD → PrngReg) (H : Dev nD → Fin 8 → Head)
    (A : ∀ c : Dev nD, ArgIn (m ((c.tc : Thread nD τ).loc main_arg0)) (m ((c.tc : Thread nD τ).loc main_arg1)) (m ((c.tc : Thread nD τ).loc main_arg2)) (m ((c.tc : Thread nD τ).loc main_arg3)) (H c)) :
    θ_run defs (onTc (τ := τ) (main (F := Ideal))) ⟨m, fun _ => 0, ρ⟩ (fun r => ∀ c : Dev nD,
      r.2.mem ((c.tc : Thread nD τ).loc main_v36) = dqArr (H c)
      ∧ r.2.mem ((c.tc : Thread nD τ).loc main_v38) = dkArr (H c)
      ∧ r.2.mem ((c.tc : Thread nD τ).loc main_v40) = dvArr (H c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((Read.val_main_v36_eq m c).trans (ref_dq (A c))), (h c).2.1.trans ((Read.val_main_v38_eq m c).trans (ref_dk (A c))),
      (h c).2.2.1.trans ((Read.val_main_v40_eq m c).trans (ref_dv (A c))), (h c).2.2.2⟩) (Value.run m ρ)

end Cert.ReferenceIdeal.Hand
-- ==== Proof.Accumulate.lean ====
/- Hand-written, untrusted. Matrices read at natural numbers, and a block that adds one product at each of eight points. -/
module

public import Idealize.ShloMosaic.Lib.Pipeline.Value
public import Idealize.ShloMosaic.Lib.Pointwise
public import Idealize.ShloMosaic.Lib.IdealHost

@[expose] public section

noncomputable section

namespace Cert.Mat

open Idealize.ShloMosaic
open Finset (range)

/-- A matrix read at a row and a column, and 0 outside it. -/
def entry {A B : ℕ} (x : (⟨2, ![A, B]⟩ : Shape).Idx → EReal) (r q : ℕ) : EReal :=
  if h : r < A ∧ q < B then x (ix2 ⟨r, h.1⟩ ⟨q, h.2⟩) else 0

theorem entry_eq {A B : ℕ} (x : (⟨2, ![A, B]⟩ : Shape).Idx → EReal) (j : (⟨2, ![A, B]⟩ : Shape).Idx) {r q : ℕ}
    (hr : (j 0).val = r) (hq : (j 1).val = q) : x j = entry x r q := by
  subst hr hq
  rw [entry, dif_pos ⟨(j 0).isLt, (j 1).isLt⟩]
  refine congrArg x (funext fun a => ?_)
  match a with
  | ⟨0, _⟩ => rfl
  | ⟨1, _⟩ => rfl

/-- An index of one matrix in a stack of one. -/
theorem only {A B : ℕ} (j : (⟨3, ![1, A, B]⟩ : Shape).Idx) : ∃ (a : Fin A) (b : Fin B), j = ix3 0 a b :=
  ⟨j 1, j 2, funext fun d => by
    match d with
    | ⟨0, _⟩ => exact Subsingleton.elim (α := Fin 1) _ _
    | ⟨1, _⟩ => rfl
    | ⟨2, _⟩ => rfl⟩

/-- A sum over blocks of rows. -/
theorem sum_blocks (f : ℕ → EReal) (w n : ℕ) : ∑ s ∈ range n, ∑ k ∈ range w, f (s * w + k) = ∑ r ∈ range (n * w), f r := by
  induction n with
  | zero => simp
  | succ n ih => rw [Finset.sum_range_succ, ih, Nat.succ_mul, Finset.sum_range_add]

/-- A block that begins at zero in column `b` of the grid and adds, at each of the column's eight points, the 1024 terms of
    the point's rows holds the sum over all 8192 rows. -/
theorem accumulated {N : ℕ} {ι : Type*} (reset : (n : ℕ) → n < N → ι → EReal) (step : (n : ℕ) → n < N → (ι → EReal) → ι → EReal)
    (term : ℕ → ℕ → ι → EReal) (b : ℕ) (h : 8 * b + 7 < N)
    (hr : ∀ n (h : n < N) j, reset n h j = ∑ k ∈ range 1024, term (n / 8) (n % 8 * 1024 + k) j)
    (hs : ∀ n (h : n < N) acc j, step n h acc j = acc j + ∑ k ∈ range 1024, term (n / 8) (n % 8 * 1024 + k) j) (j : ι) :
    Pipeline.accAt reset step (8 * b) 7 h j = ∑ r ∈ range 8192, term b r j := by
  rw [Pipeline.accAt_add_apply reset step (fun _ => 0) (fun n j => ∑ k ∈ range 1024, term (n / 8) (n % 8 * 1024 + k) j) (8 * b) 7
    (fun h j => by rw [hr, zero_add]) (fun n h acc j _ _ => hs n h acc j) 7 le_rfl h j, zero_add,
    ← sum_blocks (fun r => term b r j) 1024 8]
  refine Finset.sum_congr rfl fun s hs => Finset.sum_congr rfl fun k _ => ?_
  have hs : s < 8 := Finset.mem_range.mp hs
  rw [show (8 * b + s) / 8 = b by omega, show (8 * b + s) % 8 = s by omega]

end Cert.Mat

end
-- ==== Proof.DwValue.lean ====
/- Hand-written, untrusted. The gradient of the SwiGLU's first weight: the block sums are the reference's product. -/
module

public import proofs.«01_k».proof.Proof.Accumulate
public import proofs.«01_k».proof.Proof.Gen.KernelDwIdeal.Value
public import proofs.«01_k».proof.Proof.Gen.ReferenceDwIdeal.Read

@[expose] public section

set_option maxRecDepth 16384

noncomputable section

namespace Cert.KernelDwIdeal.Hand

open Idealize.ShloMosaic Idealize.ShloMosaic.TcCoe Idealize.ShloMosaic.Tactic Idealize.SL.Sem
open Cert.KernelDwIdeal Cert.KernelDwIdeal.Gen Cert.KernelDwIdeal.Value Cert.Mat
open Finset (range)

theorem pay1_apply (j : S1x512x5632.Idx) : k0_pay1 (F := Ideal) j = 0 := by
  show Ideal.ofBits .f32 0x00000000#32 = 0
  exact Ideal.ofBits_zero_f32

theorem pay2_apply (acc : Vec Ideal S1x512x5632 .f32) (x : Vec Ideal S1024x512 .bf16) (y : Vec Ideal S1024x5632 .bf16) (a : Fin 512) (b : Fin 5632) :
    k0_pay2 acc x y (ix3 0 a b) = acc (ix3 0 a b) + ∑ k : Fin 1024, x (ix2 k a) * y (ix2 k b) := by
  pointwise [k0_pay2]

variable (m : (ℓ : Loc nD τ sig) → Buf (Elt Ideal) ℓ) (c : Dev nD)

/-- The normalised activations. -/
abbrev acts : (⟨2, ![8192, 1024]⟩ : Shape).Idx → EReal := (m ((c : Thread nD τ).loc main_arg0) : Vec Ideal S8192x1024 .f32)

/-- The gradient of the product. -/
abbrev grad : (⟨2, ![8192, 5632]⟩ : Shape).Idx → EReal := (m ((c : Thread nD τ).loc main_arg1) : Vec Ideal S8192x5632 .f32)

theorem V_v0 : (V m c main_v0 : Vec Ideal S8192x1024 .bf16) = acts m c := by
  show (StableHlo.after hostOps0 (fun b => m (c, b)) (Proc.tc.devRef main_v0) : _) = _
  simp only [hostOps0]
  after_results
  rfl

theorem V_v1 : (V m c main_v1 : Vec Ideal S8192x5632 .bf16) = grad m c := by
  show (StableHlo.after hostOps0 (fun b => m (c, b)) (Proc.tc.devRef main_v1) : _) = _
  simp only [hostOps0]
  after_results
  rfl

theorem blocks : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

theorem iblk0 (t : Fin cfg0.N) (j : S1024x512.Idx) :
    (iblk m c 0 t : Vec Ideal S1024x512 .bf16) j = entry (acts m c) (t.val % 8 * 1024 + (j 0).val) (t.val / 8 * 512 + (j 1).val) := by
  rw [show (iblk m c 0 t : Vec Ideal S1024x512 .bf16) j = (V m c main_v0 : Vec Ideal S8192x1024 .bf16) (((cfg0.win 0).blk t).view.emb j) from
    show (((cfg0.win 0).blk t).view.read (Elt Ideal) (V m c main_v0 : Vec Ideal S8192x1024 .bf16) : Vec Ideal S1024x512 .bf16) j = _ from rfl, V_v0]
  obtain ⟨h0, h1, -, -⟩ := blocks t
  have e0 : (((cfg0.win 0).blk t).view.emb j 0).val = win0_0.index t (0 : Fin 2) * 1024 + 1 * (j 0).val := rfl
  have e1 : (((cfg0.win 0).blk t).view.emb j 1).val = win0_0.index t (1 : Fin 2) * 512 + 1 * (j 1).val := rfl
  exact entry_eq (acts m c) _ (by rw [e0, h0, one_mul]) (by rw [e1, h1, one_mul])

theorem iblk1 (t : Fin cfg0.N) (j : S1024x5632.Idx) :
    (iblk m c 1 t : Vec Ideal S1024x5632 .bf16) j = entry (grad m c) (t.val % 8 * 1024 + (j 0).val) (j 1).val := by
  rw [show (iblk m c 1 t : Vec Ideal S1024x5632 .bf16) j = (V m c main_v1 : Vec Ideal S8192x5632 .bf16) (((cfg0.win 1).blk t).view.emb j) from
    show (((cfg0.win 1).blk t).view.read (Elt Ideal) (V m c main_v1 : Vec Ideal S8192x5632 .bf16) : Vec Ideal S1024x5632 .bf16) j = _ from rfl, V_v1]
  obtain ⟨-, -, h0, h1⟩ := blocks t
  have e0 : (((cfg0.win 1).blk t).view.emb j 0).val = win0_1.index t (0 : Fin 2) * 1024 + 1 * (j 0).val := rfl
  have e1 : (((cfg0.win 1).blk t).view.emb j 1).val = win0_1.index t (1 : Fin 2) * 5632 + 1 * (j 1).val := rfl
  exact entry_eq (grad m c) _ (by rw [e0, h0, one_mul]) (by rw [e1, h1, one_mul, Nat.zero_mul, Nat.zero_add])

/-- A point adds the products of its block's rows. -/
theorem point (n : ℕ) (h : n < cfg0.N) (acc : Vec Ideal S1x512x5632 .f32) (j : S1x512x5632.Idx) :
    k0_pay2 acc (iblk m c 0 ⟨n, h⟩) (iblk m c 1 ⟨n, h⟩) j = acc j
      + ∑ k ∈ range 1024, entry (acts m c) (n % 8 * 1024 + k) (n / 8 * 512 + (j 1).val) * entry (grad m c) (n % 8 * 1024 + k) (j 2).val := by
  obtain ⟨a, b, rfl⟩ := only j
  rw [pay2_apply, Finset.sum_range]
  exact congrArg _ (Finset.sum_congr rfl fun k _ => congrArg₂ (· * ·) (iblk0 m c _ _) (iblk1 m c _ _))

theorem G2_eq (i : S1x1024x5632.Idx) :
    Eq (α := EReal) (G2 m c i) (∑ r ∈ range 8192, entry (acts m c) r (i 1).val * entry (grad m c) r (i 2).val) := by
  have h1 : (i 1).val < 1024 := (i 1).isLt
  have hN : cfg0.N = 16 := rfl
  have hrun : run2Of i = (i 1).val / 512 := by
    have h0 : (i 0).val < 1 := (i 0).isLt
    have h2 : (i 2).val < 5632 := (i 2).isLt
    unfold run2Of; omega
  unfold G2
  rw [dif_pos (by rw [hN, hrun]; omega), accumulated (reset2 m c) (step2 m c)
    (fun b r j => entry (acts m c) r (b * 512 + (j 1).val) * entry (grad m c) r (j 2).val) (run2Of i) _
    (fun n h j => (point m c n h _ j).trans (by rw [pay1_apply, zero_add])) (point m c)]
  have e1 : run2Of i * 512 + ((loc2Of i) 1).val = (i 1).val := by
    show run2Of i * 512 + (i 1).val % 512 = (i 1).val
    omega
  have e2 : ((loc2Of i) 2).val = (i 2).val := Nat.mod_eq_of_lt (i 2).isLt
  rw [e1, e2]

/-- The reference's array, at the call's arguments, is the call's. -/
theorem same (i : S1x1024x5632.Idx) :
    (Cert.ReferenceDwIdeal.Read.val_main_v4 (F := Ideal) (acts m c) (grad m c) : S1x1024x5632.Idx → EReal) i = G2 m c i := by
  rw [G2_eq, Cert.ReferenceDwIdeal.Read.val_main_v4_apply, Cert.ReferenceDwIdeal.Read.val_main_v3_apply, Cert.ReferenceDwIdeal.Read.val_main_v2_apply,
    Finset.sum_range]
  refine Finset.sum_congr rfl fun k _ => (mul_comm _ _).trans ?_
  exact congrArg₂ (· * ·) (entry_eq (acts m c) _ rfl rfl) (entry_eq (grad m c) _ rfl rfl)

end Cert.KernelDwIdeal.Hand

end
-- ==== Proof.DownValue.lean ====
/- Hand-written, untrusted. The gradient of the SwiGLU's second weight: the block sums are the reference's product. -/
module

public import proofs.«01_k».proof.Proof.Accumulate
public import proofs.«01_k».proof.Proof.Gen.KernelDownIdeal.Value
public import proofs.«01_k».proof.Proof.Gen.ReferenceDownIdeal.Read

@[expose] public section

set_option maxRecDepth 16384

noncomputable section

namespace Cert.KernelDownIdeal.Hand

open Idealize.ShloMosaic Idealize.ShloMosaic.TcCoe Idealize.ShloMosaic.Tactic Idealize.SL.Sem
open Cert.KernelDownIdeal Cert.KernelDownIdeal.Gen Cert.KernelDownIdeal.Value Cert.Mat
open Finset (range)

theorem pay1_apply (j : S1x1408x1024.Idx) : k0_pay1 (F := Ideal) j = 0 := by
  show Ideal.ofBits .f32 0x00000000#32 = 0
  exact Ideal.ofBits_zero_f32

theorem pay2_apply (acc : Vec Ideal S1x1408x1024 .f32) (x : Vec Ideal S1024x1408 .bf16) (y : Vec Ideal S1024x1024 .bf16) (a : Fin 1408) (b : Fin 1024) :
    k0_pay2 acc x y (ix3 0 a b) = acc (ix3 0 a b) + ∑ k : Fin 1024, x (ix2 k a) * y (ix2 k b) := by
  pointwise [k0_pay2]

variable (m : (ℓ : Loc nD τ sig) → Buf (Elt Ideal) ℓ) (c : Dev nD)

/-- The hidden activations. -/
abbrev acts : (⟨2, ![8192, 2816]⟩ : Shape).Idx → EReal := (m ((c : Thread nD τ).loc main_arg0) : Vec Ideal S8192x2816 .f32)

/-- The gradient of the product. -/
abbrev grad : (⟨2, ![8192, 1024]⟩ : Shape).Idx → EReal := (m ((c : Thread nD τ).loc main_arg1) : Vec Ideal S8192x1024 .f32)

theorem V_v0 : (V m c main_v0 : Vec Ideal S8192x2816 .bf16) = acts m c := by
  show (StableHlo.after hostOps0 (fun b => m (c, b)) (Proc.tc.devRef main_v0) : _) = _
  simp only [hostOps0]
  after_results
  rfl

theorem V_v1 : (V m c main_v1 : Vec Ideal S8192x1024 .bf16) = grad m c := by
  show (StableHlo.after hostOps0 (fun b => m (c, b)) (Proc.tc.devRef main_v1) : _) = _
  simp only [hostOps0]
  after_results
  rfl

theorem blocks : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

theorem iblk0 (t : Fin cfg0.N) (j : S1024x1408.Idx) :
    (iblk m c 0 t : Vec Ideal S1024x1408 .bf16) j = entry (acts m c) (t.val % 8 * 1024 + (j 0).val) (t.val / 8 * 1408 + (j 1).val) := by
  rw [show (iblk m c 0 t : Vec Ideal S1024x1408 .bf16) j = (V m c main_v0 : Vec Ideal S8192x2816 .bf16) (((cfg0.win 0).blk t).view.emb j) from
    show (((cfg0.win 0).blk t).view.read (Elt Ideal) (V m c main_v0 : Vec Ideal S8192x2816 .bf16) : Vec Ideal S1024x1408 .bf16) j = _ from rfl, V_v0]
  obtain ⟨h0, h1, -, -⟩ := blocks t
  have e0 : (((cfg0.win 0).blk t).view.emb j 0).val = win0_0.index t (0 : Fin 2) * 1024 + 1 * (j 0).val := rfl
  have e1 : (((cfg0.win 0).blk t).view.emb j 1).val = win0_0.index t (1 : Fin 2) * 1408 + 1 * (j 1).val := rfl
  exact entry_eq (acts m c) _ (by rw [e0, h0, one_mul]) (by rw [e1, h1, one_mul])

theorem iblk1 (t : Fin cfg0.N) (j : S1024x1024.Idx) :
    (iblk m c 1 t : Vec Ideal S1024x1024 .bf16) j = entry (grad m c) (t.val % 8 * 1024 + (j 0).val) (j 1).val := by
  rw [show (iblk m c 1 t : Vec Ideal S1024x1024 .bf16) j = (V m c main_v1 : Vec Ideal S8192x1024 .bf16) (((cfg0.win 1).blk t).view.emb j) from
    show (((cfg0.win 1).blk t).view.read (Elt Ideal) (V m c main_v1 : Vec Ideal S8192x1024 .bf16) : Vec Ideal S1024x1024 .bf16) j = _ from rfl, V_v1]
  obtain ⟨-, -, h0, h1⟩ := blocks t
  have e0 : (((cfg0.win 1).blk t).view.emb j 0).val = win0_1.index t (0 : Fin 2) * 1024 + 1 * (j 0).val := rfl
  have e1 : (((cfg0.win 1).blk t).view.emb j 1).val = win0_1.index t (1 : Fin 2) * 1024 + 1 * (j 1).val := rfl
  exact entry_eq (grad m c) _ (by rw [e0, h0, one_mul]) (by rw [e1, h1, one_mul, Nat.zero_mul, Nat.zero_add])

/-- A point adds the products of its block's rows. -/
theorem point (n : ℕ) (h : n < cfg0.N) (acc : Vec Ideal S1x1408x1024 .f32) (j : S1x1408x1024.Idx) :
    k0_pay2 acc (iblk m c 0 ⟨n, h⟩) (iblk m c 1 ⟨n, h⟩) j = acc j
      + ∑ k ∈ range 1024, entry (acts m c) (n % 8 * 1024 + k) (n / 8 * 1408 + (j 1).val) * entry (grad m c) (n % 8 * 1024 + k) (j 2).val := by
  obtain ⟨a, b, rfl⟩ := only j
  rw [pay2_apply, Finset.sum_range]
  exact congrArg _ (Finset.sum_congr rfl fun k _ => congrArg₂ (· * ·) (iblk0 m c _ _) (iblk1 m c _ _))

theorem G2_eq (i : S1x2816x1024.Idx) :
    Eq (α := EReal) (G2 m c i) (∑ r ∈ range 8192, entry (acts m c) r (i 1).val * entry (grad m c) r (i 2).val) := by
  have h1 : (i 1).val < 2816 := (i 1).isLt
  have hN : cfg0.N = 16 := rfl
  have hrun : run2Of i = (i 1).val / 1408 := by
    have h0 : (i 0).val < 1 := (i 0).isLt
    have h2 : (i 2).val < 1024 := (i 2).isLt
    unfold run2Of; omega
  unfold G2
  rw [dif_pos (by rw [hN, hrun]; omega), accumulated (reset2 m c) (step2 m c)
    (fun b r j => entry (acts m c) r (b * 1408 + (j 1).val) * entry (grad m c) r (j 2).val) (run2Of i) _
    (fun n h j => (point m c n h _ j).trans (by rw [pay1_apply, zero_add])) (point m c)]
  have e1 : run2Of i * 1408 + ((loc2Of i) 1).val = (i 1).val := by
    show run2Of i * 1408 + (i 1).val % 1408 = (i 1).val
    omega
  have e2 : ((loc2Of i) 2).val = (i 2).val := Nat.mod_eq_of_lt (i 2).isLt
  rw [e1, e2]

/-- The reference's array, at the call's arguments, is the call's. -/
theorem same (i : S1x2816x1024.Idx) :
    (Cert.ReferenceDownIdeal.Read.val_main_v4 (F := Ideal) (acts m c) (grad m c) : S1x2816x1024.Idx → EReal) i = G2 m c i := by
  rw [G2_eq, Cert.ReferenceDownIdeal.Read.val_main_v4_apply, Cert.ReferenceDownIdeal.Read.val_main_v3_apply, Cert.ReferenceDownIdeal.Read.val_main_v2_apply,
    Finset.sum_range]
  refine Finset.sum_congr rfl fun k _ => (mul_comm _ _).trans ?_
  exact congrArg₂ (· * ·) (entry_eq (acts m c) _ rfl rfl) (entry_eq (grad m c) _ rfl rfl)

end Cert.KernelDownIdeal.Hand

end
-- ==== Proof.Gate.lean ====
/- Hand-written, untrusted. The gate x / (1 + e⁻ˣ) and its gradient on the extended reals. -/
module

public import proofs.«01_k».proof.Proof.Scalars

@[expose] public section

noncomputable section

namespace Cert.Gate

open Idealize.ShloMosaic Cert.Attn

/-- The number one, as the programs write it. -/
abbrev one : EReal := Ideal.ofBits .f32 0x3F800000#32

/-- The logistic function, as both programs write it. -/
def sgm (g : EReal) : EReal := Ideal.div one (one + Ideal.exp (-g))

theorem one_eq : one = ((1 : ℝ) : EReal) := ofBits_one

theorem sgm_coe (x : ℝ) : sgm x = ((1 / (1 + Real.exp (-x)) : ℝ) : EReal) := by
  rw [sgm, one_eq, ← EReal.coe_neg, show Ideal.exp ((-x : ℝ) : EReal) = ((Real.exp (-x) : ℝ) : EReal) from rfl, ← EReal.coe_add,
    coe_div _ _ (one_add_exp_pos _).ne']

theorem sgm_top : sgm ⊤ = ((1 : ℝ) : EReal) := by
  rw [sgm, one_eq, EReal.neg_top, show Ideal.exp (⊥ : EReal) = 0 from rfl, add_zero, coe_div _ _ one_ne_zero, div_one]

theorem sgm_bot : sgm ⊥ = ((0 : ℝ) : EReal) := by
  rw [sgm, one_eq, EReal.neg_bot, show Ideal.exp (⊤ : EReal) = ⊤ from rfl, EReal.coe_add_top, Ideal.div, if_neg EReal.top_ne_zero, EReal.inv_top, mul_zero,
    EReal.coe_zero]

/-- The gradient through the gate, factored and term by term. -/
theorem grad_eq (g : EReal) (p : ℝ) : (p : EReal) * (sgm g * (one + g * (one - sgm g))) = p * sgm g + g * p * (sgm g * (one - sgm g)) := by
  rw [one_eq]
  induction g using EReal.rec with
  | bot => rw [sgm_bot]; simp
  | top =>
    rw [sgm_top, ← EReal.coe_sub, sub_self, EReal.coe_zero, mul_zero, mul_zero, mul_zero, add_zero, add_zero, EReal.coe_one, mul_one]
  | coe x =>
    rw [sgm_coe]
    generalize 1 / (1 + Real.exp (-x)) = s
    norm_cast
    ring

end Cert.Gate

end
-- ==== Proof.FfnValue.lean ====
/- Hand-written, untrusted. The SwiGLU's backward call: its three arrays are the reference's. -/
module

public import proofs.«01_k».proof.Proof.Accumulate
public import proofs.«01_k».proof.Proof.Gate
public import Idealize.ShloMosaic.Lib.KernelVsHost
public import proofs.«01_k».proof.Proof.Gen.KernelFfnIdeal.Value
public import proofs.«01_k».proof.Proof.Gen.ReferenceFfnIdeal.Read

@[expose] public section

set_option maxRecDepth 16384

noncomputable section

namespace Cert.Ffn

open Idealize.ShloMosaic Cert.Mat Cert.Gate
open Finset (range)

variable (x : (⟨2, ![8192, 1024]⟩ : Shape).Idx → EReal) (gu : (⟨2, ![8192, 5632]⟩ : Shape).Idx → EReal) (w : (⟨2, ![2816, 1024]⟩ : Shape).Idx → EReal)

/-- The gradient of the hidden activation. -/
def dact (r q : ℕ) : EReal := ∑ k ∈ range 1024, entry x r k * entry w q k

/-- The hidden activation. -/
def act (r q : ℕ) : EReal := entry gu r q * sgm (entry gu r q) * entry gu r (2816 + q)

/-- The gradient of the gate's half, as the kernel factors it. -/
def dgate (r q : ℕ) : EReal :=
  dact x w r q * entry gu r (2816 + q) * (sgm (entry gu r q) * (one + entry gu r q * (one - sgm (entry gu r q))))

/-- The gradient of the other half. -/
def dup (r q : ℕ) : EReal := dact x w r q * (entry gu r q * sgm (entry gu r q))

/-- Both halves side by side. -/
def dgu (r q : ℕ) : EReal := if q < 2816 then dgate x gu w r q else dup x gu w r (q - 2816)

end Cert.Ffn

/-! ## The call -/

namespace Cert.KernelFfnIdeal.Hand

open Idealize.ShloMosaic Idealize.ShloMosaic.TcCoe Idealize.ShloMosaic.Tactic Idealize.SL.Sem
open Cert.KernelFfnIdeal Cert.KernelFfnIdeal.Gen Cert.KernelFfnIdeal.Value Cert.Mat Cert.Gate Cert.Ffn
open Finset (range)

theorem pay2_apply (x : Vec Ideal S512x1024 .f32) (w : Vec Ideal S1x2816x1024 .bf16) (a : Fin 512) (b : Fin 2816) :
    k0_pay2 x w (ix2 a b) = ∑ k : Fin 1024, x (ix2 a k) * w (ix3 0 b k) := by
  pointwise [k0_pay2, k0_pay1]

theorem pay5_apply (g : Vec Ideal S512x2816 .bf16) (j : S512x2816.Idx) : k0_pay5 g j = sgm (g j) := by
  rw [sgm, ← zero_sub, ← Ideal.ofBits_zero_f32]
  pointwise [k0_pay5, k0_pay3]

theorem pay6_apply (g : Vec Ideal S512x2816 .bf16) (j : S512x2816.Idx) : k0_pay6 g j = g j * sgm (g j) := by
  rw [← pay5_apply]
  pointwise [k0_pay6, k0_pay3]

theorem pay7_apply (g u : Vec Ideal S512x2816 .bf16) (j : S512x2816.Idx) : k0_pay7 g u j = g j * sgm (g j) * u j := by
  rw [← pay6_apply]
  pointwise [k0_pay7, k0_pay4]

theorem pay8_apply (x : Vec Ideal S512x1024 .f32) (w : Vec Ideal S1x2816x1024 .bf16) (g u : Vec Ideal S512x2816 .bf16) (j : S512x2816.Idx) :
    k0_pay8 x w g u j = k0_pay2 x w j * u j * (sgm (g j) * (one + g j * (one - sgm (g j)))) := by
  rw [← pay5_apply]
  pointwise [k0_pay8, k0_pay3, k0_pay4]

theorem pay9_apply (x : Vec Ideal S512x1024 .f32) (w : Vec Ideal S1x2816x1024 .bf16) (g : Vec Ideal S512x2816 .bf16) (j : S512x2816.Idx) :
    k0_pay9 x w g j = k0_pay2 x w j * (g j * sgm (g j)) := by
  rw [← pay6_apply]
  pointwise [k0_pay9]

variable (m : (ℓ : Loc nD τ sig) → Buf (Elt Ideal) ℓ) (c : Dev nD)

/-- The gradient of the layer's output. -/
abbrev out : (⟨2, ![8192, 1024]⟩ : Shape).Idx → EReal := (m ((c : Thread nD τ).loc main_arg0) : Vec Ideal S8192x1024 .f32)
/-- The gate's argument and the other factor, side by side. -/
abbrev pair : (⟨2, ![8192, 5632]⟩ : Shape).Idx → EReal := (m ((c : Thread nD τ).loc main_arg1) : Vec Ideal S8192x5632 .f32)
/-- The second weight. -/
abbrev weight : (⟨2, ![2816, 1024]⟩ : Shape).Idx → EReal := (m ((c : Thread nD τ).loc main_arg2) : Vec Ideal S2816x1024 .f32)

theorem V_arg0 : (V m c main_arg0 : Vec Ideal S8192x1024 .f32) = out m c := V_main_arg0 m c

theorem V_v0 : (V m c main_v0 : Vec Ideal S8192x5632 .bf16) = pair m c := by
  show (StableHlo.after hostOps0 (fun b => m (c, b)) (Proc.tc.devRef main_v0) : _) = _
  simp only [hostOps0]
  after_results
  rfl

theorem V_v2 : (V m c main_v2 : Vec Ideal S1x2816x1024 .bf16) = fun i => entry (weight m c) (i 1).val (i 2).val := by
  show (StableHlo.after hostOps0 (fun b => m (c, b)) (Proc.tc.devRef main_v2) : _) = _
  simp only [hostOps0]
  after_results
  funext i
  refine (broadcastInDim_apply _ bcast_S2816x1024_S1x2816x1024_1_2 _ i (ix2 (i 1) (i 2)) fun a => ?_).trans (entry_eq (weight m c) _ rfl rfl)
  match a with
  | ⟨0, _⟩ => rfl
  | ⟨1, _⟩ => rfl

theorem blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 1
    ∧ win0_3.index t (0 : Fin 3) = 0 ∧ win0_3.index t (1 : Fin 3) = 0 ∧ win0_3.index t (2 : Fin 3) = 0 :=
  (by decide +kernel : ∀ t : Fin grid0.N, _)

theorem outBlocks : ∀ t : Fin cfg0.N, win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ (cfg0.win 4).flush t = true ∧ (cfg0.win 5).flush t = true ∧ (cfg0.win 6).flush t = true :=
  (by decide +kernel : ∀ t : Fin grid0.N, _)

theorem iblk0 (t : Fin cfg0.N) (j : S512x1024.Idx) :
    (iblk m c 0 t : Vec Ideal S512x1024 .f32) j = entry (out m c) (t.val * 512 + (j 0).val) (j 1).val := by
  rw [show (iblk m c 0 t : Vec Ideal S512x1024 .f32) j = (V m c main_arg0 : Vec Ideal S8192x1024 .f32) (((cfg0.win 0).blk t).view.emb j) from
    show (((cfg0.win 0).blk t).view.read (Elt Ideal) (V m c main_arg0 : Vec Ideal S8192x1024 .f32) : Vec Ideal S512x1024 .f32) j = _ from rfl, V_arg0]
  obtain ⟨h0, h1, -⟩ := blocks t
  have e0 : (((cfg0.win 0).blk t).view.emb j 0).val = win0_0.index t (0 : Fin 2) * 512 + 1 * (j 0).val := rfl
  have e1 : (((cfg0.win 0).blk t).view.emb j 1).val = win0_0.index t (1 : Fin 2) * 1024 + 1 * (j 1).val := rfl
  exact entry_eq (out m c) _ (by rw [e0, h0, one_mul]) (by rw [e1, h1, one_mul, Nat.zero_mul, Nat.zero_add])

theorem iblk1 (t : Fin cfg0.N) (j : S512x2816.Idx) :
    (iblk m c 1 t : Vec Ideal S512x2816 .bf16) j = entry (pair m c) (t.val * 512 + (j 0).val) (j 1).val := by
  rw [show (iblk m c 1 t : Vec Ideal S512x2816 .bf16) j = (V m c main_v0 : Vec Ideal S8192x5632 .bf16) (((cfg0.win 1).blk t).view.emb j) from
    show (((cfg0.win 1).blk t).view.read (Elt Ideal) (V m c main_v0 : Vec Ideal S8192x5632 .bf16) : Vec Ideal S512x2816 .bf16) j = _ from rfl, V_v0]
  obtain ⟨-, -, h0, h1, -⟩ := blocks t
  have e0 : (((cfg0.win 1).blk t).view.emb j 0).val = win0_1.index t (0 : Fin 2) * 512 + 1 * (j 0).val := rfl
  have e1 : (((cfg0.win 1).blk t).view.emb j 1).val = win0_1.index t (1 : Fin 2) * 2816 + 1 * (j 1).val := rfl
  exact entry_eq (pair m c) _ (by rw [e0, h0, one_mul]) (by rw [e1, h1, one_mul, Nat.zero_mul, Nat.zero_add])

theorem iblk2 (t : Fin cfg0.N) (j : S512x2816.Idx) :
    (iblk m c 2 t : Vec Ideal S512x2816 .bf16) j = entry (pair m c) (t.val * 512 + (j 0).val) (2816 + (j 1).val) := by
  rw [show (iblk m c 2 t : Vec Ideal S512x2816 .bf16) j = (V m c main_v0 : Vec Ideal S8192x5632 .bf16) (((cfg0.win 2).blk t).view.emb j) from
    show (((cfg0.win 2).blk t).view.read (Elt Ideal) (V m c main_v0 : Vec Ideal S8192x5632 .bf16) : Vec Ideal S512x2816 .bf16) j = _ from rfl, V_v0]
  obtain ⟨-, -, -, -, h0, h1, -⟩ := blocks t
  have e0 : (((cfg0.win 2).blk t).view.emb j 0).val = win0_2.index t (0 : Fin 2) * 512 + 1 * (j 0).val := rfl
  have e1 : (((cfg0.win 2).blk t).view.emb j 1).val = win0_2.index t (1 : Fin 2) * 2816 + 1 * (j 1).val := rfl
  exact entry_eq (pair m c) _ (by rw [e0, h0, one_mul]) (by rw [e1, h1, one_mul, one_mul])

theorem iblk3 (t : Fin cfg0.N) (j : S1x2816x1024.Idx) :
    (iblk m c 3 t : Vec Ideal S1x2816x1024 .bf16) j = entry (weight m c) (j 1).val (j 2).val := by
  rw [show (iblk m c 3 t : Vec Ideal S1x2816x1024 .bf16) j = (V m c main_v2 : Vec Ideal S1x2816x1024 .bf16) (((cfg0.win 3).blk t).view.emb j) from
    show (((cfg0.win 3).blk t).view.read (Elt Ideal) (V m c main_v2 : Vec Ideal S1x2816x1024 .bf16) : Vec Ideal S1x2816x1024 .bf16) j = _ from rfl, V_v2]
  obtain ⟨-, -, -, -, -, -, -, h1, h2⟩ := blocks t
  have e1 : (((cfg0.win 3).blk t).view.emb j 1).val = win0_3.index t (1 : Fin 3) * 2816 + 1 * (j 1).val := rfl
  have e2 : (((cfg0.win 3).blk t).view.emb j 2).val = win0_3.index t (2 : Fin 3) * 1024 + 1 * (j 2).val := rfl
  show entry (weight m c) (((cfg0.win 3).blk t).view.emb j 1).val (((cfg0.win 3).blk t).view.emb j 2).val = _
  rw [e1, e2, h1, h2, one_mul, one_mul, Nat.zero_mul, Nat.zero_add, Nat.zero_add]

/-! ## What a point leaves -/

theorem dact_at (t : Fin cfg0.N) (j : S512x2816.Idx) :
    k0_pay2 (iblk m c 0 t : Vec Ideal S512x1024 .f32) (iblk m c 3 t) j = dact (out m c) (weight m c) (t.val * 512 + (j 0).val) (j 1).val := by
  obtain ⟨a, b, rfl⟩ : ∃ (a : Fin 512) (b : Fin 2816), j = ix2 a b := ⟨j 0, j 1, funext fun d => by
    match d with
    | ⟨0, _⟩ => rfl
    | ⟨1, _⟩ => rfl⟩
  rw [pay2_apply, dact, Finset.sum_range]
  exact Finset.sum_congr rfl fun k _ => congrArg₂ (· * ·) (iblk0 m c t _) (iblk3 m c t _)

theorem hz2 : (![0, 0] : Fin 2 → ℕ) = fun _ => 0 := funext fun a => by fin_cases a <;> rfl
theorem hz3 : (![0, 0, 0] : Fin 3 → ℕ) = fun _ => 0 := funext fun a => by fin_cases a <;> rfl

theorem left4 (t : Fin cfg0.N) (j : S512x2816.Idx) :
    k0_pay8 (iblk m c 0 t : Vec Ideal S512x1024 .f32) (iblk m c 3 t) (iblk m c 1 t) (iblk m c 2 t) j
      = dgate (out m c) (pair m c) (weight m c) (t.val * 512 + (j 0).val) (j 1).val := by
  rw [pay8_apply, dact_at, iblk1, iblk2, dgate]

theorem right4 (t : Fin cfg0.N) (j : S512x2816.Idx) :
    k0_pay9 (iblk m c 0 t : Vec Ideal S512x1024 .f32) (iblk m c 3 t) (iblk m c 1 t) j
      = dup (out m c) (pair m c) (weight m c) (t.val * 512 + (j 0).val) (j 1).val := by
  rw [pay9_apply, dact_at, iblk1, dup]

/-- A point's block of the first array. -/
theorem block4 (t : Fin cfg0.N) (j : S512x5632.Idx) :
    out0_4 (iblk m c 0 t) (iblk m c 1 t) (iblk m c 2 t) (iblk m c 3 t) j = dgu (out m c) (pair m c) (weight m c) (t.val * 512 + (j 0).val) (j 1).val := by
  unfold out0_4
  rw [View.ld_unit_zero (S := S512x1024) hz2, View.ld_unit_zero (S := S1x2816x1024) hz3, View.ld_unit_zero (S := S512x2816) hz2, View.ld_unit_zero (S := S512x2816) hz2]
  refine View.canon_apply_of_pieces (Val := Elt Ideal) (S := S512x5632) (e := .bf16)
    (fun j => dgu (out m c) (pair m c) (weight m c) (t.val * 512 + (j 0).val) (j 1).val) _ (fun p hp => ?_) j (cover0_4 _ _ j)
  rcases List.mem_cons.mp hp with rfl | hp
  · intro y
    have h1 : (y 1).val < 2816 := (y 1).isLt
    have e0 : (r0_4.emb y 0).val = 0 + 1 * (y 0).val := rfl
    have e1 : (r0_4.emb y 1).val = 2816 + 1 * (y 1).val := rfl
    refine (right4 m c t y).trans ?_
    show _ = dgu (out m c) (pair m c) (weight m c) (t.val * 512 + (r0_4.emb y 0).val) (r0_4.emb y 1).val
    rw [dgu, if_neg (by omega), e0, e1, one_mul, one_mul, Nat.zero_add, Nat.add_sub_cancel_left]
  · rcases List.mem_cons.mp hp with rfl | hp
    · intro y
      have h1 : (y 1).val < 2816 := (y 1).isLt
      have e0 : (r0_3.emb y 0).val = 0 + 1 * (y 0).val := rfl
      have e1 : (r0_3.emb y 1).val = 0 + 1 * (y 1).val := rfl
      refine (left4 m c t y).trans ?_
      show _ = dgu (out m c) (pair m c) (weight m c) (t.val * 512 + (r0_3.emb y 0).val) (r0_3.emb y 1).val
      rw [dgu, if_pos (by omega), e0, e1, one_mul, one_mul, Nat.zero_add, Nat.zero_add]
    · cases hp

theorem block5 (t : Fin cfg0.N) (j : S512x2816.Idx) :
    out0_5 (iblk m c 0 t) (iblk m c 1 t) (iblk m c 2 t) (iblk m c 3 t) j = act (pair m c) (t.val * 512 + (j 0).val) (j 1).val := by
  unfold out0_5
  rw [View.ld_unit_zero (S := S512x2816) hz2, View.ld_unit_zero (S := S512x2816) hz2, View.canon_cons_unit_zero (S := S512x2816) hz2, pay7_apply, iblk1, iblk2, act]

theorem block6 (t : Fin cfg0.N) (j : S512x1024.Idx) :
    out0_6 (iblk m c 0 t) (iblk m c 1 t) (iblk m c 2 t) (iblk m c 3 t) j = entry (out m c) (t.val * 512 + (j 0).val) (j 1).val := by
  unfold out0_6
  rw [View.ld_unit_zero (S := S512x1024) hz2, View.canon_cons_unit_zero (S := S512x1024) hz2]
  exact iblk0 m c t j

/-! ## The arrays after the run -/

theorem emb4 (t : Fin cfg0.N) (j : S512x5632.Idx) : (((cfg0.win 4).blk t).view.emb j 0).val = t.val * 512 + (j 0).val ∧ (((cfg0.win 4).blk t).view.emb j 1).val = (j 1).val := by
  obtain ⟨h0, h1, -⟩ := outBlocks t
  have e0 : (((cfg0.win 4).blk t).view.emb j 0).val = win0_4.index t (0 : Fin 2) * 512 + 1 * (j 0).val := rfl
  have e1 : (((cfg0.win 4).blk t).view.emb j 1).val = win0_4.index t (1 : Fin 2) * 5632 + 1 * (j 1).val := rfl
  rw [e0, e1, h0, h1]; omega

theorem emb5 (t : Fin cfg0.N) (j : S512x2816.Idx) : (((cfg0.win 5).blk t).view.emb j 0).val = t.val * 512 + (j 0).val ∧ (((cfg0.win 5).blk t).view.emb j 1).val = (j 1).val := by
  obtain ⟨-, -, h0, h1, -⟩ := outBlocks t
  have e0 : (((cfg0.win 5).blk t).view.emb j 0).val = win0_5.index t (0 : Fin 2) * 512 + 1 * (j 0).val := rfl
  have e1 : (((cfg0.win 5).blk t).view.emb j 1).val = win0_5.index t (1 : Fin 2) * 2816 + 1 * (j 1).val := rfl
  rw [e0, e1, h0, h1]; omega

theorem emb6 (t : Fin cfg0.N) (j : S512x1024.Idx) : (((cfg0.win 6).blk t).view.emb j 0).val = t.val * 512 + (j 0).val ∧ (((cfg0.win 6).blk t).view.emb j 1).val = (j 1).val := by
  obtain ⟨-, -, -, -, h0, h1, -⟩ := outBlocks t
  have e0 : (((cfg0.win 6).blk t).view.emb j 0).val = win0_6.index t (0 : Fin 2) * 512 + 1 * (j 0).val := rfl
  have e1 : (((cfg0.win 6).blk t).view.emb j 1).val = win0_6.index t (1 : Fin 2) * 1024 + 1 * (j 1).val := rfl
  rw [e0, e1, h0, h1]; omega

/-- An index of 8192 rows lies in the block of its row. -/
def pointOf (i : Fin 8192) : Fin cfg0.N := ⟨i.val / 512, by have h := i.isLt; show i.val / 512 < 16; omega⟩

/-- The three arrays. -/
def arr4 : Vec Ideal S8192x5632 .bf16 := fun i => dgu (out m c) (pair m c) (weight m c) (i 0).val (i 1).val
def arr5 : Vec Ideal S8192x2816 .bf16 := fun i => act (pair m c) (i 0).val (i 1).val
def arr6 : Vec Ideal S8192x1024 .bf16 := fun i => entry (out m c) (i 0).val (i 1).val

theorem final4 : (dats m 0 c).arrAt 4 cfg0.N = arr4 m c := by
  refine (dats m 0 c).arrAt_eq_of_cover 4 (arr4 m c) (fun t _ => ?_) fun i => ?_
  · rw [Value.flushed4]
    funext j
    refine (block4 m c t j).trans ?_
    show _ = dgu (out m c) (pair m c) (weight m c) (((cfg0.win 4).blk t).view.emb j 0).val (((cfg0.win 4).blk t).view.emb j 1).val
    rw [(emb4 t j).1, (emb4 t j).2]
  · refine ⟨pointOf (i 0), (outBlocks _).2.2.2.2.2.2.1, ?_⟩
    have h := ((cfg0.win 4).blk (pointOf (i 0))).view.emb_mem_set (ix2 (⟨(i 0).val % 512, Nat.mod_lt _ (by decide)⟩ : Fin 512) (i 1) : S512x5632.Idx)
    refine (congrArg (· ∈ ((cfg0.win 4).blk (pointOf (i 0))).view.set) (funext fun a => Fin.ext ?_)).mp h
    match a with
    | ⟨0, _⟩ => exact (emb4 _ _).1.trans (Nat.div_add_mod' _ _)
    | ⟨1, _⟩ => exact (emb4 _ _).2

theorem final5 : (dats m 0 c).arrAt 5 cfg0.N = arr5 m c := by
  refine (dats m 0 c).arrAt_eq_of_cover 5 (arr5 m c) (fun t _ => ?_) fun i => ?_
  · rw [Value.flushed5]
    funext j
    refine (block5 m c t j).trans ?_
    show _ = act (pair m c) (((cfg0.win 5).blk t).view.emb j 0).val (((cfg0.win 5).blk t).view.emb j 1).val
    rw [(emb5 t j).1, (emb5 t j).2]
  · refine ⟨pointOf (i 0), (outBlocks _).2.2.2.2.2.2.2.1, ?_⟩
    have h := ((cfg0.win 5).blk (pointOf (i 0))).view.emb_mem_set (ix2 (⟨(i 0).val % 512, Nat.mod_lt _ (by decide)⟩ : Fin 512) (i 1) : S512x2816.Idx)
    refine (congrArg (· ∈ ((cfg0.win 5).blk (pointOf (i 0))).view.set) (funext fun a => Fin.ext ?_)).mp h
    match a with
    | ⟨0, _⟩ => exact (emb5 _ _).1.trans (Nat.div_add_mod' _ _)
    | ⟨1, _⟩ => exact (emb5 _ _).2

theorem final6 : (dats m 0 c).arrAt 6 cfg0.N = arr6 m c := by
  refine (dats m 0 c).arrAt_eq_of_cover 6 (arr6 m c) (fun t _ => ?_) fun i => ?_
  · rw [Value.flushed6]
    funext j
    refine (block6 m c t j).trans ?_
    show _ = entry (out m c) (((cfg0.win 6).blk t).view.emb j 0).val (((cfg0.win 6).blk t).view.emb j 1).val
    rw [(emb6 t j).1, (emb6 t j).2]
  · refine ⟨pointOf (i 0), (outBlocks _).2.2.2.2.2.2.2.2, ?_⟩
    have h := ((cfg0.win 6).blk (pointOf (i 0))).view.emb_mem_set (ix2 (⟨(i 0).val % 512, Nat.mod_lt _ (by decide)⟩ : Fin 512) (i 1) : S512x1024.Idx)
    refine (congrArg (· ∈ ((cfg0.win 6).blk (pointOf (i 0))).view.set) (funext fun a => Fin.ext ?_)).mp h
    match a with
    | ⟨0, _⟩ => exact (emb6 _ _).1.trans (Nat.div_add_mod' _ _)
    | ⟨1, _⟩ => exact (emb6 _ _).2

end Cert.KernelFfnIdeal.Hand

/-! ## The reference -/

namespace Cert.ReferenceFfnIdeal.Hand

open Idealize.ShloMosaic Cert.ReferenceFfnIdeal Cert.ReferenceFfnIdeal.Gen Cert.ReferenceFfnIdeal.Read Cert.Mat Cert.Gate Cert.Ffn
open Finset (range)

variable (x : (⟨2, ![8192, 1024]⟩ : Shape).Idx → EReal) (gu : (⟨2, ![8192, 5632]⟩ : Shape).Idx → EReal) (w : (⟨2, ![2816, 1024]⟩ : Shape).Idx → EReal)

theorem gate_at (i : S8192x2816.Idx) : val_main_v0 (F := Ideal) gu i = entry gu (i 0).val (i 1).val :=
  (val_main_v0_apply (F := Ideal) gu i).trans (entry_eq gu _ rfl rfl)

theorem up_at (i : S8192x2816.Idx) : val_main_v2 (F := Ideal) gu i = entry gu (i 0).val (2816 + (i 1).val) :=
  (val_main_v2_apply (F := Ideal) gu i).trans (entry_eq gu _ rfl rfl)

theorem sgm_at (i : S8192x2816.Idx) : val_main_v1_2 (F := Ideal) gu i = sgm (entry gu (i 0).val (i 1).val) := by
  rw [← gate_at, val_main_v1_2_apply, val_main_call0_v4_apply, val_main_call0_v3_apply, val_main_call0_v2_apply, val_main_call0_v1_apply, val_main_call0_v0_apply]
  rfl

theorem silu_at (i : S8192x2816.Idx) :
    val_main_v1_0 (F := Ideal) gu i = entry gu (i 0).val (i 1).val * sgm (entry gu (i 0).val (i 1).val) := by
  rw [val_main_v1_0_apply, gate_at, sgm_at]
  rfl

theorem slope_at (i : S8192x2816.Idx) :
    val_main_v1_1 (F := Ideal) gu i = sgm (entry gu (i 0).val (i 1).val) * (one - sgm (entry gu (i 0).val (i 1).val)) := by
  rw [val_main_v1_1_apply, val_main_call0_v7_apply, val_main_call0_v6_apply, sgm_at]
  rfl

theorem dact_at (i : S8192x2816.Idx) : val_main_v5 (F := Ideal) x w i = dact x w (i 0).val (i 1).val := by
  rw [val_main_v5_apply, dact, Finset.sum_range]
  exact Finset.sum_congr rfl fun k _ => congrArg₂ (· * ·) (entry_eq x _ rfl rfl) (entry_eq w _ rfl rfl)

theorem act_at (i : S8192x2816.Idx) : val_main_v13 (F := Ideal) gu i = act gu (i 0).val (i 1).val := by
  rw [val_main_v13_apply, val_main_v3_apply, silu_at, up_at]
  rfl

theorem dup_at (i : S8192x2816.Idx) : val_main_v6 (F := Ideal) x gu w i = dup x gu w (i 0).val (i 1).val := by
  rw [val_main_v6_apply, silu_at, dact_at]
  exact mul_comm _ _

/-- The other factor and the gradient of the hidden activation are real. -/
structure Finite : Prop where
  up (r q : ℕ) : ∃ u : ℝ, entry gu r (2816 + q) = (u : EReal)
  dact (r q : ℕ) : ∃ d : ℝ, dact x w r q = (d : EReal)

theorem dgate_at (h : Finite x gu w) (i : S8192x2816.Idx) : val_main_v9 (F := Ideal) x gu w i = dgate x gu w (i 0).val (i 1).val := by
  obtain ⟨u, hu⟩ := h.up (i 0).val (i 1).val
  obtain ⟨d, hd⟩ := h.dact (i 0).val (i 1).val
  rw [val_main_v9_apply, val_main_call1_v1_apply, val_main_call1_v2_apply, val_main_call1_v0_apply, val_main_v7_apply, gate_at, up_at, sgm_at, slope_at, dact_at,
    dgate, hu, hd, ← EReal.coe_mul, grad_eq]
  show ((d : EReal) * (u : EReal)) * _ + _ * ((d : EReal) * (u : EReal)) * _ = _
  rw [← EReal.coe_mul]

theorem pads_up (i : S8192x5632.Idx) : val_main_v8 (F := Ideal) x gu w i
    = if h : 2816 ≤ (i 1).val then dup x gu w (i 0).val ((i 1).val - 2816) else 0 := by
  have h1 : (i 1).val < 5632 := (i 1).isLt
  unfold val_main_v8
  by_cases h : 2816 ≤ (i 1).val
  · rw [dif_pos h]
    refine (pad_apply_of_inside _ _ _ _ _ _ _ i (ix2 (i 0) (⟨(i 1).val - 2816, by omega⟩ : Fin 2816)) fun a => ?_).trans (dup_at x gu w _)
    match a with
    | ⟨0, _⟩ => show (i 0).val = 0 + (i 0).val * 1; omega
    | ⟨1, _⟩ => show (i 1).val = 2816 + ((i 1).val - 2816) * 1; omega
  · rw [dif_neg h]
    refine (pad_apply_of_not_inside _ _ _ _ _ _ _ i 1 fun hin => h hin.1).trans ?_
    exact Ideal.ofBits_zero_f32

theorem pads_gate (H : Finite x gu w) (i : S8192x5632.Idx) : val_main_v10 (F := Ideal) x gu w i
    = if h : 2816 ≤ (i 1).val then 0 else dgate x gu w (i 0).val (i 1).val := by
  unfold val_main_v10
  by_cases h : 2816 ≤ (i 1).val
  · rw [dif_pos h]
    refine (pad_apply_of_not_inside _ _ _ _ _ _ _ i 1 fun hin => ?_).trans Ideal.ofBits_zero_f32
    have h2 : ((i 1).val - 0) / 1 < 2816 := hin.2.2
    omega
  · rw [dif_neg h]
    refine (pad_apply_of_inside _ _ _ _ _ _ _ i (ix2 (i 0) (⟨(i 1).val, by omega⟩ : Fin 2816)) fun a => ?_).trans (dgate_at x gu w H _)
    match a with
    | ⟨0, _⟩ => show (i 0).val = 0 + (i 0).val * 1; omega
    | ⟨1, _⟩ => show (i 1).val = 0 + (i 1).val * 1; omega

theorem dgu_at (H : Finite x gu w) (i : S8192x5632.Idx) : val_main_v12 (F := Ideal) x gu w i = dgu x gu w (i 0).val (i 1).val := by
  rw [val_main_v12_apply, val_main_v11_apply, pads_up, pads_gate x gu w H, dgu]
  by_cases h : 2816 ≤ (i 1).val
  · rw [dif_pos h, dif_pos h, if_neg (by omega)]
    exact add_zero _
  · rw [dif_neg h, dif_neg h, if_pos (by omega)]
    exact zero_add _

end Cert.ReferenceFfnIdeal.Hand

end
-- ==== Proof.Norm.lean ====
/- Hand-written, untrusted. Rows divided by their root mean square, and their product with a weight. -/
module

public import proofs.«01_k».proof.Proof.Accumulate

@[expose] public section

noncomputable section

namespace Cert.Norm

open Idealize.ShloMosaic Cert.Mat
open Finset (range)

variable (x : (⟨2, ![8192, 1024]⟩ : Shape).Idx → EReal) (g : (⟨1, ![1024]⟩ : Shape).Idx → EReal)

/-- The gain of a feature, and 0 past the last. -/
def gain (q : ℕ) : EReal := if h : q < 1024 then g (ix1 ⟨q, h⟩) else 0

theorem gain_eq (j : (⟨1, ![1024]⟩ : Shape).Idx) {q : ℕ} (h : (j 0).val = q) : g j = gain g q := by
  subst h
  rw [gain, dif_pos (show (j 0).val < 1024 from (j 0).isLt)]
  refine congrArg g (funext fun a => ?_)
  match a with
  | ⟨0, _⟩ => rfl

/-- What a row's elements are multiplied by, from the sum of their squares. -/
def scale (s : EReal) : EReal := Ideal.rsqrt (Ideal.div s (Ideal.ofBits .f32 0x44800000#32) + Ideal.ofBits .f32 0x358637BD#32)

/-- The normalised activations. -/
def normed (r q : ℕ) : EReal := entry x r q * scale (∑ k ∈ range 1024, entry x r k * entry x r k) * gain g q

/-- Their product with a weight. -/
def product {B : ℕ} (w : (⟨2, ![1024, B]⟩ : Shape).Idx → EReal) (r q : ℕ) : EReal := ∑ k ∈ range 1024, normed x g r k * entry w k q

/-- An index of 8192 rows is met by the block of 512 rows that its row lies in. -/
theorem mem_rows {B : ℕ} {s : Set (⟨2, ![8192, B]⟩ : Shape).Idx} (emb : (⟨2, ![512, B]⟩ : Shape).Idx → (⟨2, ![8192, B]⟩ : Shape).Idx) (hm : ∀ y, emb y ∈ s)
    (i : (⟨2, ![8192, B]⟩ : Shape).Idx) (h : ∀ y, (emb y 0).val = (i 0).val / 512 * 512 + (y 0).val ∧ (emb y 1).val = (y 1).val) : i ∈ s := by
  refine (congrArg (· ∈ s) (funext fun a => Fin.ext ?_)).mp (hm (ix2 (⟨(i 0).val % 512, Nat.mod_lt _ (by decide)⟩ : Fin 512) (i 1)))
  match a with
  | ⟨0, _⟩ => exact (h _).1.trans (Nat.div_add_mod' _ _)
  | ⟨1, _⟩ => exact (h _).2

end Cert.Norm

end
-- ==== Proof.UpValue.lean ====
/- Hand-written, untrusted. The norm and the SwiGLU's first product: the call's two arrays are the reference's. -/
module

public import proofs.«01_k».proof.Proof.Norm
public import proofs.«01_k».proof.Proof.Gen.KernelUpIdeal.Value
public import proofs.«01_k».proof.Proof.Gen.ReferenceUpIdeal.Read

@[expose] public section

set_option maxRecDepth 16384

noncomputable section

namespace Cert.KernelUpIdeal.Hand

open Idealize.ShloMosaic Idealize.ShloMosaic.TcCoe Idealize.ShloMosaic.Tactic Idealize.SL.Sem
open Cert.KernelUpIdeal Cert.KernelUpIdeal.Gen Cert.KernelUpIdeal.Value Cert.Mat Cert.Norm
open Finset (range)

theorem pay2_apply (x : Vec Ideal S512x1024 .f32) (g : Vec Ideal S1x1024 .f32) (a : Fin 512) (b : Fin 1024) :
    k0_pay2 x g (ix2 a b) = x (ix2 a b) * scale (∑ k : Fin 1024, x (ix2 a k) * x (ix2 a k)) * g (ix2 0 b) := by
  unfold scale
  pointwise [k0_pay2]

theorem pay3_apply (x : Vec Ideal S512x1024 .f32) (g : Vec Ideal S1x1024 .f32) (w : Vec Ideal S1x1024x1408 .bf16) (a : Fin 512) (b : Fin 1408) :
    k0_pay3 x g w (ix2 a b) = ∑ k : Fin 1024, k0_pay2 x g (ix2 a k) * w (ix3 0 k b) := by
  pointwise [k0_pay3]

theorem pair_of {A B : ℕ} (j : (⟨2, ![A, B]⟩ : Shape).Idx) : ∃ (a : Fin A) (b : Fin B), j = ix2 a b := ⟨j 0, j 1, funext fun d => by
  match d with
  | ⟨0, _⟩ => rfl
  | ⟨1, _⟩ => rfl⟩

/-- From a block of rows, beginning at row `o`, and the gains: the block of normed rows. -/
theorem normed_of {X : (⟨2, ![8192, 1024]⟩ : Shape).Idx → EReal} {G : (⟨1, ![1024]⟩ : Shape).Idx → EReal} {x : Vec Ideal S512x1024 .f32} {g : Vec Ideal S1x1024 .f32} {o : ℕ}
    (hx : ∀ j : S512x1024.Idx, x j = entry X (o + (j 0).val) (j 1).val) (hg : ∀ j : S1x1024.Idx, g j = gain G (j 1).val) (j : S512x1024.Idx) :
    k0_pay2 x g j = normed X G (o + (j 0).val) (j 1).val := by
  obtain ⟨a, b, rfl⟩ := pair_of j
  rw [pay2_apply, normed, Finset.sum_range, hx, hg]
  exact congrArg (fun s => _ * scale s * _) (Finset.sum_congr rfl fun k _ => congrArg₂ (· * ·) (hx _) (hx _))

variable (m : (ℓ : Loc nD τ sig) → Buf (Elt Ideal) ℓ) (c : Dev nD)

/-- The activations. -/
abbrev acts : (⟨2, ![8192, 1024]⟩ : Shape).Idx → EReal := (m ((c : Thread nD τ).loc main_arg0) : Vec Ideal S8192x1024 .f32)
/-- The norm's gains. -/
abbrev gains : (⟨1, ![1024]⟩ : Shape).Idx → EReal := (m ((c : Thread nD τ).loc main_arg1) : Vec Ideal S1024 .f32)
/-- The weight. -/
abbrev weight : (⟨2, ![1024, 5632]⟩ : Shape).Idx → EReal := (m ((c : Thread nD τ).loc main_arg2) : Vec Ideal S1024x5632 .f32)

theorem V_arg0 : (V m c main_arg0 : Vec Ideal S8192x1024 .f32) = acts m c := V_main_arg0 m c

theorem V_v0 : (V m c main_v0 : Vec Ideal S1x1024 .f32) = fun i => gain (gains m c) (i 1).val := by
  show (StableHlo.after hostOps0 (fun b => m (c, b)) (Proc.tc.devRef main_v0) : _) = _
  simp only [hostOps0]
  after_results
  funext i
  refine (broadcastInDim_apply _ bcast_S1024_S1x1024_1 _ i (ix1 (i 1)) fun a => ?_).trans (gain_eq (gains m c) _ rfl)
  match a with
  | ⟨0, _⟩ => rfl

theorem V_v2 : (V m c main_v2 : Vec Ideal S1x1024x5632 .bf16) = fun i => entry (weight m c) (i 1).val (i 2).val := by
  show (StableHlo.after hostOps0 (fun b => m (c, b)) (Proc.tc.devRef main_v2) : _) = _
  simp only [hostOps0]
  after_results
  funext i
  refine (broadcastInDim_apply _ bcast_S1024x5632_S1x1024x5632_1_2 _ i (ix2 (i 1) (i 2)) fun a => ?_).trans (entry_eq (weight m c) _ rfl rfl)
  match a with
  | ⟨0, _⟩ => rfl
  | ⟨1, _⟩ => rfl

theorem blocks : ∀ t : Fin cfg0.N, win0_0.index t (0 : Fin 2) = t.val ∧ win0_0.index t (1 : Fin 2) = 0
    ∧ win0_1.index t (1 : Fin 2) = 0 ∧ win0_2.index t (1 : Fin 3) = 0 ∧ win0_2.index t (2 : Fin 3) = 0
    ∧ win0_3.index t (0 : Fin 2) = t.val ∧ win0_3.index t (1 : Fin 2) = 0 ∧ win0_4.index t (0 : Fin 2) = t.val ∧ win0_4.index t (1 : Fin 2) = 0
    ∧ (cfg0.win 3).flush t = true ∧ (cfg0.win 4).flush t = true :=
  (by decide +kernel : ∀ t : Fin grid0.N, _)

theorem iblk0 (t : Fin cfg0.N) (j : S512x1024.Idx) :
    (iblk m c 0 t : Vec Ideal S512x1024 .f32) j = entry (acts m c) (t.val * 512 + (j 0).val) (j 1).val := by
  rw [show (iblk m c 0 t : Vec Ideal S512x1024 .f32) j = (V m c main_arg0 : Vec Ideal S8192x1024 .f32) (((cfg0.win 0).blk t).view.emb j) from
    show (((cfg0.win 0).blk t).view.read (Elt Ideal) (V m c main_arg0 : Vec Ideal S8192x1024 .f32) : Vec Ideal S512x1024 .f32) j = _ from rfl, V_arg0]
  obtain ⟨h0, h1, -⟩ := blocks t
  have e0 : (((cfg0.win 0).blk t).view.emb j 0).val = win0_0.index t (0 : Fin 2) * 512 + 1 * (j 0).val := rfl
  have e1 : (((cfg0.win 0).blk t).view.emb j 1).val = win0_0.index t (1 : Fin 2) * 1024 + 1 * (j 1).val := rfl
  exact entry_eq (acts m c) _ (by rw [e0, h0, one_mul]) (by rw [e1, h1, one_mul, Nat.zero_mul, Nat.zero_add])

theorem iblk1 (t : Fin cfg0.N) (j : S1x1024.Idx) : (iblk m c 1 t : Vec Ideal S1x1024 .f32) j = gain (gains m c) (j 1).val := by
  rw [show (iblk m c 1 t : Vec Ideal S1x1024 .f32) j = (V m c main_v0 : Vec Ideal S1x1024 .f32) (((cfg0.win 1).blk t).view.emb j) from
    show (((cfg0.win 1).blk t).view.read (Elt Ideal) (V m c main_v0 : Vec Ideal S1x1024 .f32) : Vec Ideal S1x1024 .f32) j = _ from rfl, V_v0]
  obtain ⟨-, -, h1, -⟩ := blocks t
  have e1 : (((cfg0.win 1).blk t).view.emb j 1).val = win0_1.index t (1 : Fin 2) * 1024 + 1 * (j 1).val := rfl
  show gain (gains m c) (((cfg0.win 1).blk t).view.emb j 1).val = _
  rw [e1, h1, one_mul, Nat.zero_mul, Nat.zero_add]

theorem iblk2 (t : Fin cfg0.N) (j : S1x1024x5632.Idx) :
    (iblk m c 2 t : Vec Ideal S1x1024x5632 .bf16) j = entry (weight m c) (j 1).val (j 2).val := by
  rw [show (iblk m c 2 t : Vec Ideal S1x1024x5632 .bf16) j = (V m c main_v2 : Vec Ideal S1x1024x5632 .bf16) (((cfg0.win 2).blk t).view.emb j) from
    show (((cfg0.win 2).blk t).view.read (Elt Ideal) (V m c main_v2 : Vec Ideal S1x1024x5632 .bf16) : Vec Ideal S1x1024x5632 .bf16) j = _ from rfl, V_v2]
  obtain ⟨-, -, -, h1, h2, -⟩ := blocks t
  have e1 : (((cfg0.win 2).blk t).view.emb j 1).val = win0_2.index t (1 : Fin 3) * 1024 + 1 * (j 1).val := rfl
  have e2 : (((cfg0.win 2).blk t).view.emb j 2).val = win0_2.index t (2 : Fin 3) * 5632 + 1 * (j 2).val := rfl
  show entry (weight m c) (((cfg0.win 2).blk t).view.emb j 1).val (((cfg0.win 2).blk t).view.emb j 2).val = _
  simp only [e1, e2, h1, h2, one_mul, Nat.zero_mul, Nat.zero_add]

/-! ## What a point leaves -/

theorem hz2 : (![0, 0] : Fin 2 → ℕ) = fun _ => 0 := funext fun a => by fin_cases a <;> rfl

theorem normed_at (t : Fin cfg0.N) (j : S512x1024.Idx) :
    k0_pay2 (iblk m c 0 t : Vec Ideal S512x1024 .f32) (iblk m c 1 t) j = normed (acts m c) (gains m c) (t.val * 512 + (j 0).val) (j 1).val :=
  normed_of (iblk0 m c t) (iblk1 m c t) j

/-- A quarter of the columns, from the columns of the weight that begin at `o`. -/
theorem piece (t : Fin cfg0.N) (w : Vec Ideal S1x1024x1408 .bf16) (o : ℕ) (hw : ∀ y : S1x1024x1408.Idx, w y = entry (weight m c) (y 1).val (o + (y 2).val)) (y : S512x1408.Idx) :
    k0_pay3 (iblk m c 0 t : Vec Ideal S512x1024 .f32) (iblk m c 1 t) w y
      = product (acts m c) (gains m c) (weight m c) (t.val * 512 + (y 0).val) (o + (y 1).val) := by
  obtain ⟨a, b, rfl⟩ := pair_of y
  rw [pay3_apply, product, Finset.sum_range]
  exact Finset.sum_congr rfl fun k _ => congrArg₂ (· * ·) (normed_at m c t _) (hw _)

/-- The columns of the weight that a load takes. -/
theorem cols (t : Fin cfg0.N) (o : ℕ) (h : ∀ a : Fin 3, (![0, 0, o] : Fin 3 → ℕ) a + S1x1024x1408.size a ≤ S1x1024x5632.size a) (y : S1x1024x1408.Idx) :
    View.ld (iblk m c 2 t : Vec Ideal S1x1024x5632 .bf16) (Rect.unit (s := S1x1024x5632) ![0, 0, o] S1x1024x1408.size h) y = entry (weight m c) (y 1).val (o + (y 2).val) := by
  refine (iblk2 m c t _).trans ?_
  show entry (weight m c) (0 + 1 * (y 1).val) (o + 1 * (y 2).val) = _
  rw [one_mul, one_mul, Nat.zero_add]

/-- A point's block of the product. -/
theorem block3 (t : Fin cfg0.N) (j : S512x5632.Idx) :
    out0_3 (iblk m c 0 t) (iblk m c 1 t) (iblk m c 2 t) j = product (acts m c) (gains m c) (weight m c) (t.val * 512 + (j 0).val) (j 1).val := by
  unfold out0_3
  rw [View.ld_unit_zero (S := S512x1024) hz2, View.ld_unit_zero (S := S1x1024) hz2]
  refine View.canon_apply_of_pieces (Val := Elt Ideal) (S := S512x5632) (e := .bf16)
    (fun j => product (acts m c) (gains m c) (weight m c) (t.val * 512 + (j 0).val) (j 1).val) _ (fun p hp => ?_) j (cover0_3 _ _ _ _ j)
  have put (o a b : ℕ) : product (acts m c) (gains m c) (weight m c) (t.val * 512 + a) (o + b)
      = product (acts m c) (gains m c) (weight m c) (t.val * 512 + (0 + 1 * a)) (o + 1 * b) := by rw [one_mul, one_mul, Nat.zero_add]
  simp only [List.mem_cons, List.not_mem_nil, or_false] at hp
  rcases hp with rfl | rfl | rfl | rfl
  · exact fun y => (piece m c t _ 4224 (cols m c t 4224 _) y).trans (put _ _ _)
  · exact fun y => (piece m c t _ 2816 (cols m c t 2816 _) y).trans (put _ _ _)
  · exact fun y => (piece m c t _ 1408 (cols m c t 1408 _) y).trans (put _ _ _)
  · exact fun y => (piece m c t _ 0 (cols m c t 0 _) y).trans (put _ _ _)

theorem block4 (t : Fin cfg0.N) (j : S512x1024.Idx) :
    out0_4 (iblk m c 0 t) (iblk m c 1 t) (iblk m c 2 t) j = normed (acts m c) (gains m c) (t.val * 512 + (j 0).val) (j 1).val := by
  unfold out0_4
  rw [View.ld_unit_zero (S := S512x1024) hz2, View.ld_unit_zero (S := S1x1024) hz2, View.canon_cons_unit_zero (S := S512x1024) hz2]
  exact normed_at m c t j

/-! ## The arrays after the run -/

theorem emb3 (t : Fin cfg0.N) (j : S512x5632.Idx) : (((cfg0.win 3).blk t).view.emb j 0).val = t.val * 512 + (j 0).val ∧ (((cfg0.win 3).blk t).view.emb j 1).val = (j 1).val := by
  obtain ⟨-, -, -, -, -, h0, h1, -⟩ := blocks t
  have e0 : (((cfg0.win 3).blk t).view.emb j 0).val = win0_3.index t (0 : Fin 2) * 512 + 1 * (j 0).val := rfl
  have e1 : (((cfg0.win 3).blk t).view.emb j 1).val = win0_3.index t (1 : Fin 2) * 5632 + 1 * (j 1).val := rfl
  rw [e0, e1, h0, h1]; omega

theorem emb4 (t : Fin cfg0.N) (j : S512x1024.Idx) : (((cfg0.win 4).blk t).view.emb j 0).val = t.val * 512 + (j 0).val ∧ (((cfg0.win 4).blk t).view.emb j 1).val = (j 1).val := by
  obtain ⟨-, -, -, -, -, -, -, h0, h1, -⟩ := blocks t
  have e0 : (((cfg0.win 4).blk t).view.emb j 0).val = win0_4.index t (0 : Fin 2) * 512 + 1 * (j 0).val := rfl
  have e1 : (((cfg0.win 4).blk t).view.emb j 1).val = win0_4.index t (1 : Fin 2) * 1024 + 1 * (j 1).val := rfl
  rw [e0, e1, h0, h1]; omega

/-- An index of 8192 rows lies in the block of its row. -/
def pointOf (i : Fin 8192) : Fin cfg0.N := ⟨i.val / 512, by have h := i.isLt; show i.val / 512 < 16; omega⟩

/-- The two arrays. -/
def arr3 : Vec Ideal S8192x5632 .bf16 := fun i => product (acts m c) (gains m c) (weight m c) (i 0).val (i 1).val
def arr4 : Vec Ideal S8192x1024 .bf16 := fun i => normed (acts m c) (gains m c) (i 0).val (i 1).val

theorem final3 : (dats m 0 c).arrAt 3 cfg0.N = arr3 m c := by
  refine (dats m 0 c).arrAt_eq_of_cover 3 (arr3 m c) (fun t _ => ?_) fun i => ?_
  · rw [Value.flushed3]
    funext j
    refine (block3 m c t j).trans ?_
    show _ = product (acts m c) (gains m c) (weight m c) (((cfg0.win 3).blk t).view.emb j 0).val (((cfg0.win 3).blk t).view.emb j 1).val
    rw [(emb3 t j).1, (emb3 t j).2]
  · exact ⟨pointOf (i 0), (blocks _).2.2.2.2.2.2.2.2.2.1, mem_rows _ ((cfg0.win 3).blk (pointOf (i 0))).view.emb_mem_set i fun y => emb3 _ y⟩

theorem final4 : (dats m 0 c).arrAt 4 cfg0.N = arr4 m c := by
  refine (dats m 0 c).arrAt_eq_of_cover 4 (arr4 m c) (fun t _ => ?_) fun i => ?_
  · rw [Value.flushed4]
    funext j
    refine (block4 m c t j).trans ?_
    show _ = normed (acts m c) (gains m c) (((cfg0.win 4).blk t).view.emb j 0).val (((cfg0.win 4).blk t).view.emb j 1).val
    rw [(emb4 t j).1, (emb4 t j).2]
  · exact ⟨pointOf (i 0), (blocks _).2.2.2.2.2.2.2.2.2.2, mem_rows _ ((cfg0.win 4).blk (pointOf (i 0))).view.emb_mem_set i fun y => emb4 _ y⟩

end Cert.KernelUpIdeal.Hand

/-! ## The reference -/

namespace Cert.ReferenceUpIdeal.Hand

open Idealize.ShloMosaic Cert.ReferenceUpIdeal Cert.ReferenceUpIdeal.Gen Cert.ReferenceUpIdeal.Read Cert.Mat Cert.Norm
open Finset (range)

variable (x : (⟨2, ![8192, 1024]⟩ : Shape).Idx → EReal) (g : (⟨1, ![1024]⟩ : Shape).Idx → EReal) (w : (⟨2, ![1024, 5632]⟩ : Shape).Idx → EReal)

theorem squares_at (i : S8192.Idx) : val_main_v1 (F := Ideal) x i = ∑ k ∈ range 1024, entry x (i 0).val k * entry x (i 0).val k := by
  rw [val_main_v1_apply, val_main_cst_apply, Finset.sum_range]
  refine (congrArg (· + _) Ideal.ofBits_zero_f32).trans ((zero_add _).trans (Finset.sum_congr rfl fun k _ => ?_))
  exact congrArg₂ (· * ·) (entry_eq x _ rfl rfl) (entry_eq x _ rfl rfl)

theorem scale_at (i : S8192x1024.Idx) : val_main_v8 (F := Ideal) x i = scale (∑ k ∈ range 1024, entry x (i 0).val k * entry x (i 0).val k) := by
  rw [val_main_v8_apply, val_main_v7_apply, val_main_v6_apply, val_main_v4_apply, val_main_v2_apply, squares_at, val_main_v3_apply, val_main_v5_apply]
  rfl

theorem normed_at (i : S8192x1024.Idx) : val_main_v12 (F := Ideal) x g i = normed x g (i 0).val (i 1).val := by
  rw [val_main_v12_apply, val_main_v9_apply, scale_at, val_main_v11_apply, val_main_v10_apply, normed, entry_eq x i rfl rfl]
  exact congrArg (_ * ·) (gain_eq g _ rfl)

theorem product_at (i : S8192x5632.Idx) : val_main_v14 (F := Ideal) x g w i = product x g w (i 0).val (i 1).val := by
  rw [val_main_v14_apply, val_main_v13_apply, product, Finset.sum_range]
  exact Finset.sum_congr rfl fun k _ => congrArg₂ (· * ·) (normed_at x g _) (entry_eq w _ rfl rfl)

theorem rows_at (i : S8192x1024.Idx) : val_main_v15 (F := Ideal) x g i = normed x g (i 0).val (i 1).val :=
  (val_main_v15_apply (F := Ideal) x g i).trans (normed_at x g i)

end Cert.ReferenceUpIdeal.Hand

end
-- ==== Proof.InValue.lean ====
/- Hand-written, untrusted. The norm and the layer's first product: the call's two arrays are the reference's. -/
module

public import proofs.«01_k».proof.Proof.UpValue
public import proofs.«01_k».proof.Proof.Gen.KernelInIdeal.Value
public import proofs.«01_k».proof.Proof.Gen.ReferenceInIdeal.Read

@[expose] public section

set_option maxRecDepth 16384

noncomputable section

namespace Cert.KernelInIdeal.Hand

open Idealize.ShloMosaic Idealize.ShloMosaic.TcCoe Idealize.ShloMosaic.Tactic Idealize.SL.Sem
open Cert.KernelInIdeal Cert.KernelInIdeal.Gen Cert.KernelInIdeal.Value Cert.Mat Cert.Norm
open Finset (range)

theorem pay3_apply (x : Vec Ideal S512x1024 .f32) (g : Vec Ideal S1x1024 .f32) (w : Vec Ideal S1x1024x1792 .bf16) (a : Fin 512) (b : Fin 1792) :
    k0_pay3 x g w (ix2 a b) = ∑ k : Fin 1024, k0_pay2 x g (ix2 a k) * w (ix3 0 k b) := by
  pointwise [k0_pay3]

variable (m : (ℓ : Loc nD τ sig) → Buf (Elt Ideal) ℓ) (c : Dev nD)

/-- The activations. -/
abbrev acts : (⟨2, ![8192, 1024]⟩ : Shape).Idx → EReal := (m ((c : Thread nD τ).loc main_arg0) : Vec Ideal S8192x1024 .f32)
/-- The norm's gains. -/
abbrev gains : (⟨1, ![1024]⟩ : Shape).Idx → EReal := (m ((c : Thread nD τ).loc main_arg1) : Vec Ideal S1024 .f32)
/-- The weight. -/
abbrev weight : (⟨2, ![1024, 7168]⟩ : Shape).Idx → EReal := (m ((c : Thread nD τ).loc main_arg2) : Vec Ideal S1024x7168 .f32)

theorem V_arg0 : (V m c main_arg0 : Vec Ideal S8192x1024 .f32) = acts m c := V_main_arg0 m c

theorem V_v0 : (V m c main_v0 : Vec Ideal S1x1024 .f32) = fun i => gain (gains m c) (i 1).val := by
  show (StableHlo.after hostOps0 (fun b => m (c, b)) (Proc.tc.devRef main_v0) : _) = _
  simp only [hostOps0]
  after_results
  funext i
  refine (broadcastInDim_apply _ bcast_S1024_S1x1024_1 _ i (ix1 (i 1)) fun a => ?_).trans (gain_eq (gains m c) _ rfl)
  match a with
  | ⟨0, _⟩ => rfl

theorem V_v2 : (V m c main_v2 : Vec Ideal S1x1024x7168 .bf16) = fun i => entry (weight m c) (i 1).val (i 2).val := by
  show (StableHlo.after hostOps0 (fun b => m (c, b)) (Proc.tc.devRef main_v2) : _) = _
  simp only [hostOps0]
  after_results
  funext i
  refine (broadcastInDim_apply _ bcast_S1024x7168_S1x1024x7168_1_2 _ i (ix2 (i 1) (i 2)) fun a => ?_).trans (entry_eq (weight m c) _ rfl rfl)
  match a with
  | ⟨0, _⟩ => rfl
  | ⟨1, _⟩ => rfl

theorem blocks : ∀ t : Fin cfg0.N, win0_0.index t (0 : Fin 2) = t.val ∧ win0_0.index t (1 : Fin 2) = 0
    ∧ win0_1.index t (1 : Fin 2) = 0 ∧ win0_2.index t (1 : Fin 3) = 0 ∧ win0_2.index t (2 : Fin 3) = 0
    ∧ win0_3.index t (0 : Fin 2) = t.val ∧ win0_3.index t (1 : Fin 2) = 0 ∧ win0_4.index t (0 : Fin 2) = t.val ∧ win0_4.index t (1 : Fin 2) = 0
    ∧ (cfg0.win 3).flush t = true ∧ (cfg0.win 4).flush t = true :=
  (by decide +kernel : ∀ t : Fin grid0.N, _)

theorem iblk0 (t : Fin cfg0.N) (j : S512x1024.Idx) :
    (iblk m c 0 t : Vec Ideal S512x1024 .f32) j = entry (acts m c) (t.val * 512 + (j 0).val) (j 1).val := by
  rw [show (iblk m c 0 t : Vec Ideal S512x1024 .f32) j = (V m c main_arg0 : Vec Ideal S8192x1024 .f32) (((cfg0.win 0).blk t).view.emb j) from
    show (((cfg0.win 0).blk t).view.read (Elt Ideal) (V m c main_arg0 : Vec Ideal S8192x1024 .f32) : Vec Ideal S512x1024 .f32) j = _ from rfl, V_arg0]
  obtain ⟨h0, h1, -⟩ := blocks t
  have e0 : (((cfg0.win 0).blk t).view.emb j 0).val = win0_0.index t (0 : Fin 2) * 512 + 1 * (j 0).val := rfl
  have e1 : (((cfg0.win 0).blk t).view.emb j 1).val = win0_0.index t (1 : Fin 2) * 1024 + 1 * (j 1).val := rfl
  exact entry_eq (acts m c) _ (by rw [e0, h0, one_mul]) (by rw [e1, h1, one_mul, Nat.zero_mul, Nat.zero_add])

theorem iblk1 (t : Fin cfg0.N) (j : S1x1024.Idx) : (iblk m c 1 t : Vec Ideal S1x1024 .f32) j = gain (gains m c) (j 1).val := by
  rw [show (iblk m c 1 t : Vec Ideal S1x1024 .f32) j = (V m c main_v0 : Vec Ideal S1x1024 .f32) (((cfg0.win 1).blk t).view.emb j) from
    show (((cfg0.win 1).blk t).view.read (Elt Ideal) (V m c main_v0 : Vec Ideal S1x1024 .f32) : Vec Ideal S1x1024 .f32) j = _ from rfl, V_v0]
  obtain ⟨-, -, h1, -⟩ := blocks t
  have e1 : (((cfg0.win 1).blk t).view.emb j 1).val = win0_1.index t (1 : Fin 2) * 1024 + 1 * (j 1).val := rfl
  show gain (gains m c) (((cfg0.win 1).blk t).view.emb j 1).val = _
  rw [e1, h1, one_mul, Nat.zero_mul, Nat.zero_add]

theorem iblk2 (t : Fin cfg0.N) (j : S1x1024x7168.Idx) :
    (iblk m c 2 t : Vec Ideal S1x1024x7168 .bf16) j = entry (weight m c) (j 1).val (j 2).val := by
  rw [show (iblk m c 2 t : Vec Ideal S1x1024x7168 .bf16) j = (V m c main_v2 : Vec Ideal S1x1024x7168 .bf16) (((cfg0.win 2).blk t).view.emb j) from
    show (((cfg0.win 2).blk t).view.read (Elt Ideal) (V m c main_v2 : Vec Ideal S1x1024x7168 .bf16) : Vec Ideal S1x1024x7168 .bf16) j = _ from rfl, V_v2]
  obtain ⟨-, -, -, h1, h2, -⟩ := blocks t
  have e1 : (((cfg0.win 2).blk t).view.emb j 1).val = win0_2.index t (1 : Fin 3) * 1024 + 1 * (j 1).val := rfl
  have e2 : (((cfg0.win 2).blk t).view.emb j 2).val = win0_2.index t (2 : Fin 3) * 7168 + 1 * (j 2).val := rfl
  show entry (weight m c) (((cfg0.win 2).blk t).view.emb j 1).val (((cfg0.win 2).blk t).view.emb j 2).val = _
  simp only [e1, e2, h1, h2, one_mul, Nat.zero_mul, Nat.zero_add]

/-! ## What a point leaves -/

theorem normed_at (t : Fin cfg0.N) (j : S512x1024.Idx) :
    k0_pay2 (iblk m c 0 t : Vec Ideal S512x1024 .f32) (iblk m c 1 t) j = normed (acts m c) (gains m c) (t.val * 512 + (j 0).val) (j 1).val :=
  Cert.KernelUpIdeal.Hand.normed_of (iblk0 m c t) (iblk1 m c t) j

/-- A quarter of the columns, from the columns of the weight that begin at `o`. -/
theorem piece (t : Fin cfg0.N) (w : Vec Ideal S1x1024x1792 .bf16) (o : ℕ) (hw : ∀ y : S1x1024x1792.Idx, w y = entry (weight m c) (y 1).val (o + (y 2).val)) (y : S512x1792.Idx) :
    k0_pay3 (iblk m c 0 t : Vec Ideal S512x1024 .f32) (iblk m c 1 t) w y
      = product (acts m c) (gains m c) (weight m c) (t.val * 512 + (y 0).val) (o + (y 1).val) := by
  obtain ⟨a, b, rfl⟩ := Cert.KernelUpIdeal.Hand.pair_of y
  rw [pay3_apply, product, Finset.sum_range]
  exact Finset.sum_congr rfl fun k _ => congrArg₂ (· * ·) (normed_at m c t _) (hw _)

/-- The columns of the weight that a load takes. -/
theorem cols (t : Fin cfg0.N) (o : ℕ) (h : ∀ a : Fin 3, (![0, 0, o] : Fin 3 → ℕ) a + S1x1024x1792.size a ≤ S1x1024x7168.size a) (y : S1x1024x1792.Idx) :
    View.ld (iblk m c 2 t : Vec Ideal S1x1024x7168 .bf16) (Rect.unit (s := S1x1024x7168) ![0, 0, o] S1x1024x1792.size h) y = entry (weight m c) (y 1).val (o + (y 2).val) := by
  refine (iblk2 m c t _).trans ?_
  show entry (weight m c) (0 + 1 * (y 1).val) (o + 1 * (y 2).val) = _
  rw [one_mul, one_mul, Nat.zero_add]

/-- A point's block of the product. -/
theorem block3 (t : Fin cfg0.N) (j : S512x7168.Idx) :
    out0_3 (iblk m c 0 t) (iblk m c 1 t) (iblk m c 2 t) j = product (acts m c) (gains m c) (weight m c) (t.val * 512 + (j 0).val) (j 1).val := by
  unfold out0_3
  rw [View.ld_unit_zero (S := S512x1024) Cert.KernelUpIdeal.Hand.hz2, View.ld_unit_zero (S := S1x1024) Cert.KernelUpIdeal.Hand.hz2]
  refine View.canon_apply_of_pieces (Val := Elt Ideal) (S := S512x7168) (e := .bf16)
    (fun j => product (acts m c) (gains m c) (weight m c) (t.val * 512 + (j 0).val) (j 1).val) _ (fun p hp => ?_) j (cover0_3 _ _ _ _ j)
  have put (o a b : ℕ) : product (acts m c) (gains m c) (weight m c) (t.val * 512 + a) (o + b)
      = product (acts m c) (gains m c) (weight m c) (t.val * 512 + (0 + 1 * a)) (o + 1 * b) := by rw [one_mul, one_mul, Nat.zero_add]
  simp only [List.mem_cons, List.not_mem_nil, or_false] at hp
  rcases hp with rfl | rfl | rfl | rfl
  · exact fun y => (piece m c t _ 5376 (cols m c t 5376 _) y).trans (put _ _ _)
  · exact fun y => (piece m c t _ 3584 (cols m c t 3584 _) y).trans (put _ _ _)
  · exact fun y => (piece m c t _ 1792 (cols m c t 1792 _) y).trans (put _ _ _)
  · exact fun y => (piece m c t _ 0 (cols m c t 0 _) y).trans (put _ _ _)

theorem block4 (t : Fin cfg0.N) (j : S512x1024.Idx) :
    out0_4 (iblk m c 0 t) (iblk m c 1 t) (iblk m c 2 t) j = normed (acts m c) (gains m c) (t.val * 512 + (j 0).val) (j 1).val := by
  unfold out0_4
  rw [View.ld_unit_zero (S := S512x1024) Cert.KernelUpIdeal.Hand.hz2, View.ld_unit_zero (S := S1x1024) Cert.KernelUpIdeal.Hand.hz2, View.canon_cons_unit_zero (S := S512x1024) Cert.KernelUpIdeal.Hand.hz2]
  exact normed_at m c t j

/-! ## The arrays after the run -/

theorem emb3 (t : Fin cfg0.N) (j : S512x7168.Idx) : (((cfg0.win 3).blk t).view.emb j 0).val = t.val * 512 + (j 0).val ∧ (((cfg0.win 3).blk t).view.emb j 1).val = (j 1).val := by
  obtain ⟨-, -, -, -, -, h0, h1, -⟩ := blocks t
  have e0 : (((cfg0.win 3).blk t).view.emb j 0).val = win0_3.index t (0 : Fin 2) * 512 + 1 * (j 0).val := rfl
  have e1 : (((cfg0.win 3).blk t).view.emb j 1).val = win0_3.index t (1 : Fin 2) * 7168 + 1 * (j 1).val := rfl
  rw [e0, e1, h0, h1]; omega

theorem emb4 (t : Fin cfg0.N) (j : S512x1024.Idx) : (((cfg0.win 4).blk t).view.emb j 0).val = t.val * 512 + (j 0).val ∧ (((cfg0.win 4).blk t).view.emb j 1).val = (j 1).val := by
  obtain ⟨-, -, -, -, -, -, -, h0, h1, -⟩ := blocks t
  have e0 : (((cfg0.win 4).blk t).view.emb j 0).val = win0_4.index t (0 : Fin 2) * 512 + 1 * (j 0).val := rfl
  have e1 : (((cfg0.win 4).blk t).view.emb j 1).val = win0_4.index t (1 : Fin 2) * 1024 + 1 * (j 1).val := rfl
  rw [e0, e1, h0, h1]; omega

/-- An index of 8192 rows lies in the block of its row. -/
def pointOf (i : Fin 8192) : Fin cfg0.N := ⟨i.val / 512, by have h := i.isLt; show i.val / 512 < 16; omega⟩

/-- The two arrays. -/
def arr3 : Vec Ideal S8192x7168 .bf16 := fun i => product (acts m c) (gains m c) (weight m c) (i 0).val (i 1).val
def arr4 : Vec Ideal S8192x1024 .bf16 := fun i => normed (acts m c) (gains m c) (i 0).val (i 1).val

theorem final3 : (dats m 0 c).arrAt 3 cfg0.N = arr3 m c := by
  refine (dats m 0 c).arrAt_eq_of_cover 3 (arr3 m c) (fun t _ => ?_) fun i => ?_
  · rw [Value.flushed3]
    funext j
    refine (block3 m c t j).trans ?_
    show _ = product (acts m c) (gains m c) (weight m c) (((cfg0.win 3).blk t).view.emb j 0).val (((cfg0.win 3).blk t).view.emb j 1).val
    rw [(emb3 t j).1, (emb3 t j).2]
  · exact ⟨pointOf (i 0), (blocks _).2.2.2.2.2.2.2.2.2.1, mem_rows _ ((cfg0.win 3).blk (pointOf (i 0))).view.emb_mem_set i fun y => emb3 _ y⟩

theorem final4 : (dats m 0 c).arrAt 4 cfg0.N = arr4 m c := by
  refine (dats m 0 c).arrAt_eq_of_cover 4 (arr4 m c) (fun t _ => ?_) fun i => ?_
  · rw [Value.flushed4]
    funext j
    refine (block4 m c t j).trans ?_
    show _ = normed (acts m c) (gains m c) (((cfg0.win 4).blk t).view.emb j 0).val (((cfg0.win 4).blk t).view.emb j 1).val
    rw [(emb4 t j).1, (emb4 t j).2]
  · exact ⟨pointOf (i 0), (blocks _).2.2.2.2.2.2.2.2.2.2, mem_rows _ ((cfg0.win 4).blk (pointOf (i 0))).view.emb_mem_set i fun y => emb4 _ y⟩

end Cert.KernelInIdeal.Hand

/-! ## The reference -/

namespace Cert.ReferenceInIdeal.Hand

open Idealize.ShloMosaic Cert.ReferenceInIdeal Cert.ReferenceInIdeal.Gen Cert.ReferenceInIdeal.Read Cert.Mat Cert.Norm
open Finset (range)

variable (x : (⟨2, ![8192, 1024]⟩ : Shape).Idx → EReal) (g : (⟨1, ![1024]⟩ : Shape).Idx → EReal) (w : (⟨2, ![1024, 7168]⟩ : Shape).Idx → EReal)

/-- The norm is the same lines. -/
theorem normed_at (i : S8192x1024.Idx) : val_main_v12 (F := Ideal) x g i = normed x g (i 0).val (i 1).val :=
  Cert.ReferenceUpIdeal.Hand.normed_at x g i

theorem product_at (i : S8192x7168.Idx) : val_main_v14 (F := Ideal) x g w i = product x g w (i 0).val (i 1).val := by
  rw [val_main_v14_apply, val_main_v13_apply, product, Finset.sum_range]
  exact Finset.sum_congr rfl fun k _ => congrArg₂ (· * ·) (normed_at x g _) (entry_eq w _ rfl rfl)

theorem rows_at (i : S8192x1024.Idx) : val_main_v15 (F := Ideal) x g i = normed x g (i 0).val (i 1).val :=
  (val_main_v15_apply (F := Ideal) x g i).trans (normed_at x g i)

end Cert.ReferenceInIdeal.Hand

end
-- ==== Proof.FwdValue.lean ====
/- Hand-written, untrusted. The SwiGLU's second product: the call's array is the reference's. -/
module

public import proofs.«01_k».proof.Proof.FfnValue
public import proofs.«01_k».proof.Proof.Norm
public import proofs.«01_k».proof.Proof.Gen.KernelFwdIdeal.Value
public import proofs.«01_k».proof.Proof.Gen.ReferenceFwdIdeal.Read

@[expose] public section

set_option maxRecDepth 16384

noncomputable section

namespace Cert.Ffn

open Idealize.ShloMosaic Cert.Mat
open Finset (range)

/-- The residual row plus the hidden activation's product with the second weight. -/
def joined (gu : (⟨2, ![8192, 5632]⟩ : Shape).Idx → EReal) (w : (⟨2, ![2816, 1024]⟩ : Shape).Idx → EReal) (x : (⟨2, ![8192, 1024]⟩ : Shape).Idx → EReal)
    (r q : ℕ) : EReal := entry x r q + ∑ k ∈ range 2816, act gu r k * entry w k q

end Cert.Ffn

/-! ## The call -/

namespace Cert.KernelFwdIdeal.Hand

open Idealize.ShloMosaic Idealize.ShloMosaic.TcCoe Idealize.ShloMosaic.Tactic Idealize.SL.Sem
open Cert.KernelFwdIdeal Cert.KernelFwdIdeal.Gen Cert.KernelFwdIdeal.Value Cert.Mat Cert.Gate Cert.Ffn Cert.Norm
open Finset (range)

theorem pay1_apply (g u : Vec Ideal S512x2816 .bf16) (x : Vec Ideal S512x1024 .f32) (w : Vec Ideal S1x2816x1024 .bf16) (a : Fin 512) (b : Fin 1024) :
    k0_pay1 g u x w (ix2 a b) = x (ix2 a b) + ∑ k : Fin 2816, g (ix2 a k) * sgm (g (ix2 a k)) * u (ix2 a k) * w (ix3 0 k b) := by
  simp only [sgm, ← zero_sub, ← Ideal.ofBits_zero_f32]
  pointwise [k0_pay1]

variable (m : (ℓ : Loc nD τ sig) → Buf (Elt Ideal) ℓ) (c : Dev nD)

/-- The gate's argument and the other factor, side by side. -/
abbrev pair : (⟨2, ![8192, 5632]⟩ : Shape).Idx → EReal := (m ((c : Thread nD τ).loc main_arg0) : Vec Ideal S8192x5632 .f32)
/-- The second weight. -/
abbrev weight : (⟨2, ![2816, 1024]⟩ : Shape).Idx → EReal := (m ((c : Thread nD τ).loc main_arg1) : Vec Ideal S2816x1024 .f32)
/-- The residual stream. -/
abbrev stream : (⟨2, ![8192, 1024]⟩ : Shape).Idx → EReal := (m ((c : Thread nD τ).loc main_arg2) : Vec Ideal S8192x1024 .f32)

theorem V_arg2 : (V m c main_arg2 : Vec Ideal S8192x1024 .f32) = stream m c := V_main_arg2 m c

theorem V_v0 : (V m c main_v0 : Vec Ideal S8192x5632 .bf16) = pair m c := by
  show (StableHlo.after hostOps0 (fun b => m (c, b)) (Proc.tc.devRef main_v0) : _) = _
  simp only [hostOps0]
  after_results
  rfl

theorem V_v2 : (V m c main_v2 : Vec Ideal S1x2816x1024 .bf16) = fun i => entry (weight m c) (i 1).val (i 2).val := by
  show (StableHlo.after hostOps0 (fun b => m (c, b)) (Proc.tc.devRef main_v2) : _) = _
  simp only [hostOps0]
  after_results
  funext i
  refine (broadcastInDim_apply _ bcast_S2816x1024_S1x2816x1024_1_2 _ i (ix2 (i 1) (i 2)) fun a => ?_).trans (entry_eq (weight m c) _ rfl rfl)
  match a with
  | ⟨0, _⟩ => rfl
  | ⟨1, _⟩ => rfl

theorem blocks : ∀ t : Fin cfg0.N, win0_0.index t (0 : Fin 2) = t.val ∧ win0_0.index t (1 : Fin 2) = 0
    ∧ win0_1.index t (0 : Fin 2) = t.val ∧ win0_1.index t (1 : Fin 2) = 1
    ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 ∧ (cfg0.win 4).flush t = true :=
  (by decide +kernel : ∀ t : Fin grid0.N, _)

theorem iblk0 (t : Fin cfg0.N) (j : S512x2816.Idx) :
    (iblk m c 0 t : Vec Ideal S512x2816 .bf16) j = entry (pair m c) (t.val * 512 + (j 0).val) (j 1).val := by
  rw [show (iblk m c 0 t : Vec Ideal S512x2816 .bf16) j = (V m c main_v0 : Vec Ideal S8192x5632 .bf16) (((cfg0.win 0).blk t).view.emb j) from
    show (((cfg0.win 0).blk t).view.read (Elt Ideal) (V m c main_v0 : Vec Ideal S8192x5632 .bf16) : Vec Ideal S512x2816 .bf16) j = _ from rfl, V_v0]
  obtain ⟨h0, h1, -⟩ := blocks t
  have e0 : (((cfg0.win 0).blk t).view.emb j 0).val = win0_0.index t (0 : Fin 2) * 512 + 1 * (j 0).val := rfl
  have e1 : (((cfg0.win 0).blk t).view.emb j 1).val = win0_0.index t (1 : Fin 2) * 2816 + 1 * (j 1).val := rfl
  exact entry_eq (pair m c) _ (by rw [e0, h0, one_mul]) (by rw [e1, h1, one_mul, Nat.zero_mul, Nat.zero_add])

theorem iblk1 (t : Fin cfg0.N) (j : S512x2816.Idx) :
    (iblk m c 1 t : Vec Ideal S512x2816 .bf16) j = entry (pair m c) (t.val * 512 + (j 0).val) (2816 + (j 1).val) := by
  rw [show (iblk m c 1 t : Vec Ideal S512x2816 .bf16) j = (V m c main_v0 : Vec Ideal S8192x5632 .bf16) (((cfg0.win 1).blk t).view.emb j) from
    show (((cfg0.win 1).blk t).view.read (Elt Ideal) (V m c main_v0 : Vec Ideal S8192x5632 .bf16) : Vec Ideal S512x2816 .bf16) j = _ from rfl, V_v0]
  obtain ⟨-, -, h0, h1, -⟩ := blocks t
  have e0 : (((cfg0.win 1).blk t).view.emb j 0).val = win0_1.index t (0 : Fin 2) * 512 + 1 * (j 0).val := rfl
  have e1 : (((cfg0.win 1).blk t).view.emb j 1).val = win0_1.index t (1 : Fin 2) * 2816 + 1 * (j 1).val := rfl
  exact entry_eq (pair m c) _ (by rw [e0, h0, one_mul]) (by rw [e1, h1, one_mul, one_mul])

theorem iblk2 (t : Fin cfg0.N) (j : S1x2816x1024.Idx) :
    (iblk m c 2 t : Vec Ideal S1x2816x1024 .bf16) j = entry (weight m c) (j 1).val (j 2).val := by
  rw [show (iblk m c 2 t : Vec Ideal S1x2816x1024 .bf16) j = (V m c main_v2 : Vec Ideal S1x2816x1024 .bf16) (((cfg0.win 2).blk t).view.emb j) from
    show (((cfg0.win 2).blk t).view.read (Elt Ideal) (V m c main_v2 : Vec Ideal S1x2816x1024 .bf16) : Vec Ideal S1x2816x1024 .bf16) j = _ from rfl, V_v2]
  obtain ⟨-, -, -, -, h1, h2, -⟩ := blocks t
  have e1 : (((cfg0.win 2).blk t).view.emb j 1).val = win0_2.index t (1 : Fin 3) * 2816 + 1 * (j 1).val := rfl
  have e2 : (((cfg0.win 2).blk t).view.emb j 2).val = win0_2.index t (2 : Fin 3) * 1024 + 1 * (j 2).val := rfl
  show entry (weight m c) (((cfg0.win 2).blk t).view.emb j 1).val (((cfg0.win 2).blk t).view.emb j 2).val = _
  simp only [e1, e2, h1, h2, one_mul, Nat.zero_mul, Nat.zero_add]

theorem iblk3 (t : Fin cfg0.N) (j : S512x1024.Idx) :
    (iblk m c 3 t : Vec Ideal S512x1024 .f32) j = entry (stream m c) (t.val * 512 + (j 0).val) (j 1).val := by
  rw [show (iblk m c 3 t : Vec Ideal S512x1024 .f32) j = (V m c main_arg2 : Vec Ideal S8192x1024 .f32) (((cfg0.win 3).blk t).view.emb j) from
    show (((cfg0.win 3).blk t).view.read (Elt Ideal) (V m c main_arg2 : Vec Ideal S8192x1024 .f32) : Vec Ideal S512x1024 .f32) j = _ from rfl, V_arg2]
  obtain ⟨-, -, -, -, -, -, h0, h1, -⟩ := blocks t
  have e0 : (((cfg0.win 3).blk t).view.emb j 0).val = win0_3.index t (0 : Fin 2) * 512 + 1 * (j 0).val := rfl
  have e1 : (((cfg0.win 3).blk t).view.emb j 1).val = win0_3.index t (1 : Fin 2) * 1024 + 1 * (j 1).val := rfl
  exact entry_eq (stream m c) _ (by rw [e0, h0, one_mul]) (by rw [e1, h1, one_mul, Nat.zero_mul, Nat.zero_add])

/-- What a point leaves. -/
theorem block4 (t : Fin cfg0.N) (j : S512x1024.Idx) :
    out0_4 (iblk m c 0 t) (iblk m c 1 t) (iblk m c 2 t) (iblk m c 3 t) j = joined (pair m c) (weight m c) (stream m c) (t.val * 512 + (j 0).val) (j 1).val := by
  unfold out0_4
  rw [View.ld_unit_zero (S := S512x2816) Cert.KernelFfnIdeal.Hand.hz2, View.ld_unit_zero (S := S512x2816) Cert.KernelFfnIdeal.Hand.hz2,
    View.ld_unit_zero (S := S512x1024) Cert.KernelFfnIdeal.Hand.hz2, View.ld_unit_zero (S := S1x2816x1024) Cert.KernelFfnIdeal.Hand.hz3,
    View.canon_cons_unit_zero (S := S512x1024) Cert.KernelFfnIdeal.Hand.hz2]
  obtain ⟨a, b, rfl⟩ : ∃ (a : Fin 512) (b : Fin 1024), j = ix2 a b := ⟨j 0, j 1, funext fun d => by
    match d with
    | ⟨0, _⟩ => rfl
    | ⟨1, _⟩ => rfl⟩
  rw [pay1_apply, joined, Finset.sum_range, iblk3]
  refine congrArg (_ + ·) (Finset.sum_congr rfl fun k _ => ?_)
  rw [iblk0, iblk1, iblk2]
  rfl

theorem emb4 (t : Fin cfg0.N) (j : S512x1024.Idx) : (((cfg0.win 4).blk t).view.emb j 0).val = t.val * 512 + (j 0).val ∧ (((cfg0.win 4).blk t).view.emb j 1).val = (j 1).val := by
  obtain ⟨-, -, -, -, -, -, -, -, h0, h1, -⟩ := blocks t
  have e0 : (((cfg0.win 4).blk t).view.emb j 0).val = win0_4.index t (0 : Fin 2) * 512 + 1 * (j 0).val := rfl
  have e1 : (((cfg0.win 4).blk t).view.emb j 1).val = win0_4.index t (1 : Fin 2) * 1024 + 1 * (j 1).val := rfl
  rw [e0, e1, h0, h1]; omega

/-- An index of 8192 rows lies in the block of its row. -/
def pointOf (i : Fin 8192) : Fin cfg0.N := ⟨i.val / 512, by have h := i.isLt; show i.val / 512 < 16; omega⟩

/-- The array after the run. -/
def arr4 : Vec Ideal S8192x1024 .f32 := fun i => joined (pair m c) (weight m c) (stream m c) (i 0).val (i 1).val

theorem final4 : (dats m 0 c).arrAt 4 cfg0.N = arr4 m c := by
  refine (dats m 0 c).arrAt_eq_of_cover 4 (arr4 m c) (fun t _ => ?_) fun i => ?_
  · rw [Value.flushed4]
    funext j
    refine (block4 m c t j).trans ?_
    show _ = joined (pair m c) (weight m c) (stream m c) (((cfg0.win 4).blk t).view.emb j 0).val (((cfg0.win 4).blk t).view.emb j 1).val
    rw [(emb4 t j).1, (emb4 t j).2]
  · exact ⟨pointOf (i 0), (blocks _).2.2.2.2.2.2.2.2.2.2, mem_rows _ ((cfg0.win 4).blk (pointOf (i 0))).view.emb_mem_set i fun y => emb4 _ y⟩

end Cert.KernelFwdIdeal.Hand

/-! ## The reference -/

namespace Cert.ReferenceFwdIdeal.Hand

open Idealize.ShloMosaic Cert.ReferenceFwdIdeal Cert.ReferenceFwdIdeal.Gen Cert.ReferenceFwdIdeal.Read Cert.Mat Cert.Gate Cert.Ffn
open Finset (range)

variable (gu : (⟨2, ![8192, 5632]⟩ : Shape).Idx → EReal) (w : (⟨2, ![2816, 1024]⟩ : Shape).Idx → EReal) (x : (⟨2, ![8192, 1024]⟩ : Shape).Idx → EReal)

theorem gate_at (i : S8192x2816.Idx) : val_main_v0 (F := Ideal) gu i = entry gu (i 0).val (i 1).val :=
  (val_main_v0_apply (F := Ideal) gu i).trans (entry_eq gu _ rfl rfl)

theorem up_at (i : S8192x2816.Idx) : val_main_v2 (F := Ideal) gu i = entry gu (i 0).val (2816 + (i 1).val) :=
  (val_main_v2_apply (F := Ideal) gu i).trans (entry_eq gu _ rfl rfl)

theorem act_at (i : S8192x2816.Idx) : val_main_v3 (F := Ideal) gu i = act gu (i 0).val (i 1).val := by
  rw [val_main_v3_apply, val_main_v1_apply, val_main_call0_v5_apply, val_main_call0_v4_apply, val_main_call0_v3_apply, val_main_call0_v2_apply, val_main_call0_v1_apply,
    val_main_call0_v0_apply, gate_at, up_at]
  rfl

theorem joined_at (i : S8192x1024.Idx) : val_main_v5 (F := Ideal) gu w x i = joined gu w x (i 0).val (i 1).val := by
  rw [val_main_v5_apply, val_main_v4_apply, joined, Finset.sum_range]
  exact congrArg₂ (· + ·) (entry_eq x i rfl rfl) (Finset.sum_congr rfl fun k _ => congrArg₂ (· * ·) (act_at gu _) (entry_eq w _ rfl rfl))

end Cert.ReferenceFwdIdeal.Hand

end
-- ==== Proof.lean ====
/- The proof of the certificate's claim: hand-written, untrusted. -/
module

public import proofs.«01_k».proof.Defs
public import proofs.«01_k».proof.Proof.FrameBits
public import proofs.«01_k».proof.Proof.FrameIdeal
public import proofs.«01_k».proof.Proof.Algebraic
public import proofs.«01_k».proof.Proof.Gen.ReferenceIdeal.Run
public import proofs.«01_k».proof.Proof.Gen.ReferenceIdeal.Read
public import proofs.«01_k».proof.Proof.DwValue
public import proofs.«01_k».proof.Proof.DownValue
public import proofs.«01_k».proof.Proof.FfnValue
public import proofs.«01_k».proof.Proof.Gen.KernelDw.Frame
public import proofs.«01_k».proof.Proof.Gen.KernelDown.Frame
public import proofs.«01_k».proof.Proof.Gen.ReferenceDwIdeal.Run
public import proofs.«01_k».proof.Proof.Gen.ReferenceDownIdeal.Run
public import proofs.«01_k».proof.Proof.Gen.ReferenceFfnIdeal.Run
public import proofs.«01_k».proof.Proof.Gen.KernelFfn.Frame
public import proofs.«01_k».proof.Proof.UpValue
public import proofs.«01_k».proof.Proof.InValue
public import proofs.«01_k».proof.Proof.FwdValue
public import proofs.«01_k».proof.Proof.Gen.KernelUpIdeal.Value
public import proofs.«01_k».proof.Proof.Gen.KernelUp.Frame
public import proofs.«01_k».proof.Proof.Gen.ReferenceUpIdeal.Run
public import proofs.«01_k».proof.Proof.Gen.ReferenceUpIdeal.Read
public import proofs.«01_k».proof.Proof.Gen.KernelInIdeal.Value
public import proofs.«01_k».proof.Proof.Gen.KernelIn.Frame
public import proofs.«01_k».proof.Proof.Gen.ReferenceInIdeal.Run
public import proofs.«01_k».proof.Proof.Gen.ReferenceInIdeal.Read
public import proofs.«01_k».proof.Proof.Gen.KernelFwdIdeal.Value
public import proofs.«01_k».proof.Proof.Gen.KernelFwd.Frame
public import proofs.«01_k».proof.Proof.Gen.ReferenceFwdIdeal.Run
public import proofs.«01_k».proof.Proof.Gen.ReferenceFwdIdeal.Read
public import Idealize.ShloMosaic.Lib.Quiescent

@[expose] public section

noncomputable section

namespace Cert.Proof

open Idealize.ShloMosaic Idealize.SL.Sem
open Cert.Mat
open Cert.KernelIdeal.Hand (dqArr dkArr dvArr)
open Cert.KernelFfnIdeal.Hand (out arr4 arr5 arr6 final4 final5 final6)

/-- The one side condition of the precondition's operations. -/
instance facts : Cert.Pre_finite.Facts := ⟨by decide⟩

/-- And those of the other precondition's. -/
instance facts_ffn : Cert.Pre_finite_ffn.Facts := ⟨by decide, by decide, by decide, by decide⟩

/-- The compiled program ends, keeps its arguments and raises no counter. -/
theorem frame_kernel : Cert.quiescent_Kernel := fun m ρ _ => Cert.Kernel.Hand.frame_any m ρ

/-- So does the idealized one. -/
theorem frame_ideal : Cert.quiescent_KernelIdeal := fun m ρ _ => Cert.KernelIdeal.Hand.frame_any m ρ

/-- And so does the reference, which declares no counter. -/
theorem frame_reference : Cert.quiescent_ReferenceIdeal := fun m ρ _ =>
  (θ_run Cert.ReferenceIdeal.defs _ _).mono
    (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run m ρ)

/-- The one constant that the idealized program names is minus infinity. -/
theorem preserves : Cert.preserves_Kernel_KernelIdeal :=
  IdealRules.named_const.statement Cert.KernelIdeal.κ "no_weight" .f32 0xC2B00000#32 ⊥ rfl

/-- From equal finite arguments both programs leave the same three gradients. -/
theorem algebraic : Cert.algebraic_KernelIdeal_ReferenceIdeal_pre_finite (hPre_finite := facts) := fun m ρ m' ρ' hpre heq => by
  let H (c : Dev Cert.KernelIdeal.nD) : Fin 8 → Cert.Attn.Head := Cert.Attn.heads
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
  refine ⟨fun c => dqArr (H c), fun c => dkArr (H c), fun c => dvArr (H c), ?_, ?_⟩
  · exact Cert.KernelIdeal.Hand.run_value m ρ H fun c => Cert.Attn.argIn (hpre c)
  · refine Cert.ReferenceIdeal.Hand.run_value m' ρ' H fun c => ?_
    obtain ⟨h0, h1, h2, h3⟩ := heq c
    rw [h0, h1, h2, h3]
    exact Cert.Attn.argIn (hpre c)

/-! ## The gradient of the SwiGLU's first weight -/

theorem frame_kernel_dw : Cert.quiescent_KernelDw := fun m ρ _ => Cert.KernelDw.Gen.frame m ρ

theorem frame_ideal_dw : Cert.quiescent_KernelDwIdeal := fun m ρ _ => Cert.KernelDwIdeal.Gen.frame m ρ

theorem frame_reference_dw : Cert.quiescent_ReferenceDwIdeal := fun m ρ _ =>
  (θ_run Cert.ReferenceDwIdeal.defs _ _).mono (fun r h => ⟨fun c => (h c).2, sem_eq_zero_of_no_sems (by decide) r.2⟩)
    (Cert.ReferenceDwIdeal.Value.run m ρ)

/-- From equal arguments both programs leave the same gradient. -/
theorem algebraic_dw : Cert.algebraic_KernelDwIdeal_ReferenceDwIdeal := fun m ρ m' ρ' _ heq =>
  ⟨fun c => Cert.KernelDwIdeal.Value.G2 m c, Cert.KernelDwIdeal.Value.run m ρ,
    (θ_run Cert.ReferenceDwIdeal.defs _ _).mono (fun _ h c => ⟨(h c).1.trans (by
        rw [(heq c).1, (heq c).2]
        exact (Cert.ReferenceDwIdeal.Read.val_main_v4_eq _ _).trans (funext fun i => Cert.KernelDwIdeal.Hand.same m c i)), (h c).2⟩)
      (Cert.ReferenceDwIdeal.Value.run m' ρ')⟩

/-! ## The gradient of its second weight -/

theorem frame_kernel_down : Cert.quiescent_KernelDown := fun m ρ _ => Cert.KernelDown.Gen.frame m ρ

theorem frame_ideal_down : Cert.quiescent_KernelDownIdeal := fun m ρ _ => Cert.KernelDownIdeal.Gen.frame m ρ

theorem frame_reference_down : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run m ρ)

/-- From equal arguments both programs leave the same gradient. -/
theorem algebraic_down : Cert.algebraic_KernelDownIdeal_ReferenceDownIdeal := fun m ρ m' ρ' _ heq =>
  ⟨fun c => Cert.KernelDownIdeal.Value.G2 m c, Cert.KernelDownIdeal.Value.run m ρ,
    (θ_run Cert.ReferenceDownIdeal.defs _ _).mono (fun _ h c => ⟨(h c).1.trans (by
        rw [(heq c).1, (heq c).2]
        exact (Cert.ReferenceDownIdeal.Read.val_main_v4_eq _ _).trans (funext fun i => Cert.KernelDownIdeal.Hand.same m c i)), (h c).2⟩)
      (Cert.ReferenceDownIdeal.Value.run m' ρ')⟩

/-! ## The SwiGLU's backward call -/

theorem frame_kernel_ffn : Cert.quiescent_KernelFfn := fun m ρ _ => Cert.KernelFfn.Gen.frame m ρ

theorem frame_ideal_ffn : Cert.quiescent_KernelFfnIdeal := fun m ρ _ => Cert.KernelFfnIdeal.Gen.frame m ρ

theorem frame_reference_ffn : Cert.quiescent_ReferenceFfnIdeal := fun m ρ _ =>
  (θ_run Cert.ReferenceFfnIdeal.defs _ _).mono (fun r h => ⟨fun c => (h c).2.2.2, sem_eq_zero_of_no_sems (by decide) r.2⟩)
    (Cert.ReferenceFfnIdeal.Value.run m ρ)

/-- What the precondition says of the numbers. -/
theorem finite_of {x : FVec Ideal Cert.Pre_finite_ffn.S8192x1024 .f32} {gu : FVec Ideal Cert.Pre_finite_ffn.S8192x5632 .f32}
    {w : FVec Ideal Cert.Pre_finite_ffn.S2816x1024 .f32}
    (h : (Cert.Pre_finite_ffn.fn (F := Ideal) x gu w).1 = (fun _ => 1#1) ∧ (Cert.Pre_finite_ffn.fn (F := Ideal) x gu w).2.1 = (fun _ => 1#1)
      ∧ (Cert.Pre_finite_ffn.fn (F := Ideal) x gu w).2.2 = fun _ => 1#1) : Cert.ReferenceFfnIdeal.Hand.Finite x gu w where
  up r q := by
    by_cases hb : r < 8192 ∧ q < 2816
    · have e := Cert.Attn.real_of_lt (congrFun h.2.1 (ix2 (⟨r, hb.1⟩ : Fin 8192) (⟨q, hb.2⟩ : Fin 2816)))
      exact ⟨_, (entry_eq gu _ (Nat.zero_add _) rfl).symm.trans e⟩
    · exact ⟨0, by rw [entry, dif_neg (by omega)]; rfl⟩
  dact r q := by
    have real {A B : ℕ} (y : (⟨2, ![A, B]⟩ : Shape).Idx → EReal) (hy : ∀ i, y i = ((y i).toReal : EReal)) (r q : ℕ) :
        entry y r q = (((entry y r q).toReal : ℝ) : EReal) := by
      by_cases hb : r < A ∧ q < B
      · rw [entry, dif_pos hb]; exact hy _
      · rw [entry, dif_neg hb]; rfl
    refine ⟨_, (Finset.sum_congr rfl fun k _ => ?_).trans (Cert.Attn.coe_sum_mul (Finset.range 1024) (fun k => (entry x r k).toReal) (fun k => (entry w q k).toReal))⟩
    rw [← real x (fun i => Cert.Attn.real_of_lt (congrFun h.1 i)), ← real w (fun i => Cert.Attn.real_of_lt (congrFun h.2.2 i))]

/-- From equal arguments, of which the ones named in the precondition are finite, both programs leave the same three arrays. -/
theorem algebraic_ffn : Cert.algebraic_KernelFfnIdeal_ReferenceFfnIdeal_pre_finite_ffn (hPre_finite_ffn := facts_ffn) := fun m ρ m' ρ' hpre heq =>
  ⟨fun c => arr4 m c, fun c => arr5 m c, fun c => arr6 m c,
    (θ_run Cert.KernelFfnIdeal.defs _ _).mono (fun _ h c => ⟨(h c).1.trans (final4 m c), (h c).2.1.trans (final5 m c), (h c).2.2.1.trans (final6 m c), (h c).2.2.2⟩)
      (Cert.KernelFfnIdeal.Value.run_blocks m ρ),
    (θ_run Cert.ReferenceFfnIdeal.defs _ _).mono (fun _ h c => ⟨(h c).1.trans (by
        rw [(heq c).1, (heq c).2.1, (heq c).2.2]
        exact (Cert.ReferenceFfnIdeal.Read.val_main_v12_eq _ _ _).trans (funext fun i => Cert.ReferenceFfnIdeal.Hand.dgu_at _ _ _ (finite_of (hpre c)) i)),
      (h c).2.1.trans (by
        rw [(heq c).2.1]
        exact (Cert.ReferenceFfnIdeal.Read.val_main_v13_eq _).trans (funext fun i => Cert.ReferenceFfnIdeal.Hand.act_at _ i)),
      (h c).2.2.1.trans (by
        rw [(heq c).1]
        exact funext fun i => entry_eq (out m c) i rfl rfl), (h c).2.2.2⟩)
      (Cert.ReferenceFfnIdeal.Value.run m' ρ')⟩

/-! ## The norm and the SwiGLU's first product -/

theorem frame_kernel_up : Cert.quiescent_KernelUp := fun m ρ _ => Cert.KernelUp.Gen.frame m ρ

theorem frame_ideal_up : Cert.quiescent_KernelUpIdeal := fun m ρ _ => Cert.KernelUpIdeal.Gen.frame m ρ

theorem frame_reference_up : Cert.quiescent_ReferenceUpIdeal := fun m ρ _ =>
  (θ_run Cert.ReferenceUpIdeal.defs _ _).mono (fun r h => ⟨fun c => (h c).2.2, sem_eq_zero_of_no_sems (by decide) r.2⟩)
    (Cert.ReferenceUpIdeal.Value.run m ρ)

/-- From equal arguments both programs leave the same two arrays. -/
theorem algebraic_up : Cert.algebraic_KernelUpIdeal_ReferenceUpIdeal := fun m ρ m' ρ' _ heq =>
  ⟨fun c => Cert.KernelUpIdeal.Hand.arr3 m c, fun c => Cert.KernelUpIdeal.Hand.arr4 m c,
    (θ_run Cert.KernelUpIdeal.defs _ _).mono (fun _ h c => ⟨(h c).1.trans (Cert.KernelUpIdeal.Hand.final3 m c), (h c).2.1.trans (Cert.KernelUpIdeal.Hand.final4 m c), (h c).2.2⟩)
      (Cert.KernelUpIdeal.Value.run_blocks m ρ),
    (θ_run Cert.ReferenceUpIdeal.defs _ _).mono (fun _ h c => ⟨(h c).1.trans (by
        rw [(heq c).1, (heq c).2.1, (heq c).2.2]
        exact (Cert.ReferenceUpIdeal.Read.val_main_v14_eq _ _ _).trans (funext fun i => Cert.ReferenceUpIdeal.Hand.product_at _ _ _ i)),
      (h c).2.1.trans (by
        rw [(heq c).1, (heq c).2.1]
        exact (Cert.ReferenceUpIdeal.Read.val_main_v15_eq _ _).trans (funext fun i => Cert.ReferenceUpIdeal.Hand.rows_at _ _ i)), (h c).2.2⟩)
      (Cert.ReferenceUpIdeal.Value.run m' ρ')⟩

/-! ## The norm and the layer's first product -/

theorem frame_kernel_in : Cert.quiescent_KernelIn := fun m ρ _ => Cert.KernelIn.Gen.frame m ρ

theorem frame_ideal_in : Cert.quiescent_KernelInIdeal := fun m ρ _ => Cert.KernelInIdeal.Gen.frame m ρ

theorem frame_reference_in : Cert.quiescent_ReferenceInIdeal := fun m ρ _ =>
  (θ_run Cert.ReferenceInIdeal.defs _ _).mono (fun r h => ⟨fun c => (h c).2.2, sem_eq_zero_of_no_sems (by decide) r.2⟩)
    (Cert.ReferenceInIdeal.Value.run m ρ)

/-- From equal arguments both programs leave the same two arrays. -/
theorem algebraic_in : Cert.algebraic_KernelInIdeal_ReferenceInIdeal := fun m ρ m' ρ' _ heq =>
  ⟨fun c => Cert.KernelInIdeal.Hand.arr3 m c, fun c => Cert.KernelInIdeal.Hand.arr4 m c,
    (θ_run Cert.KernelInIdeal.defs _ _).mono (fun _ h c => ⟨(h c).1.trans (Cert.KernelInIdeal.Hand.final3 m c), (h c).2.1.trans (Cert.KernelInIdeal.Hand.final4 m c), (h c).2.2⟩)
      (Cert.KernelInIdeal.Value.run_blocks m ρ),
    (θ_run Cert.ReferenceInIdeal.defs _ _).mono (fun _ h c => ⟨(h c).1.trans (by
        rw [(heq c).1, (heq c).2.1, (heq c).2.2]
        exact (Cert.ReferenceInIdeal.Read.val_main_v14_eq _ _ _).trans (funext fun i => Cert.ReferenceInIdeal.Hand.product_at _ _ _ i)),
      (h c).2.1.trans (by
        rw [(heq c).1, (heq c).2.1]
        exact (Cert.ReferenceInIdeal.Read.val_main_v15_eq _ _).trans (funext fun i => Cert.ReferenceInIdeal.Hand.rows_at _ _ i)), (h c).2.2⟩)
      (Cert.ReferenceInIdeal.Value.run m' ρ')⟩

/-! ## The SwiGLU's second product -/

theorem frame_kernel_fwd : Cert.quiescent_KernelFwd := fun m ρ _ => Cert.KernelFwd.Gen.frame m ρ

theorem frame_ideal_fwd : Cert.quiescent_KernelFwdIdeal := fun m ρ _ => Cert.KernelFwdIdeal.Gen.frame m ρ

theorem frame_reference_fwd : Cert.quiescent_ReferenceFwdIdeal := fun m ρ _ =>
  (θ_run Cert.ReferenceFwdIdeal.defs _ _).mono (fun r h => ⟨fun c => (h c).2, sem_eq_zero_of_no_sems (by decide) r.2⟩)
    (Cert.ReferenceFwdIdeal.Value.run m ρ)

/-- From equal arguments both programs leave the same array. -/
theorem algebraic_fwd : Cert.algebraic_KernelFwdIdeal_ReferenceFwdIdeal := fun m ρ m' ρ' _ heq =>
  ⟨fun c => Cert.KernelFwdIdeal.Hand.arr4 m c,
    (θ_run Cert.KernelFwdIdeal.defs _ _).mono (fun _ h c => ⟨(h c).1.trans (Cert.KernelFwdIdeal.Hand.final4 m c), (h c).2⟩)
      (Cert.KernelFwdIdeal.Value.run_blocks m ρ),
    (θ_run Cert.ReferenceFwdIdeal.defs _ _).mono (fun _ h c => ⟨(h c).1.trans (by
        rw [(heq c).1, (heq c).2.1, (heq c).2.2]
        exact (Cert.ReferenceFwdIdeal.Read.val_main_v5_eq _ _ _).trans (funext fun i => Cert.ReferenceFwdIdeal.Hand.joined_at _ _ _ i)), (h c).2⟩)
      (Cert.ReferenceFwdIdeal.Value.run m' ρ')⟩

theorem claim : Cert.Claim :=
  ⟨Cert.Kernel.Gen.facts, Cert.KernelIdeal.Gen.facts, Cert.ReferenceIdeal.Gen.facts,
    Cert.KernelDw.Gen.facts, Cert.KernelDwIdeal.Gen.facts, Cert.ReferenceDwIdeal.Gen.facts,
    Cert.KernelDown.Gen.facts, Cert.KernelDownIdeal.Gen.facts, Cert.ReferenceDownIdeal.Gen.facts,
    Cert.KernelFfn.Gen.facts, Cert.KernelFfnIdeal.Gen.facts, Cert.ReferenceFfnIdeal.Gen.facts,
    Cert.KernelUp.Gen.facts, Cert.KernelUpIdeal.Gen.facts, Cert.ReferenceUpIdeal.Gen.facts,
    Cert.KernelIn.Gen.facts, Cert.KernelInIdeal.Gen.facts, Cert.ReferenceInIdeal.Gen.facts,
    Cert.KernelFwd.Gen.facts, Cert.KernelFwdIdeal.Gen.facts, Cert.ReferenceFwdIdeal.Gen.facts, facts, facts_ffn,
    frame_kernel, frame_ideal, fun m ρ _ => frame_ideal m ρ trivial, frame_reference, fun m ρ _ => frame_reference m ρ trivial,
    frame_kernel_dw, frame_ideal_dw, frame_reference_dw, frame_kernel_down, frame_ideal_down, frame_reference_down,
    frame_kernel_ffn, frame_ideal_ffn, fun m ρ _ => frame_ideal_ffn m ρ trivial, frame_reference_ffn, fun m ρ _ => frame_reference_ffn m ρ trivial,
    frame_kernel_up, frame_ideal_up, frame_reference_up, frame_kernel_in, frame_ideal_in, frame_reference_in, frame_kernel_fwd, frame_ideal_fwd, frame_reference_fwd,
    preserves, algebraic, trivial, algebraic_dw, trivial, algebraic_down, trivial, algebraic_ffn,
    trivial, algebraic_up, trivial, algebraic_in, trivial, algebraic_fwd⟩

end Cert.Proof

end
